-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_SsdProject (m : (ℓ : Loc Cert.SsdProject.nD Cert.SsdProject.τ Cert.SsdProject.sig) → Buf (Elt Bits) ℓ) : Prop :=
  True

def Pre_SsdProjectIdeal (m : (ℓ : Loc Cert.SsdProjectIdeal.nD Cert.SsdProjectIdeal.τ Cert.SsdProjectIdeal.sig) → Buf (Elt Ideal) ℓ) : Prop :=
  True

def Pre_SsdProjectReferenceIdeal (m : (ℓ : Loc Cert.SsdProjectReferenceIdeal.nD Cert.SsdProjectReferenceIdeal.τ Cert.SsdProjectReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_NsaOut (m : (ℓ : Loc Cert.NsaOut.nD Cert.NsaOut.τ Cert.NsaOut.sig) → Buf (Elt Bits) ℓ) : Prop :=
  True

def Pre_NsaOutIdeal (m : (ℓ : Loc Cert.NsaOutIdeal.nD Cert.NsaOutIdeal.τ Cert.NsaOutIdeal.sig) → Buf (Elt Ideal) ℓ) : Prop :=
  True

def Pre_NsaOutReferenceIdeal (m : (ℓ : Loc Cert.NsaOutReferenceIdeal.nD Cert.NsaOutReferenceIdeal.τ Cert.NsaOutReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_SsdSample (m : (ℓ : Loc Cert.SsdSample.nD Cert.SsdSample.τ Cert.SsdSample.sig) → Buf (Elt Bits) ℓ) : Prop :=
  True

def Pre_SsdSampleIdeal (m : (ℓ : Loc Cert.SsdSampleIdeal.nD Cert.SsdSampleIdeal.τ Cert.SsdSampleIdeal.sig) → Buf (Elt Ideal) ℓ) : Prop :=
  True

def Pre_SsdSampleReferenceIdeal (m : (ℓ : Loc Cert.SsdSampleReferenceIdeal.nD Cert.SsdSampleReferenceIdeal.τ Cert.SsdSampleReferenceIdeal.sig) → Buf (Elt Ideal) ℓ) : Prop :=
  True

def Pre_NsaProject (m : (ℓ : Loc Cert.NsaProject.nD Cert.NsaProject.τ Cert.NsaProject.sig) → Buf (Elt Bits) ℓ) : Prop :=
  True

def Pre_NsaProjectIdeal (m : (ℓ : Loc Cert.NsaProjectIdeal.nD Cert.NsaProjectIdeal.τ Cert.NsaProjectIdeal.sig) → Buf (Elt Ideal) ℓ) : Prop :=
  True

def Pre_NsaProjectIdeal_finite [hPre_finite : Cert.Pre_finite.Facts] (m : (ℓ : Loc Cert.NsaProjectIdeal.nD Cert.NsaProjectIdeal.τ Cert.NsaProjectIdeal.sig) → Buf (Elt Ideal) ℓ) : Prop :=
  ∀ c : Dev Cert.NsaProjectIdeal.nD,
    (Cert.Pre_finite.fn (F := Ideal) (m ((c.tc : Thread Cert.NsaProjectIdeal.nD Cert.NsaProjectIdeal.τ).loc Cert.NsaProjectIdeal.main_arg0)) (m ((c.tc : Thread Cert.NsaProjectIdeal.nD Cert.NsaProjectIdeal.τ).loc Cert.NsaProjectIdeal.main_arg1)) (m ((c.tc : Thread Cert.NsaProjectIdeal.nD Cert.NsaProjectIdeal.τ).loc Cert.NsaProjectIdeal.main_arg2)) (m ((c.tc : Thread Cert.NsaProjectIdeal.nD Cert.NsaProjectIdeal.τ).loc Cert.NsaProjectIdeal.main_arg3))) = (fun _ => 1#1)

def Pre_NsaProjectReferenceIdeal (m : (ℓ : Loc Cert.NsaProjectReferenceIdeal.nD Cert.NsaProjectReferenceIdeal.τ Cert.NsaProjectReferenceIdeal.sig) → Buf (Elt Ideal) ℓ) : Prop :=
  True

def Pre_NsaProjectReferenceIdeal_finite [hPre_finite : Cert.Pre_finite.Facts] (m : (ℓ : Loc Cert.NsaProjectReferenceIdeal.nD Cert.NsaProjectReferenceIdeal.τ Cert.NsaProjectReferenceIdeal.sig) → Buf (Elt Ideal) ℓ) : Prop :=
  ∀ c : Dev Cert.NsaProjectReferenceIdeal.nD,
    (Cert.Pre_finite.fn (F := Ideal) (m ((c.tc : Thread Cert.NsaProjectReferenceIdeal.nD Cert.NsaProjectReferenceIdeal.τ).loc Cert.NsaProjectReferenceIdeal.main_arg0)) (m ((c.tc : Thread Cert.NsaProjectReferenceIdeal.nD Cert.NsaProjectReferenceIdeal.τ).loc Cert.NsaProjectReferenceIdeal.main_arg1)) (m ((c.tc : Thread Cert.NsaProjectReferenceIdeal.nD Cert.NsaProjectReferenceIdeal.τ).loc Cert.NsaProjectReferenceIdeal.main_arg2)) (m ((c.tc : Thread Cert.NsaProjectReferenceIdeal.nD Cert.NsaProjectReferenceIdeal.τ).loc Cert.NsaProjectReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_SsdProject [hSsdProject : Cert.SsdProject.Facts] : Prop :=
  ∀ (m : (ℓ : Loc Cert.SsdProject.nD Cert.SsdProject.τ Cert.SsdProject.sig) → Buf (Elt Bits) ℓ) (g : Dev Cert.SsdProject.nD → PrngReg), Pre_SsdProject m →
    θ_run (Cert.SsdProject.defs (F := Bits)) (onTc (τ := Cert.SsdProject.τ) (Cert.SsdProject.main (F := Bits))) ⟨m, fun _ => 0, g⟩ (fun r => (∀ c : Dev Cert.SsdProject.nD,
      r.2.mem ((c.tc : Thread Cert.SsdProject.nD Cert.SsdProject.τ).loc Cert.SsdProject.main_arg0) = m ((c.tc : Thread Cert.SsdProject.nD Cert.SsdProject.τ).loc Cert.SsdProject.main_arg0)
      ∧ r.2.mem ((c.tc : Thread Cert.SsdProject.nD Cert.SsdProject.τ).loc Cert.SsdProject.main_arg1) = m ((c.tc : Thread Cert.SsdProject.nD Cert.SsdProject.τ).loc Cert.SsdProject.main_arg1)
      ∧ r.2.mem ((c.tc : Thread Cert.SsdProject.nD Cert.SsdProject.τ).loc Cert.SsdProject.main_arg2) = m ((c.tc : Thread Cert.SsdProject.nD Cert.SsdProject.τ).loc Cert.SsdProject.main_arg2)
      ∧ r.2.mem ((c.tc : Thread Cert.SsdProject.nD Cert.SsdProject.τ).loc Cert.SsdProject.main_arg3) = m ((c.tc : Thread Cert.SsdProject.nD Cert.SsdProject.τ).loc Cert.SsdProject.main_arg3))
      ∧ r.2.sem = fun _ => 0)

def quiescent_SsdProjectIdeal [hSsdProjectIdeal : Cert.SsdProjectIdeal.Facts] : Prop :=
  ∀ (m : (ℓ : Loc Cert.SsdProjectIdeal.nD Cert.SsdProjectIdeal.τ Cert.SsdProjectIdeal.sig) → Buf (Elt Ideal) ℓ) (g : Dev Cert.SsdProjectIdeal.nD → PrngReg), Pre_SsdProjectIdeal m →
    θ_run (Cert.SsdProjectIdeal.defs (F := Ideal)) (onTc (τ := Cert.SsdProjectIdeal.τ) (Cert.SsdProjectIdeal.main (F := Ideal))) ⟨m, fun _ => 0, g⟩ (fun r => (∀ c : Dev Cert.SsdProjectIdeal.nD,
      r.2.mem ((c.tc : Thread Cert.SsdProjectIdeal.nD Cert.SsdProjectIdeal.τ).loc Cert.SsdProjectIdeal.main_arg0) = m ((c.tc : Thread Cert.SsdProjectIdeal.nD Cert.SsdProjectIdeal.τ).loc Cert.SsdProjectIdeal.main_arg0)
      ∧ r.2.mem ((c.tc : Thread Cert.SsdProjectIdeal.nD Cert.SsdProjectIdeal.τ).loc Cert.SsdProjectIdeal.main_arg1) = m ((c.tc : Thread Cert.SsdProjectIdeal.nD Cert.SsdProjectIdeal.τ).loc Cert.SsdProjectIdeal.main_arg1)
      ∧ r.2.mem ((c.tc : Thread Cert.SsdProjectIdeal.nD Cert.SsdProjectIdeal.τ).loc Cert.SsdProjectIdeal.main_arg2) = m ((c.tc : Thread Cert.SsdProjectIdeal.nD Cert.SsdProjectIdeal.τ).loc Cert.SsdProjectIdeal.main_arg2)
      ∧ r.2.mem ((c.tc : Thread Cert.SsdProjectIdeal.nD Cert.SsdProjectIdeal.τ).loc Cert.SsdProjectIdeal.main_arg3) = m ((c.tc : Thread Cert.SsdProjectIdeal.nD Cert.SsdProjectIdeal.τ).loc Cert.SsdProjectIdeal.main_arg3))
      ∧ r.2.sem = fun _ => 0)

def quiescent_SsdProjectReferenceIdeal [hSsdProjectReferenceIdeal : Cert.SsdProjectReferenceIdeal.Facts] : Prop :=
  ∀ (m : (ℓ : Loc Cert.SsdProjectReferenceIdeal.nD Cert.SsdProjectReferenceIdeal.τ Cert.SsdProjectReferenceIdeal.sig) → Buf (Elt Ideal) ℓ) (g : Dev Cert.SsdProjectReferenceIdeal.nD → PrngReg), Pre_SsdProjectReferenceIdeal m →
    θ_run (Cert.SsdProjectReferenceIdeal.defs (F := Ideal)) (onTc (τ := Cert.SsdProjectReferenceIdeal.τ) (Cert.SsdProjectReferenceIdeal.main (F := Ideal))) ⟨m, fun _ => 0, g⟩ (fun r => (∀ c : Dev Cert.SsdProjectReferenceIdeal.nD,
      r.2.mem ((c.tc : Thread Cert.SsdProjectReferenceIdeal.nD Cert.SsdProjectReferenceIdeal.τ).loc Cert.SsdProjectReferenceIdeal.main_arg0) = m ((c.tc : Thread Cert.SsdProjectReferenceIdeal.nD Cert.SsdProjectReferenceIdeal.τ).loc Cert.SsdProjectReferenceIdeal.main_arg0)
      ∧ r.2.mem ((c.tc : Thread Cert.SsdProjectReferenceIdeal.nD Cert.SsdProjectReferenceIdeal.τ).loc Cert.SsdProjectReferenceIdeal.main_arg1) = m ((c.tc : Thread Cert.SsdProjectReferenceIdeal.nD Cert.SsdProjectReferenceIdeal.τ).loc Cert.SsdProjectReferenceIdeal.main_arg1)
      ∧ r.2.mem ((c.tc : Thread Cert.SsdProjectReferenceIdeal.nD Cert.SsdProjectReferenceIdeal.τ).loc Cert.SsdProjectReferenceIdeal.main_arg2) = m ((c.tc : Thread Cert.SsdProjectReferenceIdeal.nD Cert.SsdProjectReferenceIdeal.τ).loc Cert.SsdProjectReferenceIdeal.main_arg2)
      ∧ r.2.mem ((c.tc : Thread Cert.SsdProjectReferenceIdeal.nD Cert.SsdProjectReferenceIdeal.τ).loc Cert.SsdProjectReferenceIdeal.main_arg3) = m ((c.tc : Thread Cert.SsdProjectReferenceIdeal.nD Cert.SsdProjectReferenceIdeal.τ).loc Cert.SsdProjectReferenceIdeal.main_arg3))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3)
      ∧ r.2.mem ((c.tc : Thread Cert.SsdOutReferenceIdeal.nD Cert.SsdOutReferenceIdeal.τ).loc Cert.SsdOutReferenceIdeal.main_arg4) = m ((c.tc : Thread Cert.SsdOutReferenceIdeal.nD Cert.SsdOutReferenceIdeal.τ).loc Cert.SsdOutReferenceIdeal.main_arg4)
      ∧ r.2.mem ((c.tc : Thread Cert.SsdOutReferenceIdeal.nD Cert.SsdOutReferenceIdeal.τ).loc Cert.SsdOutReferenceIdeal.main_arg5) = m ((c.tc : Thread Cert.SsdOutReferenceIdeal.nD Cert.SsdOutReferenceIdeal.τ).loc Cert.SsdOutReferenceIdeal.main_arg5))
      ∧ r.2.sem = fun _ => 0)

def quiescent_NsaOut [hNsaOut : Cert.NsaOut.Facts] : Prop :=
  ∀ (m : (ℓ : Loc Cert.NsaOut.nD Cert.NsaOut.τ Cert.NsaOut.sig) → Buf (Elt Bits) ℓ) (g : Dev Cert.NsaOut.nD → PrngReg), Pre_NsaOut m →
    θ_run (Cert.NsaOut.defs (F := Bits)) (onTc (τ := Cert.NsaOut.τ) (Cert.NsaOut.main (F := Bits))) ⟨m, fun _ => 0, g⟩ (fun r => (∀ c : Dev Cert.NsaOut.nD,
      r.2.mem ((c.tc : Thread Cert.NsaOut.nD Cert.NsaOut.τ).loc Cert.NsaOut.main_arg0) = m ((c.tc : Thread Cert.NsaOut.nD Cert.NsaOut.τ).loc Cert.NsaOut.main_arg0)
      ∧ r.2.mem ((c.tc : Thread Cert.NsaOut.nD Cert.NsaOut.τ).loc Cert.NsaOut.main_arg1) = m ((c.tc : Thread Cert.NsaOut.nD Cert.NsaOut.τ).loc Cert.NsaOut.main_arg1)
      ∧ r.2.mem ((c.tc : Thread Cert.NsaOut.nD Cert.NsaOut.τ).loc Cert.NsaOut.main_arg2) = m ((c.tc : Thread Cert.NsaOut.nD Cert.NsaOut.τ).loc Cert.NsaOut.main_arg2)
      ∧ r.2.mem ((c.tc : Thread Cert.NsaOut.nD Cert.NsaOut.τ).loc Cert.NsaOut.main_arg3) = m ((c.tc : Thread Cert.NsaOut.nD Cert.NsaOut.τ).loc Cert.NsaOut.main_arg3)
      ∧ r.2.mem ((c.tc : Thread Cert.NsaOut.nD Cert.NsaOut.τ).loc Cert.NsaOut.main_arg4) = m ((c.tc : Thread Cert.NsaOut.nD Cert.NsaOut.τ).loc Cert.NsaOut.main_arg4)
      ∧ r.2.mem ((c.tc : Thread Cert.NsaOut.nD Cert.NsaOut.τ).loc Cert.NsaOut.main_arg5) = m ((c.tc : Thread Cert.NsaOut.nD Cert.NsaOut.τ).loc Cert.NsaOut.main_arg5))
      ∧ r.2.sem = fun _ => 0)

def quiescent_NsaOutIdeal [hNsaOutIdeal : Cert.NsaOutIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
      ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
      ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3)
      ∧ r.2.mem ((c.tc : Thread Cert.NsaOutIdeal.nD Cert.NsaOutIdeal.τ).loc Cert.NsaOutIdeal.main_arg4) = m ((c.tc : Thread Cert.NsaOutIdeal.nD Cert.NsaOutIdeal.τ).loc Cert.NsaOutIdeal.main_arg4)
      ∧ r.2.mem ((c.tc : Thread Cert.NsaOutIdeal.nD Cert.NsaOutIdeal.τ).loc Cert.NsaOutIdeal.main_arg5) = m ((c.tc : Thread Cert.NsaOutIdeal.nD Cert.NsaOutIdeal.τ).loc Cert.NsaOutIdeal.main_arg5))
      ∧ r.2.sem = fun _ => 0)

def quiescent_NsaOutReferenceIdeal [hNsaOutReferenceIdeal : Cert.NsaOutReferenceIdeal.Facts] : Prop :=
  ∀ (m : (ℓ : Loc Cert.NsaOutReferenceIdeal.nD Cert.NsaOutReferenceIdeal.τ Cert.NsaOutReferenceIdeal.sig) → Buf (Elt Ideal) ℓ) (g : Dev Cert.NsaOutReferenceIdeal.nD → PrngReg), Pre_NsaOutReferenceIdeal m →
    θ_run (Cert.NsaOutReferenceIdeal.defs (F := Ideal)) (onTc (τ := Cert.NsaOutReferenceIdeal.τ) (Cert.NsaOutReferenceIdeal.main (F := Ideal))) ⟨m, fun _ => 0, g⟩ (fun r => (∀ c : Dev Cert.NsaOutReferenceIdeal.nD,
      r.2.mem ((c.tc : Thread Cert.NsaOutReferenceIdeal.nD Cert.NsaOutReferenceIdeal.τ).loc Cert.NsaOutReferenceIdeal.main_arg0) = m ((c.tc : Thread Cert.NsaOutReferenceIdeal.nD Cert.NsaOutReferenceIdeal.τ).loc Cert.NsaOutReferenceIdeal.main_arg0)
      ∧ r.2.mem ((c.tc : Thread Cert.NsaOutReferenceIdeal.nD Cert.NsaOutReferenceIdeal.τ).loc Cert.NsaOutReferenceIdeal.main_arg1) = m ((c.tc : Thread Cert.NsaOutReferenceIdeal.nD Cert.NsaOutReferenceIdeal.τ).loc Cert.NsaOutReferenceIdeal.main_arg1)
      ∧ r.2.mem ((c.tc : Thread Cert.NsaOutReferenceIdeal.nD Cert.NsaOutReferenceIdeal.τ).loc Cert.NsaOutReferenceIdeal.main_arg2) = m ((c.tc : Thread Cert.NsaOutReferenceIdeal.nD Cert.NsaOutReferenceIdeal.τ).loc Cert.NsaOutReferenceIdeal.main_arg2)
      ∧ r.2.mem ((c.tc : Thread Cert.NsaOutReferenceIdeal.nD Cert.NsaOutReferenceIdeal.τ).loc Cert.NsaOutReferenceIdeal.main_arg3) = m ((c.tc : Thread Cert.NsaOutReferenceIdeal.nD Cert.NsaOutReferenceIdeal.τ).loc Cert.NsaOutReferenceIdeal.main_arg3)
      ∧ r.2.mem ((c.tc : Thread Cert.NsaOutReferenceIdeal.nD Cert.NsaOutReferenceIdeal.τ).loc Cert.NsaOutReferenceIdeal.main_arg4) = m ((c.tc : Thread Cert.NsaOutReferenceIdeal.nD Cert.NsaOutReferenceIdeal.τ).loc Cert.NsaOutReferenceIdeal.main_arg4)
      ∧ r.2.mem ((c.tc : Thread Cert.NsaOutReferenceIdeal.nD Cert.NsaOutReferenceIdeal.τ).loc Cert.NsaOutReferenceIdeal.main_arg5) = m ((c.tc : Thread Cert.NsaOutReferenceIdeal.nD Cert.NsaOutReferenceIdeal.τ).loc Cert.NsaOutReferenceIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8))
      ∧ r.2.sem = fun _ => 0)

def quiescent_SsdSample [hSsdSample : Cert.SsdSample.Facts] : Prop :=
  ∀ (m : (ℓ : Loc Cert.SsdSample.nD Cert.SsdSample.τ Cert.SsdSample.sig) → Buf (Elt Bits) ℓ) (g : Dev Cert.SsdSample.nD → PrngReg), Pre_SsdSample m →
    θ_run (Cert.SsdSample.defs (F := Bits)) (onTc (τ := Cert.SsdSample.τ) (Cert.SsdSample.main (F := Bits))) ⟨m, fun _ => 0, g⟩ (fun r => (∀ c : Dev Cert.SsdSample.nD,
      r.2.mem ((c.tc : Thread Cert.SsdSample.nD Cert.SsdSample.τ).loc Cert.SsdSample.main_arg0) = m ((c.tc : Thread Cert.SsdSample.nD Cert.SsdSample.τ).loc Cert.SsdSample.main_arg0)
      ∧ r.2.mem ((c.tc : Thread Cert.SsdSample.nD Cert.SsdSample.τ).loc Cert.SsdSample.main_arg1) = m ((c.tc : Thread Cert.SsdSample.nD Cert.SsdSample.τ).loc Cert.SsdSample.main_arg1)
      ∧ r.2.mem ((c.tc : Thread Cert.SsdSample.nD Cert.SsdSample.τ).loc Cert.SsdSample.main_arg2) = m ((c.tc : Thread Cert.SsdSample.nD Cert.SsdSample.τ).loc Cert.SsdSample.main_arg2)
      ∧ r.2.mem ((c.tc : Thread Cert.SsdSample.nD Cert.SsdSample.τ).loc Cert.SsdSample.main_arg3) = m ((c.tc : Thread Cert.SsdSample.nD Cert.SsdSample.τ).loc Cert.SsdSample.main_arg3))
      ∧ r.2.sem = fun _ => 0)

def quiescent_SsdSampleIdeal [hSsdSampleIdeal : Cert.SsdSampleIdeal.Facts] : Prop :=
  ∀ (m : (ℓ : Loc Cert.SsdSampleIdeal.nD Cert.SsdSampleIdeal.τ Cert.SsdSampleIdeal.sig) → Buf (Elt Ideal) ℓ) (g : Dev Cert.SsdSampleIdeal.nD → PrngReg), Pre_SsdSampleIdeal m →
    θ_run (Cert.SsdSampleIdeal.defs (F := Ideal)) (onTc (τ := Cert.SsdSampleIdeal.τ) (Cert.SsdSampleIdeal.main (F := Ideal))) ⟨m, fun _ => 0, g⟩ (fun r => (∀ c : Dev Cert.SsdSampleIdeal.nD,
      r.2.mem ((c.tc : Thread Cert.SsdSampleIdeal.nD Cert.SsdSampleIdeal.τ).loc Cert.SsdSampleIdeal.main_arg0) = m ((c.tc : Thread Cert.SsdSampleIdeal.nD Cert.SsdSampleIdeal.τ).loc Cert.SsdSampleIdeal.main_arg0)
      ∧ r.2.mem ((c.tc : Thread Cert.SsdSampleIdeal.nD Cert.SsdSampleIdeal.τ).loc Cert.SsdSampleIdeal.main_arg1) = m ((c.tc : Thread Cert.SsdSampleIdeal.nD Cert.SsdSampleIdeal.τ).loc Cert.SsdSampleIdeal.main_arg1)
      ∧ r.2.mem ((c.tc : Thread Cert.SsdSampleIdeal.nD Cert.SsdSampleIdeal.τ).loc Cert.SsdSampleIdeal.main_arg2) = m ((c.tc : Thread Cert.SsdSampleIdeal.nD Cert.SsdSampleIdeal.τ).loc Cert.SsdSampleIdeal.main_arg2)
      ∧ r.2.mem ((c.tc : Thread Cert.SsdSampleIdeal.nD Cert.SsdSampleIdeal.τ).loc Cert.SsdSampleIdeal.main_arg3) = m ((c.tc : Thread Cert.SsdSampleIdeal.nD Cert.SsdSampleIdeal.τ).loc Cert.SsdSampleIdeal.main_arg3))
      ∧ r.2.sem = fun _ => 0)

def quiescent_SsdSampleReferenceIdeal [hSsdSampleReferenceIdeal : Cert.SsdSampleReferenceIdeal.Facts] : Prop :=
  ∀ (m : (ℓ : Loc Cert.SsdSampleReferenceIdeal.nD Cert.SsdSampleReferenceIdeal.τ Cert.SsdSampleReferenceIdeal.sig) → Buf (Elt Ideal) ℓ) (g : Dev Cert.SsdSampleReferenceIdeal.nD → PrngReg), Pre_SsdSampleReferenceIdeal m →
    θ_run (Cert.SsdSampleReferenceIdeal.defs (F := Ideal)) (onTc (τ := Cert.SsdSampleReferenceIdeal.τ) (Cert.SsdSampleReferenceIdeal.main (F := Ideal))) ⟨m, fun _ => 0, g⟩ (fun r => (∀ c : Dev Cert.SsdSampleReferenceIdeal.nD,
      r.2.mem ((c.tc : Thread Cert.SsdSampleReferenceIdeal.nD Cert.SsdSampleReferenceIdeal.τ).loc Cert.SsdSampleReferenceIdeal.main_arg0) = m ((c.tc : Thread Cert.SsdSampleReferenceIdeal.nD Cert.SsdSampleReferenceIdeal.τ).loc Cert.SsdSampleReferenceIdeal.main_arg0)
      ∧ r.2.mem ((c.tc : Thread Cert.SsdSampleReferenceIdeal.nD Cert.SsdSampleReferenceIdeal.τ).loc Cert.SsdSampleReferenceIdeal.main_arg1) = m ((c.tc : Thread Cert.SsdSampleReferenceIdeal.nD Cert.SsdSampleReferenceIdeal.τ).loc Cert.SsdSampleReferenceIdeal.main_arg1)
      ∧ r.2.mem ((c.tc : Thread Cert.SsdSampleReferenceIdeal.nD Cert.SsdSampleReferenceIdeal.τ).loc Cert.SsdSampleReferenceIdeal.main_arg2) = m ((c.tc : Thread Cert.SsdSampleReferenceIdeal.nD Cert.SsdSampleReferenceIdeal.τ).loc Cert.SsdSampleReferenceIdeal.main_arg2)
      ∧ r.2.mem ((c.tc : Thread Cert.SsdSampleReferenceIdeal.nD Cert.SsdSampleReferenceIdeal.τ).loc Cert.SsdSampleReferenceIdeal.main_arg3) = m ((c.tc : Thread Cert.SsdSampleReferenceIdeal.nD Cert.SsdSampleReferenceIdeal.τ).loc Cert.SsdSampleReferenceIdeal.main_arg3))
      ∧ r.2.sem = fun _ => 0)

def quiescent_NsaProject [hNsaProject : Cert.NsaProject.Facts] : Prop :=
  ∀ (m : (ℓ : Loc Cert.NsaProject.nD Cert.NsaProject.τ Cert.NsaProject.sig) → Buf (Elt Bits) ℓ) (g : Dev Cert.NsaProject.nD → PrngReg), Pre_NsaProject m →
    θ_run (Cert.NsaProject.defs (F := Bits)) (onTc (τ := Cert.NsaProject.τ) (Cert.NsaProject.main (F := Bits))) ⟨m, fun _ => 0, g⟩ (fun r => (∀ c : Dev Cert.NsaProject.nD,
      r.2.mem ((c.tc : Thread Cert.NsaProject.nD Cert.NsaProject.τ).loc Cert.NsaProject.main_arg0) = m ((c.tc : Thread Cert.NsaProject.nD Cert.NsaProject.τ).loc Cert.NsaProject.main_arg0)
      ∧ r.2.mem ((c.tc : Thread Cert.NsaProject.nD Cert.NsaProject.τ).loc Cert.NsaProject.main_arg1) = m ((c.tc : Thread Cert.NsaProject.nD Cert.NsaProject.τ).loc Cert.NsaProject.main_arg1)
      ∧ r.2.mem ((c.tc : Thread Cert.NsaProject.nD Cert.NsaProject.τ).loc Cert.NsaProject.main_arg2) = m ((c.tc : Thread Cert.NsaProject.nD Cert.NsaProject.τ).loc Cert.NsaProject.main_arg2)
      ∧ r.2.mem ((c.tc : Thread Cert.NsaProject.nD Cert.NsaProject.τ).loc Cert.NsaProject.main_arg3) = m ((c.tc : Thread Cert.NsaProject.nD Cert.NsaProject.τ).loc Cert.NsaProject.main_arg3))
      ∧ r.2.sem = fun _ => 0)

def quiescent_NsaProjectIdeal [hNsaProjectIdeal : Cert.NsaProjectIdeal.Facts] : Prop :=
  ∀ (m : (ℓ : Loc Cert.NsaProjectIdeal.nD Cert.NsaProjectIdeal.τ Cert.NsaProjectIdeal.sig) → Buf (Elt Ideal) ℓ) (g : Dev Cert.NsaProjectIdeal.nD → PrngReg), Pre_NsaProjectIdeal m →
    θ_run (Cert.NsaProjectIdeal.defs (F := Ideal)) (onTc (τ := Cert.NsaProjectIdeal.τ) (Cert.NsaProjectIdeal.main (F := Ideal))) ⟨m, fun _ => 0, g⟩ (fun r => (∀ c : Dev Cert.NsaProjectIdeal.nD,
      r.2.mem ((c.tc : Thread Cert.NsaProjectIdeal.nD Cert.NsaProjectIdeal.τ).loc Cert.NsaProjectIdeal.main_arg0) = m ((c.tc : Thread Cert.NsaProjectIdeal.nD Cert.NsaProjectIdeal.τ).loc Cert.NsaProjectIdeal.main_arg0)
      ∧ r.2.mem ((c.tc : Thread Cert.NsaProjectIdeal.nD Cert.NsaProjectIdeal.τ).loc Cert.NsaProjectIdeal.main_arg1) = m ((c.tc : Thread Cert.NsaProjectIdeal.nD Cert.NsaProjectIdeal.τ).loc Cert.NsaProjectIdeal.main_arg1)
      ∧ r.2.mem ((c.tc : Thread Cert.NsaProjectIdeal.nD Cert.NsaProjectIdeal.τ).loc Cert.NsaProjectIdeal.main_arg2) = m ((c.tc : Thread Cert.NsaProjectIdeal.nD Cert.NsaProjectIdeal.τ).loc Cert.NsaProjectIdeal.main_arg2)
      ∧ r.2.mem ((c.tc : Thread Cert.NsaProjectIdeal.nD Cert.NsaProjectIdeal.τ).loc Cert.NsaProjectIdeal.main_arg3) = m ((c.tc : Thread Cert.NsaProjectIdeal.nD Cert.NsaProjectIdeal.τ).loc Cert.NsaProjectIdeal.main_arg3))
      ∧ r.2.sem = fun _ => 0)

def quiescent_NsaProjectIdeal_pre_finite [hNsaProjectIdeal : Cert.NsaProjectIdeal.Facts] [hPre_finite : Cert.Pre_finite.Facts] : Prop :=
  ∀ (m : (ℓ : Loc Cert.NsaProjectIdeal.nD Cert.NsaProjectIdeal.τ Cert.NsaProjectIdeal.sig) → Buf (Elt Ideal) ℓ) (g : Dev Cert.NsaProjectIdeal.nD → PrngReg), Pre_NsaProjectIdeal_finite m →
    θ_run (Cert.NsaProjectIdeal.defs (F := Ideal)) (onTc (τ := Cert.NsaProjectIdeal.τ) (Cert.NsaProjectIdeal.main (F := Ideal))) ⟨m, fun _ => 0, g⟩ (fun r => (∀ c : Dev Cert.NsaProjectIdeal.nD,
      r.2.mem ((c.tc : Thread Cert.NsaProjectIdeal.nD Cert.NsaProjectIdeal.τ).loc Cert.NsaProjectIdeal.main_arg0) = m ((c.tc : Thread Cert.NsaProjectIdeal.nD Cert.NsaProjectIdeal.τ).loc Cert.NsaProjectIdeal.main_arg0)
      ∧ r.2.mem ((c.tc : Thread Cert.NsaProjectIdeal.nD Cert.NsaProjectIdeal.τ).loc Cert.NsaProjectIdeal.main_arg1) = m ((c.tc : Thread Cert.NsaProjectIdeal.nD Cert.NsaProjectIdeal.τ).loc Cert.NsaProjectIdeal.main_arg1)
      ∧ r.2.mem ((c.tc : Thread Cert.NsaProjectIdeal.nD Cert.NsaProjectIdeal.τ).loc Cert.NsaProjectIdeal.main_arg2) = m ((c.tc : Thread Cert.NsaProjectIdeal.nD Cert.NsaProjectIdeal.τ).loc Cert.NsaProjectIdeal.main_arg2)
      ∧ r.2.mem ((c.tc : Thread Cert.NsaProjectIdeal.nD Cert.NsaProjectIdeal.τ).loc Cert.NsaProjectIdeal.main_arg3) = m ((c.tc : Thread Cert.NsaProjectIdeal.nD Cert.NsaProjectIdeal.τ).loc Cert.NsaProjectIdeal.main_arg3))
      ∧ r.2.sem = fun _ => 0)

def quiescent_NsaProjectReferenceIdeal [hNsaProjectReferenceIdeal : Cert.NsaProjectReferenceIdeal.Facts] : Prop :=
  ∀ (m : (ℓ : Loc Cert.NsaProjectReferenceIdeal.nD Cert.NsaProjectReferenceIdeal.τ Cert.NsaProjectReferenceIdeal.sig) → Buf (Elt Ideal) ℓ) (g : Dev Cert.NsaProjectReferenceIdeal.nD → PrngReg), Pre_NsaProjectReferenceIdeal m →
    θ_run (Cert.NsaProjectReferenceIdeal.defs (F := Ideal)) (onTc (τ := Cert.NsaProjectReferenceIdeal.τ) (Cert.NsaProjectReferenceIdeal.main (F := Ideal))) ⟨m, fun _ => 0, g⟩ (fun r => (∀ c : Dev Cert.NsaProjectReferenceIdeal.nD,
      r.2.mem ((c.tc : Thread Cert.NsaProjectReferenceIdeal.nD Cert.NsaProjectReferenceIdeal.τ).loc Cert.NsaProjectReferenceIdeal.main_arg0) = m ((c.tc : Thread Cert.NsaProjectReferenceIdeal.nD Cert.NsaProjectReferenceIdeal.τ).loc Cert.NsaProjectReferenceIdeal.main_arg0)
      ∧ r.2.mem ((c.tc : Thread Cert.NsaProjectReferenceIdeal.nD Cert.NsaProjectReferenceIdeal.τ).loc Cert.NsaProjectReferenceIdeal.main_arg1) = m ((c.tc : Thread Cert.NsaProjectReferenceIdeal.nD Cert.NsaProjectReferenceIdeal.τ).loc Cert.NsaProjectReferenceIdeal.main_arg1)
      ∧ r.2.mem ((c.tc : Thread Cert.NsaProjectReferenceIdeal.nD Cert.NsaProjectReferenceIdeal.τ).loc Cert.NsaProjectReferenceIdeal.main_arg2) = m ((c.tc : Thread Cert.NsaProjectReferenceIdeal.nD Cert.NsaProjectReferenceIdeal.τ).loc Cert.NsaProjectReferenceIdeal.main_arg2)
      ∧ r.2.mem ((c.tc : Thread Cert.NsaProjectReferenceIdeal.nD Cert.NsaProjectReferenceIdeal.τ).loc Cert.NsaProjectReferenceIdeal.main_arg3) = m ((c.tc : Thread Cert.NsaProjectReferenceIdeal.nD Cert.NsaProjectReferenceIdeal.τ).loc Cert.NsaProjectReferenceIdeal.main_arg3))
      ∧ r.2.sem = fun _ => 0)

def quiescent_NsaProjectReferenceIdeal_pre_finite [hNsaProjectReferenceIdeal : Cert.NsaProjectReferenceIdeal.Facts] [hPre_finite : Cert.Pre_finite.Facts] : Prop :=
  ∀ (m : (ℓ : Loc Cert.NsaProjectReferenceIdeal.nD Cert.NsaProjectReferenceIdeal.τ Cert.NsaProjectReferenceIdeal.sig) → Buf (Elt Ideal) ℓ) (g : Dev Cert.NsaProjectReferenceIdeal.nD → PrngReg), Pre_NsaProjectReferenceIdeal_finite m →
    θ_run (Cert.NsaProjectReferenceIdeal.defs (F := Ideal)) (onTc (τ := Cert.NsaProjectReferenceIdeal.τ) (Cert.NsaProjectReferenceIdeal.main (F := Ideal))) ⟨m, fun _ => 0, g⟩ (fun r => (∀ c : Dev Cert.NsaProjectReferenceIdeal.nD,
      r.2.mem ((c.tc : Thread Cert.NsaProjectReferenceIdeal.nD Cert.NsaProjectReferenceIdeal.τ).loc Cert.NsaProjectReferenceIdeal.main_arg0) = m ((c.tc : Thread Cert.NsaProjectReferenceIdeal.nD Cert.NsaProjectReferenceIdeal.τ).loc Cert.NsaProjectReferenceIdeal.main_arg0)
      ∧ r.2.mem ((c.tc : Thread Cert.NsaProjectReferenceIdeal.nD Cert.NsaProjectReferenceIdeal.τ).loc Cert.NsaProjectReferenceIdeal.main_arg1) = m ((c.tc : Thread Cert.NsaProjectReferenceIdeal.nD Cert.NsaProjectReferenceIdeal.τ).loc Cert.NsaProjectReferenceIdeal.main_arg1)
      ∧ r.2.mem ((c.tc : Thread Cert.NsaProjectReferenceIdeal.nD Cert.NsaProjectReferenceIdeal.τ).loc Cert.NsaProjectReferenceIdeal.main_arg2) = m ((c.tc : Thread Cert.NsaProjectReferenceIdeal.nD Cert.NsaProjectReferenceIdeal.τ).loc Cert.NsaProjectReferenceIdeal.main_arg2)
      ∧ r.2.mem ((c.tc : Thread Cert.NsaProjectReferenceIdeal.nD Cert.NsaProjectReferenceIdeal.τ).loc Cert.NsaProjectReferenceIdeal.main_arg3) = m ((c.tc : Thread Cert.NsaProjectReferenceIdeal.nD Cert.NsaProjectReferenceIdeal.τ).loc Cert.NsaProjectReferenceIdeal.main_arg3))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "forced" .f32 0x7149F2CA#32 ⊤

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)) →
    ∃ (v0 : (c : Dev Cert.FfnKernelIdeal.nD) → Buf (Elt Ideal) ((c.tc : Thread Cert.FfnKernelIdeal.nD Cert.FfnKernelIdeal.τ).loc Cert.FfnKernelIdeal.main_v10)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v43) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_SsdProject_SsdProjectIdeal : Prop :=
  True

def algebraic_SsdProjectIdeal_SsdProjectReferenceIdeal [hSsdProjectIdeal : Cert.SsdProjectIdeal.Facts] [hSsdProjectReferenceIdeal : Cert.SsdProjectReferenceIdeal.Facts] : Prop :=
  ∀ (m : (ℓ : Loc Cert.SsdProjectIdeal.nD Cert.SsdProjectIdeal.τ Cert.SsdProjectIdeal.sig) → Buf (Elt Ideal) ℓ) (g : Dev Cert.SsdProjectIdeal.nD → PrngReg)
    (m' : (ℓ : Loc Cert.SsdProjectReferenceIdeal.nD Cert.SsdProjectReferenceIdeal.τ Cert.SsdProjectReferenceIdeal.sig) → Buf (Elt Ideal) ℓ) (g' : Dev Cert.SsdProjectReferenceIdeal.nD → PrngReg), Pre_SsdProjectIdeal m →
    (∀ c : Dev Cert.SsdProjectIdeal.nD,
      m' ((c.tc : Thread Cert.SsdProjectReferenceIdeal.nD Cert.SsdProjectReferenceIdeal.τ).loc Cert.SsdProjectReferenceIdeal.main_arg0) = m ((c.tc : Thread Cert.SsdProjectIdeal.nD Cert.SsdProjectIdeal.τ).loc Cert.SsdProjectIdeal.main_arg0)
      ∧ m' ((c.tc : Thread Cert.SsdProjectReferenceIdeal.nD Cert.SsdProjectReferenceIdeal.τ).loc Cert.SsdProjectReferenceIdeal.main_arg1) = m ((c.tc : Thread Cert.SsdProjectIdeal.nD Cert.SsdProjectIdeal.τ).loc Cert.SsdProjectIdeal.main_arg1)
      ∧ m' ((c.tc : Thread Cert.SsdProjectReferenceIdeal.nD Cert.SsdProjectReferenceIdeal.τ).loc Cert.SsdProjectReferenceIdeal.main_arg2) = m ((c.tc : Thread Cert.SsdProjectIdeal.nD Cert.SsdProjectIdeal.τ).loc Cert.SsdProjectIdeal.main_arg2)
      ∧ m' ((c.tc : Thread Cert.SsdProjectReferenceIdeal.nD Cert.SsdProjectReferenceIdeal.τ).loc Cert.SsdProjectReferenceIdeal.main_arg3) = m ((c.tc : Thread Cert.SsdProjectIdeal.nD Cert.SsdProjectIdeal.τ).loc Cert.SsdProjectIdeal.main_arg3)) →
    ∃ (v0 : (c : Dev Cert.SsdProjectIdeal.nD) → Buf (Elt Ideal) ((c.tc : Thread Cert.SsdProjectIdeal.nD Cert.SsdProjectIdeal.τ).loc Cert.SsdProjectIdeal.main_v2_0)) (v1 : (c : Dev Cert.SsdProjectIdeal.nD) → Buf (Elt Ideal) ((c.tc : Thread Cert.SsdProjectIdeal.nD Cert.SsdProjectIdeal.τ).loc Cert.SsdProjectIdeal.main_v2_1)) (v2 : (c : Dev Cert.SsdProjectIdeal.nD) → Buf (Elt Ideal) ((c.tc : Thread Cert.SsdProjectIdeal.nD Cert.SsdProjectIdeal.τ).loc Cert.SsdProjectIdeal.main_v2_2)),
      θ_run (Cert.SsdProjectIdeal.defs (F := Ideal)) (onTc (τ := Cert.SsdProjectIdeal.τ) (Cert.SsdProjectIdeal.main (F := Ideal))) ⟨m, fun _ => 0, g⟩ (fun r => ∀ c : Dev Cert.SsdProjectIdeal.nD,
          r.2.mem ((c.tc : Thread Cert.SsdProjectIdeal.nD Cert.SsdProjectIdeal.τ).loc Cert.SsdProjectIdeal.main_v2_0) = v0 c
          ∧ r.2.mem ((c.tc : Thread Cert.SsdProjectIdeal.nD Cert.SsdProjectIdeal.τ).loc Cert.SsdProjectIdeal.main_v2_1) = v1 c
          ∧ r.2.mem ((c.tc : Thread Cert.SsdProjectIdeal.nD Cert.SsdProjectIdeal.τ).loc Cert.SsdProjectIdeal.main_v2_2) = v2 c
          ∧ r.2.mem ((c.tc : Thread Cert.SsdProjectIdeal.nD Cert.SsdProjectIdeal.τ).loc Cert.SsdProjectIdeal.main_arg0) = m ((c.tc : Thread Cert.SsdProjectIdeal.nD Cert.SsdProjectIdeal.τ).loc Cert.SsdProjectIdeal.main_arg0)
          ∧ r.2.mem ((c.tc : Thread Cert.SsdProjectIdeal.nD Cert.SsdProjectIdeal.τ).loc Cert.SsdProjectIdeal.main_arg1) = m ((c.tc : Thread Cert.SsdProjectIdeal.nD Cert.SsdProjectIdeal.τ).loc Cert.SsdProjectIdeal.main_arg1)
          ∧ r.2.mem ((c.tc : Thread Cert.SsdProjectIdeal.nD Cert.SsdProjectIdeal.τ).loc Cert.SsdProjectIdeal.main_arg2) = m ((c.tc : Thread Cert.SsdProjectIdeal.nD Cert.SsdProjectIdeal.τ).loc Cert.SsdProjectIdeal.main_arg2)
          ∧ r.2.mem ((c.tc : Thread Cert.SsdProjectIdeal.nD Cert.SsdProjectIdeal.τ).loc Cert.SsdProjectIdeal.main_arg3) = m ((c.tc : Thread Cert.SsdProjectIdeal.nD Cert.SsdProjectIdeal.τ).loc Cert.SsdProjectIdeal.main_arg3))
      ∧ θ_run (Cert.SsdProjectReferenceIdeal.defs (F := Ideal)) (onTc (τ := Cert.SsdProjectReferenceIdeal.τ) (Cert.SsdProjectReferenceIdeal.main (F := Ideal))) ⟨m', fun _ => 0, g'⟩ (fun r => ∀ c : Dev Cert.SsdProjectReferenceIdeal.nD,
          r.2.mem ((c.tc : Thread Cert.SsdProjectReferenceIdeal.nD Cert.SsdProjectReferenceIdeal.τ).loc Cert.SsdProjectReferenceIdeal.main_v9) = v0 c
          ∧ r.2.mem ((c.tc : Thread Cert.SsdProjectReferenceIdeal.nD Cert.SsdProjectReferenceIdeal.τ).loc Cert.SsdProjectReferenceIdeal.main_v10) = v1 c
          ∧ r.2.mem ((c.tc : Thread Cert.SsdProjectReferenceIdeal.nD Cert.SsdProjectReferenceIdeal.τ).loc Cert.SsdProjectReferenceIdeal.main_v8) = v2 c
          ∧ r.2.mem ((c.tc : Thread Cert.SsdProjectReferenceIdeal.nD Cert.SsdProjectReferenceIdeal.τ).loc Cert.SsdProjectReferenceIdeal.main_arg0) = m' ((c.tc : Thread Cert.SsdProjectReferenceIdeal.nD Cert.SsdProjectReferenceIdeal.τ).loc Cert.SsdProjectReferenceIdeal.main_arg0)
          ∧ r.2.mem ((c.tc : Thread Cert.SsdProjectReferenceIdeal.nD Cert.SsdProjectReferenceIdeal.τ).loc Cert.SsdProjectReferenceIdeal.main_arg1) = m' ((c.tc : Thread Cert.SsdProjectReferenceIdeal.nD Cert.SsdProjectReferenceIdeal.τ).loc Cert.SsdProjectReferenceIdeal.main_arg1)
          ∧ r.2.mem ((c.tc : Thread Cert.SsdProjectReferenceIdeal.nD Cert.SsdProjectReferenceIdeal.τ).loc Cert.SsdProjectReferenceIdeal.main_arg2) = m' ((c.tc : Thread Cert.SsdProjectReferenceIdeal.nD Cert.SsdProjectReferenceIdeal.τ).loc Cert.SsdProjectReferenceIdeal.main_arg2)
          ∧ r.2.mem ((c.tc : Thread Cert.SsdProjectReferenceIdeal.nD Cert.SsdProjectReferenceIdeal.τ).loc Cert.SsdProjectReferenceIdeal.main_arg3) = m' ((c.tc : Thread Cert.SsdProjectReferenceIdeal.nD Cert.SsdProjectReferenceIdeal.τ).loc Cert.SsdProjectReferenceIdeal.main_arg3))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)
      ∧ m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3)
      ∧ m' ((c.tc : Thread Cert.SsdOutReferenceIdeal.nD Cert.SsdOutReferenceIdeal.τ).loc Cert.SsdOutReferenceIdeal.main_arg4) = m ((c.tc : Thread Cert.SsdOutIdeal.nD Cert.SsdOutIdeal.τ).loc Cert.SsdOutIdeal.main_arg4)
      ∧ m' ((c.tc : Thread Cert.SsdOutReferenceIdeal.nD Cert.SsdOutReferenceIdeal.τ).loc Cert.SsdOutReferenceIdeal.main_arg5) = m ((c.tc : Thread Cert.SsdOutIdeal.nD Cert.SsdOutIdeal.τ).loc Cert.SsdOutIdeal.main_arg5)) →
    ∃ (v0 : (c : Dev Cert.SsdOutIdeal.nD) → Buf (Elt Ideal) ((c.tc : Thread Cert.SsdOutIdeal.nD Cert.SsdOutIdeal.τ).loc Cert.SsdOutIdeal.main_v3)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v3) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v32) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3)
          ∧ r.2.mem ((c.tc : Thread Cert.SsdOutReferenceIdeal.nD Cert.SsdOutReferenceIdeal.τ).loc Cert.SsdOutReferenceIdeal.main_arg4) = m' ((c.tc : Thread Cert.SsdOutReferenceIdeal.nD Cert.SsdOutReferenceIdeal.τ).loc Cert.SsdOutReferenceIdeal.main_arg4)
          ∧ r.2.mem ((c.tc : Thread Cert.SsdOutReferenceIdeal.nD Cert.SsdOutReferenceIdeal.τ).loc Cert.SsdOutReferenceIdeal.main_arg5) = m' ((c.tc : Thread Cert.SsdOutReferenceIdeal.nD Cert.SsdOutReferenceIdeal.τ).loc Cert.SsdOutReferenceIdeal.main_arg5))

def preserves_NsaOut_NsaOutIdeal : Prop :=
  True

def algebraic_NsaOutIdeal_NsaOutReferenceIdeal [hNsaOutIdeal : Cert.NsaOutIdeal.Facts] [hNsaOutReferenceIdeal : Cert.NsaOutReferenceIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg)
    (m' : (ℓ : Loc Cert.NsaOutReferenceIdeal.nD Cert.NsaOutReferenceIdeal.τ Cert.NsaOutReferenceIdeal.sig) → Buf (Elt Ideal) ℓ) (g' : Dev Cert.NsaOutReferenceIdeal.nD → PrngReg), Pre_NsaOutIdeal m →
    (∀ c : Dev Cert.NsaOutIdeal.nD,
      m' ((c.tc : Thread Cert.NsaOutReferenceIdeal.nD Cert.NsaOutReferenceIdeal.τ).loc Cert.NsaOutReferenceIdeal.main_arg0) = m ((c.tc : Thread Cert.NsaOutIdeal.nD Cert.NsaOutIdeal.τ).loc Cert.NsaOutIdeal.main_arg0)
      ∧ m' ((c.tc : Thread Cert.NsaOutReferenceIdeal.nD Cert.NsaOutReferenceIdeal.τ).loc Cert.NsaOutReferenceIdeal.main_arg1) = m ((c.tc : Thread Cert.NsaOutIdeal.nD Cert.NsaOutIdeal.τ).loc Cert.NsaOutIdeal.main_arg1)
      ∧ m' ((c.tc : Thread Cert.NsaOutReferenceIdeal.nD Cert.NsaOutReferenceIdeal.τ).loc Cert.NsaOutReferenceIdeal.main_arg2) = m ((c.tc : Thread Cert.NsaOutIdeal.nD Cert.NsaOutIdeal.τ).loc Cert.NsaOutIdeal.main_arg2)
      ∧ m' ((c.tc : Thread Cert.NsaOutReferenceIdeal.nD Cert.NsaOutReferenceIdeal.τ).loc Cert.NsaOutReferenceIdeal.main_arg3) = m ((c.tc : Thread Cert.NsaOutIdeal.nD Cert.NsaOutIdeal.τ).loc Cert.NsaOutIdeal.main_arg3)
      ∧ m' ((c.tc : Thread Cert.NsaOutReferenceIdeal.nD Cert.NsaOutReferenceIdeal.τ).loc Cert.NsaOutReferenceIdeal.main_arg4) = m ((c.tc : Thread Cert.NsaOutIdeal.nD Cert.NsaOutIdeal.τ).loc Cert.NsaOutIdeal.main_arg4)
      ∧ m' ((c.tc : Thread Cert.NsaOutReferenceIdeal.nD Cert.NsaOutReferenceIdeal.τ).loc Cert.NsaOutReferenceIdeal.main_arg5) = m ((c.tc : Thread Cert.NsaOutIdeal.nD Cert.NsaOutIdeal.τ).loc Cert.NsaOutIdeal.main_arg5)) →
    ∃ (v0 : (c : Dev Cert.NsaOutIdeal.nD) → Buf (Elt Ideal) ((c.tc : Thread Cert.NsaOutIdeal.nD Cert.NsaOutIdeal.τ).loc Cert.NsaOutIdeal.main_v3)),
      θ_run (Cert.NsaOutIdeal.defs (F := Ideal)) (onTc (τ := Cert.NsaOutIdeal.τ) (Cert.NsaOutIdeal.main (F := Ideal))) ⟨m, fun _ => 0, g⟩ (fun r => ∀ c : Dev Cert.NsaOutIdeal.nD,
          r.2.mem ((c.tc : Thread Cert.NsaOutIdeal.nD Cert.NsaOutIdeal.τ).loc Cert.NsaOutIdeal.main_v3) = v0 c
          ∧ r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
          ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
          ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
          ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3)
          ∧ r.2.mem ((c.tc : Thread Cert.NsaOutIdeal.nD Cert.NsaOutIdeal.τ).loc Cert.NsaOutIdeal.main_arg4) = m ((c.tc : Thread Cert.NsaOutIdeal.nD Cert.NsaOutIdeal.τ).loc Cert.NsaOutIdeal.main_arg4)
          ∧ r.2.mem ((c.tc : Thread Cert.NsaOutIdeal.nD Cert.NsaOutIdeal.τ).loc Cert.NsaOutIdeal.main_arg5) = m ((c.tc : Thread Cert.NsaOutIdeal.nD Cert.NsaOutIdeal.τ).loc Cert.NsaOutIdeal.main_arg5))
      ∧ θ_run (Cert.NsaOutReferenceIdeal.defs (F := Ideal)) (onTc (τ := Cert.NsaOutReferenceIdeal.τ) (Cert.NsaOutReferenceIdeal.main (F := Ideal))) ⟨m', fun _ => 0, g'⟩ (fun r => ∀ c : Dev Cert.NsaOutReferenceIdeal.nD,
          r.2.mem ((c.tc : Thread Cert.NsaOutReferenceIdeal.nD Cert.NsaOutReferenceIdeal.τ).loc Cert.NsaOutReferenceIdeal.main_v32) = v0 c
          ∧ r.2.mem ((c.tc : Thread Cert.NsaOutReferenceIdeal.nD Cert.NsaOutReferenceIdeal.τ).loc Cert.NsaOutReferenceIdeal.main_arg0) = m' ((c.tc : Thread Cert.NsaOutReferenceIdeal.nD Cert.NsaOutReferenceIdeal.τ).loc Cert.NsaOutReferenceIdeal.main_arg0)
          ∧ r.2.mem ((c.tc : Thread Cert.NsaOutReferenceIdeal.nD Cert.NsaOutReferenceIdeal.τ).loc Cert.NsaOutReferenceIdeal.main_arg1) = m' ((c.tc : Thread Cert.NsaOutReferenceIdeal.nD Cert.NsaOutReferenceIdeal.τ).loc Cert.NsaOutReferenceIdeal.main_arg1)
          ∧ r.2.mem ((c.tc : Thread Cert.NsaOutReferenceIdeal.nD Cert.NsaOutReferenceIdeal.τ).loc Cert.NsaOutReferenceIdeal.main_arg2) = m' ((c.tc : Thread Cert.NsaOutReferenceIdeal.nD Cert.NsaOutReferenceIdeal.τ).loc Cert.NsaOutReferenceIdeal.main_arg2)
          ∧ r.2.mem ((c.tc : Thread Cert.NsaOutReferenceIdeal.nD Cert.NsaOutReferenceIdeal.τ).loc Cert.NsaOutReferenceIdeal.main_arg3) = m' ((c.tc : Thread Cert.NsaOutReferenceIdeal.nD Cert.NsaOutReferenceIdeal.τ).loc Cert.NsaOutReferenceIdeal.main_arg3)
          ∧ r.2.mem ((c.tc : Thread Cert.NsaOutReferenceIdeal.nD Cert.NsaOutReferenceIdeal.τ).loc Cert.NsaOutReferenceIdeal.main_arg4) = m' ((c.tc : Thread Cert.NsaOutReferenceIdeal.nD Cert.NsaOutReferenceIdeal.τ).loc Cert.NsaOutReferenceIdeal.main_arg4)
          ∧ r.2.mem ((c.tc : Thread Cert.NsaOutReferenceIdeal.nD Cert.NsaOutReferenceIdeal.τ).loc Cert.NsaOutReferenceIdeal.main_arg5) = m' ((c.tc : Thread Cert.NsaOutReferenceIdeal.nD Cert.NsaOutReferenceIdeal.τ).loc Cert.NsaOutReferenceIdeal.main_arg5))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)) →
    ∃ (v0 : (c : Dev Cert.FfnSampleIdeal.nD) → Buf (Elt Ideal) ((c.tc : Thread Cert.FfnSampleIdeal.nD Cert.FfnSampleIdeal.τ).loc Cert.FfnSampleIdeal.main_v17)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v17) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v44) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8))

def preserves_SsdSample_SsdSampleIdeal : Prop :=
  True

def algebraic_SsdSampleIdeal_SsdSampleReferenceIdeal [hSsdSampleIdeal : Cert.SsdSampleIdeal.Facts] [hSsdSampleReferenceIdeal : Cert.SsdSampleReferenceIdeal.Facts] : Prop :=
  ∀ (m : (ℓ : Loc Cert.SsdSampleIdeal.nD Cert.SsdSampleIdeal.τ Cert.SsdSampleIdeal.sig) → Buf (Elt Ideal) ℓ) (g : Dev Cert.SsdSampleIdeal.nD → PrngReg)
    (m' : (ℓ : Loc Cert.SsdSampleReferenceIdeal.nD Cert.SsdSampleReferenceIdeal.τ Cert.SsdSampleReferenceIdeal.sig) → Buf (Elt Ideal) ℓ) (g' : Dev Cert.SsdSampleReferenceIdeal.nD → PrngReg), Pre_SsdSampleIdeal m →
    (∀ c : Dev Cert.SsdSampleIdeal.nD,
      m' ((c.tc : Thread Cert.SsdSampleReferenceIdeal.nD Cert.SsdSampleReferenceIdeal.τ).loc Cert.SsdSampleReferenceIdeal.main_arg0) = m ((c.tc : Thread Cert.SsdSampleIdeal.nD Cert.SsdSampleIdeal.τ).loc Cert.SsdSampleIdeal.main_arg0)
      ∧ m' ((c.tc : Thread Cert.SsdSampleReferenceIdeal.nD Cert.SsdSampleReferenceIdeal.τ).loc Cert.SsdSampleReferenceIdeal.main_arg1) = m ((c.tc : Thread Cert.SsdSampleIdeal.nD Cert.SsdSampleIdeal.τ).loc Cert.SsdSampleIdeal.main_arg1)
      ∧ m' ((c.tc : Thread Cert.SsdSampleReferenceIdeal.nD Cert.SsdSampleReferenceIdeal.τ).loc Cert.SsdSampleReferenceIdeal.main_arg2) = m ((c.tc : Thread Cert.SsdSampleIdeal.nD Cert.SsdSampleIdeal.τ).loc Cert.SsdSampleIdeal.main_arg2)
      ∧ m' ((c.tc : Thread Cert.SsdSampleReferenceIdeal.nD Cert.SsdSampleReferenceIdeal.τ).loc Cert.SsdSampleReferenceIdeal.main_arg3) = m ((c.tc : Thread Cert.SsdSampleIdeal.nD Cert.SsdSampleIdeal.τ).loc Cert.SsdSampleIdeal.main_arg3)) →
    ∃ (v0 : (c : Dev Cert.SsdSampleIdeal.nD) → Buf (Elt Ideal) ((c.tc : Thread Cert.SsdSampleIdeal.nD Cert.SsdSampleIdeal.τ).loc Cert.SsdSampleIdeal.main_v7_0)) (v1 : (c : Dev Cert.SsdSampleIdeal.nD) → Buf (Elt Ideal) ((c.tc : Thread Cert.SsdSampleIdeal.nD Cert.SsdSampleIdeal.τ).loc Cert.SsdSampleIdeal.main_v7_1)) (v2 : (c : Dev Cert.SsdSampleIdeal.nD) → Buf (Elt Ideal) ((c.tc : Thread Cert.SsdSampleIdeal.nD Cert.SsdSampleIdeal.τ).loc Cert.SsdSampleIdeal.main_v7_2)),
      θ_run (Cert.SsdSampleIdeal.defs (F := Ideal)) (onTc (τ := Cert.SsdSampleIdeal.τ) (Cert.SsdSampleIdeal.main (F := Ideal))) ⟨m, fun _ => 0, g⟩ (fun r => ∀ c : Dev Cert.SsdSampleIdeal.nD,
          r.2.mem ((c.tc : Thread Cert.SsdSampleIdeal.nD Cert.SsdSampleIdeal.τ).loc Cert.SsdSampleIdeal.main_v7_0) = v0 c
          ∧ r.2.mem ((c.tc : Thread Cert.SsdSampleIdeal.nD Cert.SsdSampleIdeal.τ).loc Cert.SsdSampleIdeal.main_v7_1) = v1 c
          ∧ r.2.mem ((c.tc : Thread Cert.SsdSampleIdeal.nD Cert.SsdSampleIdeal.τ).loc Cert.SsdSampleIdeal.main_v7_2) = v2 c
          ∧ r.2.mem ((c.tc : Thread Cert.SsdSampleIdeal.nD Cert.SsdSampleIdeal.τ).loc Cert.SsdSampleIdeal.main_arg0) = m ((c.tc : Thread Cert.SsdSampleIdeal.nD Cert.SsdSampleIdeal.τ).loc Cert.SsdSampleIdeal.main_arg0)
          ∧ r.2.mem ((c.tc : Thread Cert.SsdSampleIdeal.nD Cert.SsdSampleIdeal.τ).loc Cert.SsdSampleIdeal.main_arg1) = m ((c.tc : Thread Cert.SsdSampleIdeal.nD Cert.SsdSampleIdeal.τ).loc Cert.SsdSampleIdeal.main_arg1)
          ∧ r.2.mem ((c.tc : Thread Cert.SsdSampleIdeal.nD Cert.SsdSampleIdeal.τ).loc Cert.SsdSampleIdeal.main_arg2) = m ((c.tc : Thread Cert.SsdSampleIdeal.nD Cert.SsdSampleIdeal.τ).loc Cert.SsdSampleIdeal.main_arg2)
          ∧ r.2.mem ((c.tc : Thread Cert.SsdSampleIdeal.nD Cert.SsdSampleIdeal.τ).loc Cert.SsdSampleIdeal.main_arg3) = m ((c.tc : Thread Cert.SsdSampleIdeal.nD Cert.SsdSampleIdeal.τ).loc Cert.SsdSampleIdeal.main_arg3))
      ∧ θ_run (Cert.SsdSampleReferenceIdeal.defs (F := Ideal)) (onTc (τ := Cert.SsdSampleReferenceIdeal.τ) (Cert.SsdSampleReferenceIdeal.main (F := Ideal))) ⟨m', fun _ => 0, g'⟩ (fun r => ∀ c : Dev Cert.SsdSampleReferenceIdeal.nD,
          r.2.mem ((c.tc : Thread Cert.SsdSampleReferenceIdeal.nD Cert.SsdSampleReferenceIdeal.τ).loc Cert.SsdSampleReferenceIdeal.main_v11) = v0 c
          ∧ r.2.mem ((c.tc : Thread Cert.SsdSampleReferenceIdeal.nD Cert.SsdSampleReferenceIdeal.τ).loc Cert.SsdSampleReferenceIdeal.main_v12) = v1 c
          ∧ r.2.mem ((c.tc : Thread Cert.SsdSampleReferenceIdeal.nD Cert.SsdSampleReferenceIdeal.τ).loc Cert.SsdSampleReferenceIdeal.main_v13) = v2 c
          ∧ r.2.mem ((c.tc : Thread Cert.SsdSampleReferenceIdeal.nD Cert.SsdSampleReferenceIdeal.τ).loc Cert.SsdSampleReferenceIdeal.main_arg0) = m' ((c.tc : Thread Cert.SsdSampleReferenceIdeal.nD Cert.SsdSampleReferenceIdeal.τ).loc Cert.SsdSampleReferenceIdeal.main_arg0)
          ∧ r.2.mem ((c.tc : Thread Cert.SsdSampleReferenceIdeal.nD Cert.SsdSampleReferenceIdeal.τ).loc Cert.SsdSampleReferenceIdeal.main_arg1) = m' ((c.tc : Thread Cert.SsdSampleReferenceIdeal.nD Cert.SsdSampleReferenceIdeal.τ).loc Cert.SsdSampleReferenceIdeal.main_arg1)
          ∧ r.2.mem ((c.tc : Thread Cert.SsdSampleReferenceIdeal.nD Cert.SsdSampleReferenceIdeal.τ).loc Cert.SsdSampleReferenceIdeal.main_arg2) = m' ((c.tc : Thread Cert.SsdSampleReferenceIdeal.nD Cert.SsdSampleReferenceIdeal.τ).loc Cert.SsdSampleReferenceIdeal.main_arg2)
          ∧ r.2.mem ((c.tc : Thread Cert.SsdSampleReferenceIdeal.nD Cert.SsdSampleReferenceIdeal.τ).loc Cert.SsdSampleReferenceIdeal.main_arg3) = m' ((c.tc : Thread Cert.SsdSampleReferenceIdeal.nD Cert.SsdSampleReferenceIdeal.τ).loc Cert.SsdSampleReferenceIdeal.main_arg3))

def preserves_NsaProject_NsaProjectIdeal : Prop :=
  True

def algebraic_NsaProjectIdeal_NsaProjectReferenceIdeal_pre_finite [hNsaProjectIdeal : Cert.NsaProjectIdeal.Facts] [hNsaProjectReferenceIdeal : Cert.NsaProjectReferenceIdeal.Facts] [hPre_finite : Cert.Pre_finite.Facts] : Prop :=
  ∀ (m : (ℓ : Loc Cert.NsaProjectIdeal.nD Cert.NsaProjectIdeal.τ Cert.NsaProjectIdeal.sig) → Buf (Elt Ideal) ℓ) (g : Dev Cert.NsaProjectIdeal.nD → PrngReg)
    (m' : (ℓ : Loc Cert.NsaProjectReferenceIdeal.nD Cert.NsaProjectReferenceIdeal.τ Cert.NsaProjectReferenceIdeal.sig) → Buf (Elt Ideal) ℓ) (g' : Dev Cert.NsaProjectReferenceIdeal.nD → PrngReg), Pre_NsaProjectIdeal_finite m →
    (∀ c : Dev Cert.NsaProjectIdeal.nD,
      m' ((c.tc : Thread Cert.NsaProjectReferenceIdeal.nD Cert.NsaProjectReferenceIdeal.τ).loc Cert.NsaProjectReferenceIdeal.main_arg0) = m ((c.tc : Thread Cert.NsaProjectIdeal.nD Cert.NsaProjectIdeal.τ).loc Cert.NsaProjectIdeal.main_arg0)
      ∧ m' ((c.tc : Thread Cert.NsaProjectReferenceIdeal.nD Cert.NsaProjectReferenceIdeal.τ).loc Cert.NsaProjectReferenceIdeal.main_arg1) = m ((c.tc : Thread Cert.NsaProjectIdeal.nD Cert.NsaProjectIdeal.τ).loc Cert.NsaProjectIdeal.main_arg1)
      ∧ m' ((c.tc : Thread Cert.NsaProjectReferenceIdeal.nD Cert.NsaProjectReferenceIdeal.τ).loc Cert.NsaProjectReferenceIdeal.main_arg2) = m ((c.tc : Thread Cert.NsaProjectIdeal.nD Cert.NsaProjectIdeal.τ).loc Cert.NsaProjectIdeal.main_arg2)
      ∧ m' ((c.tc : Thread Cert.NsaProjectReferenceIdeal.nD Cert.NsaProjectReferenceIdeal.τ).loc Cert.NsaProjectReferenceIdeal.main_arg3) = m ((c.tc : Thread Cert.NsaProjectIdeal.nD Cert.NsaProjectIdeal.τ).loc Cert.NsaProjectIdeal.main_arg3)) →
    ∃ (v0 : (c : Dev Cert.NsaProjectIdeal.nD) → Buf (Elt Ideal) ((c.tc : Thread Cert.NsaProjectIdeal.nD Cert.NsaProjectIdeal.τ).loc Cert.NsaProjectIdeal.main_v61_0)) (v1 : (c : Dev Cert.NsaProjectIdeal.nD) → Buf (Elt Ideal) ((c.tc : Thread Cert.NsaProjectIdeal.nD Cert.NsaProjectIdeal.τ).loc Cert.NsaProjectIdeal.main_v61_1)) (v2 : (c : Dev Cert.NsaProjectIdeal.nD) → Buf (Elt Ideal) ((c.tc : Thread Cert.NsaProjectIdeal.nD Cert.NsaProjectIdeal.τ).loc Cert.NsaProjectIdeal.main_v61_2)) (v3 : (c : Dev Cert.NsaProjectIdeal.nD) → Buf (Elt Ideal) ((c.tc : Thread Cert.NsaProjectIdeal.nD Cert.NsaProjectIdeal.τ).loc Cert.NsaProjectIdeal.main_v61_3)) (v4 : (c : Dev Cert.NsaProjectIdeal.nD) → Buf (Elt Ideal) ((c.tc : Thread Cert.NsaProjectIdeal.nD Cert.NsaProjectIdeal.τ).loc Cert.NsaProjectIdeal.main_v61_4)),
      θ_run (Cert.NsaProjectIdeal.defs (F := Ideal)) (onTc (τ := Cert.NsaProjectIdeal.τ) (Cert.NsaProjectIdeal.main (F := Ideal))) ⟨m, fun _ => 0, g⟩ (fun r => ∀ c : Dev Cert.NsaProjectIdeal.nD,
          r.2.mem ((c.tc : Thread Cert.NsaProjectIdeal.nD Cert.NsaProjectIdeal.τ).loc Cert.NsaProjectIdeal.main_v61_0) = v0 c
          ∧ r.2.mem ((c.tc : Thread Cert.NsaProjectIdeal.nD Cert.NsaProjectIdeal.τ).loc Cert.NsaProjectIdeal.main_v61_1) = v1 c
          ∧ r.2.mem ((c.tc : Thread Cert.NsaProjectIdeal.nD Cert.NsaProjectIdeal.τ).loc Cert.NsaProjectIdeal.main_v61_2) = v2 c
          ∧ r.2.mem ((c.tc : Thread Cert.NsaProjectIdeal.nD Cert.NsaProjectIdeal.τ).loc Cert.NsaProjectIdeal.main_v61_3) = v3 c
          ∧ r.2.mem ((c.tc : Thread Cert.NsaProjectIdeal.nD Cert.NsaProjectIdeal.τ).loc Cert.NsaProjectIdeal.main_v61_4) = v4 c
          ∧ r.2.mem ((c.tc : Thread Cert.NsaProjectIdeal.nD Cert.NsaProjectIdeal.τ).loc Cert.NsaProjectIdeal.main_arg0) = m ((c.tc : Thread Cert.NsaProjectIdeal.nD Cert.NsaProjectIdeal.τ).loc Cert.NsaProjectIdeal.main_arg0)
          ∧ r.2.mem ((c.tc : Thread Cert.NsaProjectIdeal.nD Cert.NsaProjectIdeal.τ).loc Cert.NsaProjectIdeal.main_arg1) = m ((c.tc : Thread Cert.NsaProjectIdeal.nD Cert.NsaProjectIdeal.τ).loc Cert.NsaProjectIdeal.main_arg1)
          ∧ r.2.mem ((c.tc : Thread Cert.NsaProjectIdeal.nD Cert.NsaProjectIdeal.τ).loc Cert.NsaProjectIdeal.main_arg2) = m ((c.tc : Thread Cert.NsaProjectIdeal.nD Cert.NsaProjectIdeal.τ).loc Cert.NsaProjectIdeal.main_arg2)
          ∧ r.2.mem ((c.tc : Thread Cert.NsaProjectIdeal.nD Cert.NsaProjectIdeal.τ).loc Cert.NsaProjectIdeal.main_arg3) = m ((c.tc : Thread Cert.NsaProjectIdeal.nD Cert.NsaProjectIdeal.τ).loc Cert.NsaProjectIdeal.main_arg3))
      ∧ θ_run (Cert.NsaProjectReferenceIdeal.defs (F := Ideal)) (onTc (τ := Cert.NsaProjectReferenceIdeal.τ) (Cert.NsaProjectReferenceIdeal.main (F := Ideal))) ⟨m', fun _ => 0, g'⟩ (fun r => ∀ c : Dev Cert.NsaProjectReferenceIdeal.nD,
          r.2.mem ((c.tc : Thread Cert.NsaProjectReferenceIdeal.nD Cert.NsaProjectReferenceIdeal.τ).loc Cert.NsaProjectReferenceIdeal.main_v116) = v0 c
          ∧ r.2.mem ((c.tc : Thread Cert.NsaProjectReferenceIdeal.nD Cert.NsaProjectReferenceIdeal.τ).loc Cert.NsaProjectReferenceIdeal.main_v117) = v1 c
          ∧ r.2.mem ((c.tc : Thread Cert.NsaProjectReferenceIdeal.nD Cert.NsaProjectReferenceIdeal.τ).loc Cert.NsaProjectReferenceIdeal.main_v118) = v2 c
          ∧ r.2.mem ((c.tc : Thread Cert.NsaProjectReferenceIdeal.nD Cert.NsaProjectReferenceIdeal.τ).loc Cert.NsaProjectReferenceIdeal.main_v108) = v3 c
          ∧ r.2.mem ((c.tc : Thread Cert.NsaProjectReferenceIdeal.nD Cert.NsaProjectReferenceIdeal.τ).loc Cert.NsaProjectReferenceIdeal.main_v119) = v4 c
          ∧ r.2.mem ((c.tc : Thread Cert.NsaProjectReferenceIdeal.nD Cert.NsaProjectReferenceIdeal.τ).loc Cert.NsaProjectReferenceIdeal.main_arg0) = m' ((c.tc : Thread Cert.NsaProjectReferenceIdeal.nD Cert.NsaProjectReferenceIdeal.τ).loc Cert.NsaProjectReferenceIdeal.main_arg0)
          ∧ r.2.mem ((c.tc : Thread Cert.NsaProjectReferenceIdeal.nD Cert.NsaProjectReferenceIdeal.τ).loc Cert.NsaProjectReferenceIdeal.main_arg1) = m' ((c.tc : Thread Cert.NsaProjectReferenceIdeal.nD Cert.NsaProjectReferenceIdeal.τ).loc Cert.NsaProjectReferenceIdeal.main_arg1)
          ∧ r.2.mem ((c.tc : Thread Cert.NsaProjectReferenceIdeal.nD Cert.NsaProjectReferenceIdeal.τ).loc Cert.NsaProjectReferenceIdeal.main_arg2) = m' ((c.tc : Thread Cert.NsaProjectReferenceIdeal.nD Cert.NsaProjectReferenceIdeal.τ).loc Cert.NsaProjectReferenceIdeal.main_arg2)
          ∧ r.2.mem ((c.tc : Thread Cert.NsaProjectReferenceIdeal.nD Cert.NsaProjectReferenceIdeal.τ).loc Cert.NsaProjectReferenceIdeal.main_arg3) = m' ((c.tc : Thread Cert.NsaProjectReferenceIdeal.nD Cert.NsaProjectReferenceIdeal.τ).loc Cert.NsaProjectReferenceIdeal.main_arg3))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hSsdProject : Cert.SsdProject.Facts) (hSsdProjectIdeal : Cert.SsdProjectIdeal.Facts) (hSsdProjectReferenceIdeal : Cert.SsdProjectReferenceIdeal.Facts) (hSsdOut : Cert.SsdOut.Facts) (hSsdOutIdeal : Cert.SsdOutIdeal.Facts) (hSsdOutReferenceIdeal : Cert.SsdOutReferenceIdeal.Facts) (hNsaOut : Cert.NsaOut.Facts) (hNsaOutIdeal : Cert.NsaOutIdeal.Facts) (hNsaOutReferenceIdeal : Cert.NsaOutReferenceIdeal.Facts) (hFfnSample : Cert.FfnSample.Facts) (hFfnSampleIdeal : Cert.FfnSampleIdeal.Facts) (hFfnSampleReferenceIdeal : Cert.FfnSampleReferenceIdeal.Facts) (hSsdSample : Cert.SsdSample.Facts) (hSsdSampleIdeal : Cert.SsdSampleIdeal.Facts) (hSsdSampleReferenceIdeal : Cert.SsdSampleReferenceIdeal.Facts) (hNsaProject : Cert.NsaProject.Facts) (hNsaProjectIdeal : Cert.NsaProjectIdeal.Facts) (hNsaProjectReferenceIdeal : Cert.NsaProjectReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_SsdProject (hSsdProject := hSsdProject)
    ∧ quiescent_SsdProjectIdeal (hSsdProjectIdeal := hSsdProjectIdeal)
    ∧ quiescent_SsdProjectReferenceIdeal (hSsdProjectReferenceIdeal := hSsdProjectReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_NsaOut (hNsaOut := hNsaOut)
    ∧ quiescent_NsaOutIdeal (hNsaOutIdeal := hNsaOutIdeal)
    ∧ quiescent_NsaOutReferenceIdeal (hNsaOutReferenceIdeal := hNsaOutReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_SsdSample (hSsdSample := hSsdSample)
    ∧ quiescent_SsdSampleIdeal (hSsdSampleIdeal := hSsdSampleIdeal)
    ∧ quiescent_SsdSampleReferenceIdeal (hSsdSampleReferenceIdeal := hSsdSampleReferenceIdeal)
    ∧ quiescent_NsaProject (hNsaProject := hNsaProject)
    ∧ quiescent_NsaProjectIdeal (hNsaProjectIdeal := hNsaProjectIdeal)
    ∧ quiescent_NsaProjectIdeal_pre_finite (hNsaProjectIdeal := hNsaProjectIdeal) (hPre_finite := hPre_finite)
    ∧ quiescent_NsaProjectReferenceIdeal (hNsaProjectReferenceIdeal := hNsaProjectReferenceIdeal)
    ∧ quiescent_NsaProjectReferenceIdeal_pre_finite (hNsaProjectReferenceIdeal := hNsaProjectReferenceIdeal) (hPre_finite := hPre_finite)
    ∧ preserves_Kernel_KernelIdeal
    ∧ preserves_FfnKernel_FfnKernelIdeal
    ∧ algebraic_FfnKernelIdeal_FfnReferenceIdeal (hFfnKernelIdeal := hFfnKernelIdeal) (hFfnReferenceIdeal := hFfnReferenceIdeal)
    ∧ preserves_SsdProject_SsdProjectIdeal
    ∧ algebraic_SsdProjectIdeal_SsdProjectReferenceIdeal (hSsdProjectIdeal := hSsdProjectIdeal) (hSsdProjectReferenceIdeal := hSsdProjectReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_NsaOut_NsaOutIdeal
    ∧ algebraic_NsaOutIdeal_NsaOutReferenceIdeal (hNsaOutIdeal := hNsaOutIdeal) (hNsaOutReferenceIdeal := hNsaOutReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_SsdSample_SsdSampleIdeal
    ∧ algebraic_SsdSampleIdeal_SsdSampleReferenceIdeal (hSsdSampleIdeal := hSsdSampleIdeal) (hSsdSampleReferenceIdeal := hSsdSampleReferenceIdeal)
    ∧ preserves_NsaProject_NsaProjectIdeal
    ∧ algebraic_NsaProjectIdeal_NsaProjectReferenceIdeal_pre_finite (hNsaProjectIdeal := hNsaProjectIdeal) (hNsaProjectReferenceIdeal := hNsaProjectReferenceIdeal) (hPre_finite := hPre_finite)
-- ==== Pre_finite.lean ====
abbrev S2x8192x1024 : Shape := ⟨3, ![2, 8192, 1024]⟩
abbrev S2x1x1024 : Shape := ⟨3, ![2, 1, 1024]⟩
abbrev S1024x2608 : Shape := ⟨2, ![1024, 2608]⟩
abbrev S_ : Shape := ⟨0, ![]⟩
abbrev S1 : Shape := ⟨1, ![1]⟩
abbrev S4 : Shape := ⟨1, ![4]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x2608 : S_.BroadcastsInDim S1024x2608 (![] : Fin 0 → Fin S1024x2608.rank)
  reducesTo_S1024x2608_S_d0_1 : S1024x2608.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  let main_c_6 : IVec S_ 1 := constantI S_ 1 1#1
  let main_v21 : IVec S_ 1 := (fun x v => Host.reduce IntOp.andi x v reducesTo_S4_S_d0 h_S_) main_v20 main_c_6
  main_v21

def fn {F : FTy → Type} [FloatOps F] (main_arg0 : FVec F S2x8192x1024 .f32) (main_arg1 : FVec F S2x1x1024 .f32) (main_arg2 : FVec F S2x1x1024 .f32) (main_arg3 : FVec F S1024x2608 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x1x1024 .f32 := Host.absf main_arg1
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S1024x2608 .f32 := Host.absf main_arg3
  let main_cst_4 : FVec F S_ .f32 := constant S_ .f32 0x7F800000#32
  let main_v13 : FVec F S1024x2608 .f32 := broadcastInDim S1024x2608 ![] bcast_S_S1024x2608 main_cst_4
  let main_v14 : IVec S1024x2608 1 := cmpf .olt main_v12 main_v13
  let main_c_5 : IVec S_ 1 := constantI S_ 1 1#1
  let main_v15 : IVec S_ 1 := (fun x v => Host.reduce IntOp.andi x v reducesTo_S1024x2608_S_d0_1 h_S_) main_v14 main_c_5
  fn_part1 (F := F) main_v3 main_v7 main_v11 main_v15
-- ==== Kernel.lean ====
abbrev S2x8192x1024 : Shape := ⟨3, ![2, 8192, 1024]⟩
abbrev S2x8192x128 : Shape := ⟨3, ![2, 8192, 128]⟩
abbrev S2x4x64x512 : Shape := ⟨4, ![2, 4, 64, 512]⟩
abbrev S2x4x512x64 : Shape := ⟨4, ![2, 4, 512, 64]⟩
abbrev S2x32x256x4x4x64 : Shape := ⟨6, ![2, 32, 256, 4, 4, 64]⟩
abbrev S2x4x32x4x256x64 : Shape := ⟨6, ![2, 4, 32, 4, 256, 64]⟩
abbrev S2x4x32x1024x64 : Shape := ⟨5, ![2, 4, 32, 1024, 64]⟩
abbrev S2x8192x256 : Shape := ⟨3, ![2, 8192, 256]⟩
abbrev S2x16x512x4x64 : Shape := ⟨5, ![2, 16, 512, 4, 64]⟩
abbrev S2x4x16x512x64 : Shape := ⟨5, ![2, 4, 16, 512, 64]⟩
abbrev S2x4x16x64x512 : Shape := ⟨5, ![2, 4, 16, 64, 512]⟩
abbrev S_ : Shape := ⟨0, ![]⟩
abbrev S2x4x16x512x63 : Shape := ⟨5, ![2, 4, 16, 512, 63]⟩
abbrev S2x4x16x512x1 : Shape := ⟨5, ![2, 4, 16, 512, 1]⟩
abbrev S2x4x16x512x128 : Shape := ⟨5, ![2, 4, 16, 512, 128]⟩
abbrev S2x32x256x4x64 : Shape := ⟨5, ![2, 32, 256, 4, 64]⟩
abbrev S2x4x32x256x64 : Shape := ⟨5, ![2, 4, 32, 256, 64]⟩
abbrev S2x4x32x64x256 : Shape := ⟨5, ![2, 4, 32, 64, 256]⟩
abbrev S2x4x32x256x63 : Shape := ⟨5, ![2, 4, 32, 256, 63]⟩
abbrev S2x4x32x256x1 : Shape := ⟨5, ![2, 4, 32, 256, 1]⟩
abbrev S2x4x32x256x128 : Shape := ⟨5, ![2, 4, 32, 256, 128]⟩
abbrev S512 : Shape := ⟨1, ![512]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S1x4x1x1024x64 : Shape := ⟨5, ![1, 4, 1, 1024, 64]⟩
abbrev S1x4x64x512 : Shape := ⟨4, ![1, 4, 64, 512]⟩
abbrev S1x4x512x64 : Shape := ⟨4, ![1, 4, 512, 64]⟩
abbrev S1x4x16x64x512 : Shape := ⟨5, ![1, 4, 16, 64, 512]⟩
abbrev S1x4x16x512x128 : Shape := ⟨5, ![1, 4, 16, 512, 128]⟩
abbrev S1x4x1x64x256 : Shape := ⟨5, ![1, 4, 1, 64, 256]⟩
abbrev S1x4x1x256x128 : Shape := ⟨5, ![1, 4, 1, 256, 128]⟩
abbrev S1x256x128 : Shape := ⟨3, ![1, 256, 128]⟩
abbrev S4x1024x64 : Shape := ⟨3, ![4, 1024, 64]⟩
abbrev S128x1024 : Shape := ⟨2, ![128, 1024]⟩
abbrev S4x1024x192 : Shape := ⟨3, ![4, 1024, 192]⟩
abbrev S4x1024x128 : Shape := ⟨3, ![4, 1024, 128]⟩
abbrev S1024x1 : Shape := ⟨2, ![1024, 1]⟩
abbrev S1x512 : Shape := ⟨2, ![1, 512]⟩
abbrev S1024x512 : Shape := ⟨2, ![1024, 512]⟩
abbrev S1x1x1x1024x64 : Shape := ⟨5, ![1, 1, 1, 1024, 64]⟩
abbrev S1024x64 : Shape := ⟨2, ![1024, 64]⟩
abbrev S1x1x64x512 : Shape := ⟨4, ![1, 1, 64, 512]⟩
abbrev S64x512 : Shape := ⟨2, ![64, 512]⟩
abbrev S1024 : Shape := ⟨1, ![1024]⟩
abbrev S1024x128 : Shape := ⟨2, ![1024, 128]⟩
abbrev S1x1x512x64 : Shape := ⟨4, ![1, 1, 512, 64]⟩
abbrev S512x64 : Shape := ⟨2, ![512, 64]⟩
abbrev S1x1024x64 : Shape := ⟨3, ![1, 1024, 64]⟩
abbrev S256x512 : Shape := ⟨2, ![256, 512]⟩
abbrev S256x128 : Shape := ⟨2, ![256, 128]⟩
abbrev S128x256 : Shape := ⟨2, ![128, 256]⟩
abbrev S1x384 : Shape := ⟨2, ![1, 384]⟩
abbrev S1024x384 : Shape := ⟨2, ![1024, 384]⟩
abbrev S1x1x64x384 : Shape := ⟨4, ![1, 1, 64, 384]⟩
abbrev S64x384 : Shape := ⟨2, ![64, 384]⟩
abbrev S1x1x384x64 : Shape := ⟨4, ![1, 1, 384, 64]⟩
abbrev S384x64 : Shape := ⟨2, ![384, 64]⟩
abbrev S256x384 : Shape := ⟨2, ![256, 384]⟩
abbrev S384x128 : Shape := ⟨2, ![384, 128]⟩
abbrev S1x256 : Shape := ⟨2, ![1, 256]⟩
abbrev S1024x256 : Shape := ⟨2, ![1024, 256]⟩
abbrev S1x1x64x256 : Shape := ⟨4, ![1, 1, 64, 256]⟩
abbrev S64x256 : Shape := ⟨2, ![64, 256]⟩
abbrev S1x1x256x64 : Shape := ⟨4, ![1, 1, 256, 64]⟩
abbrev S256x64 : Shape := ⟨2, ![256, 64]⟩
abbrev S256x256 : Shape := ⟨2, ![256, 256]⟩
abbrev S1x1x64x128 : Shape := ⟨4, ![1, 1, 64, 128]⟩
abbrev S64x128 : Shape := ⟨2, ![64, 128]⟩
abbrev S1x1x128x64 : Shape := ⟨4, ![1, 1, 128, 64]⟩
abbrev S128x64 : Shape := ⟨2, ![128, 64]⟩
abbrev S128x128 : Shape := ⟨2, ![128, 128]⟩
abbrev S1x1024 : Shape := ⟨2, ![1, 1024]⟩
abbrev S1024x192 : Shape := ⟨2, ![1024, 192]⟩
abbrev S1x1024x192 : Shape := ⟨3, ![1, 1024, 192]⟩
abbrev S128x512 : Shape := ⟨2, ![128, 512]⟩
abbrev S1x1x1x64x512 : Shape := ⟨5, ![1, 1, 1, 64, 512]⟩
abbrev S192x512 : Shape := ⟨2, ![192, 512]⟩
abbrev S1x1024x128 : Shape := ⟨3, ![1, 1024, 128]⟩
abbrev S1x1x1x512x128 : Shape := ⟨5, ![1, 1, 1, 512, 128]⟩
abbrev S1x1x1x64x256 : Shape := ⟨5, ![1, 1, 1, 64, 256]⟩
abbrev S1024x768 : Shape := ⟨2, ![1024, 768]⟩
abbrev S1x1x1x256x128 : Shape := ⟨5, ![1, 1, 1, 256, 128]⟩
abbrev S256x1 : Shape := ⟨2, ![256, 1]⟩
abbrev S1x1x1x256x64 : Shape := ⟨5, ![1, 1, 1, 256, 64]⟩

abbrev nBuf : Space → Nat
  | .hbm => 65
  | .vmem => 28
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x128, .f32⟩
  | .hbm, ⟨3, _⟩ => ⟨S2x4x64x512, .bf16⟩
  | .hbm, ⟨4, _⟩ => ⟨S2x4x512x64, .bf16⟩
  | .hbm, ⟨5, _⟩ => ⟨S2x32x256x4x4x64, .bf16⟩
  | .hbm, ⟨6, _⟩ => ⟨S2x4x32x4x256x64, .bf16⟩
  | .hbm, ⟨7, _⟩ => ⟨S2x4x32x1024x64, .bf16⟩
  | .hbm, ⟨8, _⟩ => ⟨S2x8192x256, .bf16⟩
  | .hbm, ⟨9, _⟩ => ⟨S2x16x512x4x64, .bf16⟩
  | .hbm, ⟨10, _⟩ => ⟨S2x4x16x512x64, .bf16⟩
  | .hbm, ⟨11, _⟩ => ⟨S2x4x16x64x512, .bf16⟩
  | .hbm, ⟨12, _⟩ => ⟨S2x8192x256, .bf16⟩
  | .hbm, ⟨13, _⟩ => ⟨S2x16x512x4x64, .bf16⟩
  | .hbm, ⟨14, _⟩ => ⟨S2x4x16x512x64, .bf16⟩
  | .hbm, ⟨15, _⟩ => ⟨S_, .bf16⟩
  | .hbm, ⟨16, _⟩ => ⟨S2x4x16x512x63, .bf16⟩
  | .hbm, ⟨17, _⟩ => ⟨S_, .bf16⟩
  | .hbm, ⟨18, _⟩ => ⟨S2x4x16x512x1, .bf16⟩
  | .hbm, ⟨19, _⟩ => ⟨S2x4x16x512x128, .bf16⟩
  | .hbm, ⟨20, _⟩ => ⟨S2x8192x256, .bf16⟩
  | .hbm, ⟨21, _⟩ => ⟨S2x32x256x4x64, .bf16⟩
  | .hbm, ⟨22, _⟩ => ⟨S2x4x32x256x64, .bf16⟩
  | .hbm, ⟨23, _⟩ => ⟨S2x4x32x64x256, .bf16⟩
  | .hbm, ⟨24, _⟩ => ⟨S2x8192x256, .bf16⟩
  | .hbm, ⟨25, _⟩ => ⟨S2x32x256x4x64, .bf16⟩
  | .hbm, ⟨26, _⟩ => ⟨S2x4x32x256x64, .bf16⟩
  | .hbm, ⟨27, _⟩ => ⟨S_, .bf16⟩
  | .hbm, ⟨28, _⟩ => ⟨S2x4x32x256x63, .bf16⟩
  | .hbm, ⟨29, _⟩ => ⟨S_, .bf16⟩
  | .hbm, ⟨30, _⟩ => ⟨S2x4x32x256x1, .bf16⟩
  | .hbm, ⟨31, _⟩ => ⟨S2x4x32x256x128, .bf16⟩
  | .hbm, ⟨32, _⟩ => ⟨S512, .i32⟩
  | .hbm, ⟨33, _⟩ => ⟨S512x1, .i32⟩
  | .hbm, ⟨34, _⟩ => ⟨S_, .i32⟩
  | .hbm, ⟨35, _⟩ => ⟨S512x1, .i32⟩
  | .hbm, ⟨36, _⟩ => ⟨S512x1, .i32⟩
  | .hbm, ⟨37, _⟩ => ⟨S128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S_, .i32⟩
  | .hbm, ⟨43, _⟩ => ⟨S512x1, .i32⟩
  | .hbm, ⟨44, _⟩ => ⟨S512x1, .i32⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S512x128, .i32⟩
  | .hbm, ⟨49, _⟩ => ⟨S512x128, .i32⟩
  | .hbm, ⟨50, _⟩ => ⟨S512x128, .i32⟩
  | .hbm, ⟨51, _⟩ => ⟨S512x128, .i32⟩
  | .hbm, ⟨52, _⟩ => ⟨S512x128, .i32⟩
  | .hbm, ⟨53, _⟩ => ⟨S512x128, .i32⟩
  | .hbm, ⟨54, _⟩ => ⟨S512x128, .i32⟩
  | .hbm, ⟨55, _⟩ => ⟨S_, .i32⟩
  | .hbm, ⟨56, _⟩ => ⟨S_, .i32⟩
  | .hbm, ⟨57, _⟩ => ⟨S512x128, .i32⟩
  | .hbm, ⟨58, _⟩ => ⟨S512x128, .i32⟩
  | .hbm, ⟨59, _⟩ => ⟨S512x128, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S512x128, .bf16⟩
  | .hbm, ⟨64, _⟩ => ⟨S2x4x32x1024x64, .bf16⟩
  | .local _ .vmem, ⟨0, _⟩ => ⟨S1x4x1x1024x64, .bf16⟩
  | .local _ .vmem, ⟨1, _⟩ => ⟨S1x4x1x1024x64, .bf16⟩
  | .local _ .vmem, ⟨2, _⟩ => ⟨S1x4x64x512, .bf16⟩
  | .local _ .vmem, ⟨3, _⟩ => ⟨S1x4x512x64, .bf16⟩
  | .local _ .vmem, ⟨4, _⟩ => ⟨S1x4x16x64x512, .bf16⟩
  | .local _ .vmem, ⟨5, _⟩ => ⟨S1x4x16x512x128, .bf16⟩
  | .local _ .vmem, ⟨6, _⟩ => ⟨S1x4x1x64x256, .bf16⟩
  | .local _ .vmem, ⟨7, _⟩ => ⟨S1x4x1x64x256, .bf16⟩
  | .local _ .vmem, ⟨8, _⟩ => ⟨S1x4x1x64x256, .bf16⟩
  | .local _ .vmem, ⟨9, _⟩ => ⟨S1x4x1x64x256, .bf16⟩
  | .local _ .vmem, ⟨10, _⟩ => ⟨S1x4x1x64x256, .bf16⟩
  | .local _ .vmem, ⟨11, _⟩ => ⟨S1x4x1x64x256, .bf16⟩
  | .local _ .vmem, ⟨12, _⟩ => ⟨S1x4x1x256x128, .bf16⟩
  | .local _ .vmem, ⟨13, _⟩ => ⟨S1x4x1x256x128, .bf16⟩
  | .local _ .vmem, ⟨14, _⟩ => ⟨S1x4x1x256x128, .bf16⟩
  | .local _ .vmem, ⟨15, _⟩ => ⟨S1x4x1x256x128, .bf16⟩
  | .local _ .vmem, ⟨16, _⟩ => ⟨S1x4x1x256x128, .bf16⟩
  | .local _ .vmem, ⟨17, _⟩ => ⟨S1x4x1x256x128, .bf16⟩
  | .local _ .vmem, ⟨18, _⟩ => ⟨S1x256x128, .f32⟩
  | .local _ .vmem, ⟨19, _⟩ => ⟨S1x256x128, .f32⟩
  | .local _ .vmem, ⟨20, _⟩ => ⟨S512x128, .bf16⟩
  | .local _ .vmem, ⟨21, _⟩ => ⟨S1x4x1x1024x64, .bf16⟩
  | .local _ .vmem, ⟨22, _⟩ => ⟨S1x4x1x1024x64, .bf16⟩
  | .local _ .vmem, ⟨23, _⟩ => ⟨S4x1024x64, .f32⟩
  | .local _ .vmem, ⟨24, _⟩ => ⟨S128x1024, .f32⟩
  | .local _ .vmem, ⟨25, _⟩ => ⟨S4x1024x192, .bf16⟩
  | .local _ .vmem, ⟨26, _⟩ => ⟨S4x1024x128, .f32⟩
  | .local _ .vmem, ⟨27, _⟩ => ⟨S4x1024x128, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_call0_v0 : Ref sig .tc := ⟨.hbm, 56, rfl⟩
abbrev main_call0_v1 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_30 : BitVec 32 := 0#32
  let c16_i32_31 : BitVec 32 := 16#32
  let v99 : BitVec 32 := Scalar.addi c0_i32_30 c16_i32_31
  let c1_i32_32 : BitVec 32 := 1#32
  ⟨c0_i32_30, v99, c1_i32_32⟩
@[reducible] def k0_t2_loop (i : grid0.Coords) : Scf.Loop 32 :=
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_83 : BitVec 32 := 1#32
  ⟨c0_i32_81, v178, c1_i32_83⟩
def k0_off1 (i : grid0.Coords) (k0_t2 : Fin (k0_t2_loop i).trips) : Fin 5 → Nat :=
  let c0_598 : Index := 0#32
  let c0_599 : Index := 0#32
  let c0_i32_81 : BitVec 32 := 0#32
  let c1_i32_83 : BitVec 32 := 1#32
  let arg21 : BitVec 32 := Scf.iv c0_i32_81 c1_i32_83 k0_t2
  let v1152 : Index := Scalar.indexCast arg21
  let c0_600 : Index := 0#32
  let c0_601 : Index := 0#32
  ![0, 0, v1152.toNat, 0, 0]
def k0_off2 (i : grid0.Coords) (k0_t2 : Fin (k0_t2_loop i).trips) : Fin 5 → Nat :=
  let c0_606 : Index := 0#32
  let c1_607 : Index := 1#32
  let c0_i32_81 : BitVec 32 := 0#32
  let c1_i32_83 : BitVec 32 := 1#32
  let arg21 : BitVec 32 := Scf.iv c0_i32_81 c1_i32_83 k0_t2
  let v1159 : Index := Scalar.indexCast arg21
  let c0_608 : Index := 0#32
  let c0_609 : Index := 0#32
  ![0, 1, v1159.toNat, 0, 0]
def k0_off3 (i : grid0.Coords) (k0_t2 : Fin (k0_t2_loop i).trips) : Fin 5 → Nat :=
  let c0_614 : Index := 0#32
  let c2_615 : Index := 2#32
  let c0_i32_81 : BitVec 32 := 0#32
  let c1_i32_83 : BitVec 32 := 1#32
  let arg21 : BitVec 32 := Scf.iv c0_i32_81 c1_i32_83 k0_t2
  let v1166 : Index := Scalar.indexCast arg21
  let c0_616 : Index := 0#32
  let c0_617 : Index := 0#32
  ![0, 2, v1166.toNat, 0, 0]
def k0_off4 (i : grid0.Coords) (k0_t2 : Fin (k0_t2_loop i).trips) : Fin 5 → Nat :=
  let c0_622 : Index := 0#32
  let c3_623 : Index := 3#32
  let c0_i32_81 : BitVec 32 := 0#32
  let c1_i32_83 : BitVec 32 := 1#32
  let arg21 : BitVec 32 := Scf.iv c0_i32_81 c1_i32_83 k0_t2
  let v1173 : Index := Scalar.indexCast arg21
  let c0_624 : Index := 0#32
  let c0_625 : Index := 0#32
  ![0, 3, v1173.toNat, 0, 0]
def k0_off5 (i : grid0.Coords) (k0_t2 : Fin (k0_t2_loop i).trips) : Fin 5 → Nat :=
  let c0_637 : Index := 0#32
  let c0_638 : Index := 0#32
  let c0_i32_81 : BitVec 32 := 0#32
  let c1_i32_83 : BitVec 32 := 1#32
  let arg21 : BitVec 32 := Scf.iv c0_i32_81 c1_i32_83 k0_t2
  let v1196 : Index := Scalar.indexCast arg21
  let c0_639 : Index := 0#32
  let c0_640 : Index := 0#32
  ![0, 0, v1196.toNat, 0, 0]
def k0_off6 (i : grid0.Coords) (k0_t2 : Fin (k0_t2_loop i).trips) : Fin 5 → Nat :=
  let c0_655 : Index := 0#32
  let c1_656 : Index := 1#32
  let c0_i32_81 : BitVec 32 := 0#32
  let c1_i32_83 : BitVec 32 := 1#32
  let arg21 : BitVec 32 := Scf.iv c0_i32_81 c1_i32_83 k0_t2
  let v1223 : Index := Scalar.indexCast arg21
  let c0_657 : Index := 0#32
  let c0_658 : Index := 0#32
  ![0, 1, v1223.toNat, 0, 0]
def k0_off7 (i : grid0.Coords) (k0_t2 : Fin (k0_t2_loop i).trips) : Fin 5 → Nat :=
  let c0_673 : Index := 0#32
  let c2_674 : Index := 2#32
  let c0_i32_81 : BitVec 32 := 0#32
  let c1_i32_83 : BitVec 32 := 1#32
  let arg21 : BitVec 32 := Scf.iv c0_i32_81 c1_i32_83 k0_t2
  let v1250 : Index := Scalar.indexCast arg21
  let c0_675 : Index := 0#32
  let c0_676 : Index := 0#32
  ![0, 2, v1250.toNat, 0, 0]
def k0_off8 (i : grid0.Coords) (k0_t2 : Fin (k0_t2_loop i).trips) : Fin 5 → Nat :=
  let c0_691 : Index := 0#32
  let c3_692 : Index := 3#32
  let c0_i32_81 : BitVec 32 := 0#32
  let c1_i32_83 : BitVec 32 := 1#32
  let arg21 : BitVec 32 := Scf.iv c0_i32_81 c1_i32_83 k0_t2
  let v1277 : Index := Scalar.indexCast arg21
  let c0_693 : Index := 0#32
  let c0_694 : Index := 0#32
  ![0, 3, v1277.toNat, 0, 0]
@[reducible] def k0_t3_loop (i : grid0.Coords) : Scf.Loop 32 :=
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let v175 : BitVec 32 := Scalar.addi c0_i32_81 v174
  let c1_i32_84 : BitVec 32 := 1#32
  ⟨v178, v175, c1_i32_84⟩
def k0_off9 (i : grid0.Coords) (k0_t3 : Fin (k0_t3_loop i).trips) : Fin 5 → Nat :=
  let c0_598 : Index := 0#32
  let c0_599 : Index := 0#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1152 : Index := Scalar.indexCast arg21
  let c0_600 : Index := 0#32
  let c0_601 : Index := 0#32
  ![0, 0, v1152.toNat, 0, 0]
def k0_off10 (i : grid0.Coords) (k0_t3 : Fin (k0_t3_loop i).trips) : Fin 5 → Nat :=
  let c0_606 : Index := 0#32
  let c1_607 : Index := 1#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1159 : Index := Scalar.indexCast arg21
  let c0_608 : Index := 0#32
  let c0_609 : Index := 0#32
  ![0, 1, v1159.toNat, 0, 0]
def k0_off11 (i : grid0.Coords) (k0_t3 : Fin (k0_t3_loop i).trips) : Fin 5 → Nat :=
  let c0_614 : Index := 0#32
  let c2_615 : Index := 2#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1166 : Index := Scalar.indexCast arg21
  let c0_616 : Index := 0#32
  let c0_617 : Index := 0#32
  ![0, 2, v1166.toNat, 0, 0]
def k0_off12 (i : grid0.Coords) (k0_t3 : Fin (k0_t3_loop i).trips) : Fin 5 → Nat :=
  let c0_622 : Index := 0#32
  let c3_623 : Index := 3#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1173 : Index := Scalar.indexCast arg21
  let c0_624 : Index := 0#32
  let c0_625 : Index := 0#32
  ![0, 3, v1173.toNat, 0, 0]
def k0_off13 (i : grid0.Coords) (k0_t3 : Fin (k0_t3_loop i).trips) : Fin 5 → Nat :=
  let c0_637 : Index := 0#32
  let c0_638 : Index := 0#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1196 : Index := Scalar.indexCast arg21
  let c0_639 : Index := 0#32
  let c0_640 : Index := 0#32
  ![0, 0, v1196.toNat, 0, 0]
def k0_off14 (i : grid0.Coords) (k0_t3 : Fin (k0_t3_loop i).trips) : Fin 5 → Nat :=
  let c0_655 : Index := 0#32
  let c1_656 : Index := 1#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1223 : Index := Scalar.indexCast arg21
  let c0_657 : Index := 0#32
  let c0_658 : Index := 0#32
  ![0, 1, v1223.toNat, 0, 0]
def k0_off15 (i : grid0.Coords) (k0_t3 : Fin (k0_t3_loop i).trips) : Fin 5 → Nat :=
  let c0_673 : Index := 0#32
  let c2_674 : Index := 2#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1250 : Index := Scalar.indexCast arg21
  let c0_675 : Index := 0#32
  let c0_676 : Index := 0#32
  ![0, 2, v1250.toNat, 0, 0]
def k0_off16 (i : grid0.Coords) (k0_t3 : Fin (k0_t3_loop i).trips) : Fin 5 → Nat :=
  let c0_691 : Index := 0#32
  let c3_692 : Index := 3#32
  let c0_i32_81 : BitVec 32 := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_79 : BitVec 32 := 1#32
  let v173 : BitVec 32 := Scalar.subi v160 c1_i32_79
  let v174 : BitVec 32 := Scalar.subi v173 c0_i32_81
  let c1_i32_82 : BitVec 32 := 1#32
  let v176 : BitVec 32 := Scalar.divsi v174 c1_i32_82
  let v177 : BitVec 32 := Scalar.muli v176 c1_i32_82
  let v178 : BitVec 32 := Scalar.addi c0_i32_81 v177
  let c1_i32_84 : BitVec 32 := 1#32
  let arg21 : BitVec 32 := Scf.iv v178 c1_i32_84 k0_t3
  let v1277 : Index := Scalar.indexCast arg21
  let c0_693 : Index := 0#32
  let c0_694 : Index := 0#32
  ![0, 3, v1277.toNat, 0, 0]
def k0_off17 (i : grid0.Coords) : Fin 5 → Nat :=
  let c0_96 : Index := 0#32
  let c0_97 : Index := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v212 : Index := Scalar.indexCast v179
  let c0_98 : Index := 0#32
  let c0_99 : Index := 0#32
  ![0, 0, v212.toNat, 0, 0]
def k0_off18 (i : grid0.Coords) : Fin 5 → Nat :=
  let c0_106 : Index := 0#32
  let c1_107 : Index := 1#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v227 : Index := Scalar.indexCast v179
  let c0_108 : Index := 0#32
  let c0_109 : Index := 0#32
  ![0, 1, v227.toNat, 0, 0]
def k0_off19 (i : grid0.Coords) : Fin 5 → Nat :=
  let c0_116 : Index := 0#32
  let c2_117 : Index := 2#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v242 : Index := Scalar.indexCast v179
  let c0_118 : Index := 0#32
  let c0_119 : Index := 0#32
  ![0, 2, v242.toNat, 0, 0]
def k0_off20 (i : grid0.Coords) : Fin 5 → Nat :=
  let c0_126 : Index := 0#32
  let c3_127 : Index := 3#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v257 : Index := Scalar.indexCast v179
  let c0_128 : Index := 0#32
  let c0_129 : Index := 0#32
  ![0, 3, v257.toNat, 0, 0]
def k0_off21 (i : grid0.Coords) : Fin 5 → Nat :=
  let c0_143 : Index := 0#32
  let c0_144 : Index := 0#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v288 : Index := Scalar.indexCast v179
  let c0_145 : Index := 0#32
  let c0_146 : Index := 0#32
  ![0, 0, v288.toNat, 0, 0]
def k0_off22 (i : grid0.Coords) : Fin 5 → Nat :=
  let c0_161 : Index := 0#32
  let c1_162 : Index := 1#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v315 : Index := Scalar.indexCast v179
  let c0_163 : Index := 0#32
  let c0_164 : Index := 0#32
  ![0, 1, v315.toNat, 0, 0]
def k0_off23 (i : grid0.Coords) : Fin 5 → Nat :=
  let c0_179 : Index := 0#32
  let c2_180 : Index := 2#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v342 : Index := Scalar.indexCast v179
  let c0_181 : Index := 0#32
  let c0_182 : Index := 0#32
  ![0, 2, v342.toNat, 0, 0]
def k0_off24 (i : grid0.Coords) : Fin 5 → Nat :=
  let c0_197 : Index := 0#32
  let c3_198 : Index := 3#32
  let arg1 : BitVec 32 := BitVec.ofNat 32 (i 1).val
  let c256_i32 : BitVec 32 := 256#32
  let v0 : BitVec 32 := Scalar.muli arg1 c256_i32
  let c256_i32_62 : BitVec 32 := 256#32
  let v141 : BitVec 32 := Scalar.addi v0 c256_i32_62
  let c512_i32 : BitVec 32 := 512#32
  let v142 : BitVec 32 := Scalar.addi v141 c512_i32
  let c1_i32_63 : BitVec 32 := 1#32
  let v143 : BitVec 32 := Scalar.subi v142 c1_i32_63
  let c0_i32_65 : BitVec 32 := 0#32
  let v145 : BitVec 1 := Scalar.cmpi .sgt v143 c0_i32_65
  let v146 : BitVec 32 := Scalar.extui v145
  let c0_i32_66 : BitVec 32 := 0#32
  let v147 : BitVec 1 := Scalar.cmpi .slt v143 c0_i32_66
  let v148 : BitVec 32 := Scalar.extui v147
  let v149 : BitVec 32 := Scalar.subi v146 v148
  let c512_i32_64 : BitVec 32 := 512#32
  let c0_i32_67 : BitVec 32 := 0#32
  let v150 : BitVec 1 := Scalar.cmpi .sgt c512_i32_64 c0_i32_67
  let v151 : BitVec 32 := Scalar.extui v150
  let c0_i32_68 : BitVec 32 := 0#32
  let v152 : BitVec 1 := Scalar.cmpi .slt c512_i32_64 c0_i32_68
  let v153 : BitVec 32 := Scalar.extui v152
  let v154 : BitVec 32 := Scalar.subi v151 v153
  let v155 : BitVec 1 := Scalar.cmpi .ne v149 v154
  let v156 : BitVec 32 := Scalar.remsi v143 c512_i32_64
  let c0_i32_69 : BitVec 32 := 0#32
  let v157 : BitVec 1 := Scalar.cmpi .ne v156 c0_i32_69
  let v158 : BitVec 1 := Scalar.andi v155 v157
  let v144 : BitVec 32 := Scalar.divsi v143 c512_i32_64
  let c1_i32_70 : BitVec 32 := 1#32
  let v159 : BitVec 32 := Scalar.subi v144 c1_i32_70
  let v160 : BitVec 32 := Scalar.select v158 v159 v144
  let c1_i32_85 : BitVec 32 := 1#32
  let v179 : BitVec 32 := Scalar.subi v160 c1_i32_85
  let v369 : Index := Scalar.indexCast v179
  let c0_199 : Index := 0#32
  let c0_200 : Index := 0#32
  ![0, 3, v369.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  let c0_i32_3 : BitVec 32 := 0#32
  let c0_i32_4 : BitVec 32 := 0#32
  ![arg0.toNat, c0_i32_1.toNat, v2.toNat, c0_i32_2.toNat, c0_i32_3.toNat]

def cc0_transform_6 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_7 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  let c0_i32_4 : BitVec 32 := 0#32
  ![arg0.toNat, c0_i32_1.toNat, v2.toNat, c0_i32_2.toNat, c0_i32_3.toNat]

def cc0_transform_8 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  let c0_i32_3 : BitVec 32 := 0#32
  let c0_i32_4 : BitVec 32 := 0#32
  ![arg0.toNat, c0_i32_1.toNat, v2.toNat, c0_i32_2.toNat, c0_i32_3.toNat]

def cc0_transform_9 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_10 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  let c0_i32_4 : BitVec 32 := 0#32
  ![arg0.toNat, c0_i32_1.toNat, v2.toNat, c0_i32_2.toNat, c0_i32_3.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x4x1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4x16x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x4x16x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x4x1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x4x1x1024x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "forced" => some ⊤
  | "masked" => some ⊥
  | _ => none
-- ==== ReferenceIdeal.lean ====
abbrev S2x8192x1024 : Shape := ⟨3, ![2, 8192, 1024]⟩
abbrev S2x8192x128 : Shape := ⟨3, ![2, 8192, 128]⟩
abbrev S2x4x64x512 : Shape := ⟨4, ![2, 4, 64, 512]⟩
abbrev S2x4x512x64 : Shape := ⟨4, ![2, 4, 512, 64]⟩
abbrev S2x8192x4x4x64 : Shape := ⟨5, ![2, 8192, 4, 4, 64]⟩
abbrev S2x8192x48 : Shape := ⟨3, ![2, 8192, 48]⟩
abbrev S2x8192x4x4x3 : Shape := ⟨5, ![2, 8192, 4, 4, 3]⟩
abbrev S8192 : Shape := ⟨1, ![8192]⟩
abbrev S512 : Shape := ⟨1, ![512]⟩
abbrev S_ : Shape := ⟨0, ![]⟩
abbrev S2x4x512x8192x4 : Shape := ⟨5, ![2, 4, 512, 8192, 4]⟩
abbrev S2x8192x4x4x512 : Shape := ⟨5, ![2, 8192, 4, 4, 512]⟩
abbrev S1x512 : Shape := ⟨2, ![1, 512]⟩
abbrev S8192x1 : Shape := ⟨2, ![8192, 1]⟩
abbrev S8192x512 : Shape := ⟨2, ![8192, 512]⟩
abbrev S1x8192x1x1x512 : Shape := ⟨5, ![1, 8192, 1, 1, 512]⟩
abbrev S2x8192x4x4 : Shape := ⟨4, ![2, 8192, 4, 4]⟩
abbrev S2x8192x4x4x1 : Shape := ⟨5, ![2, 8192, 4, 4, 1]⟩
abbrev S2x4x64x8192x4 : Shape := ⟨5, ![2, 4, 64, 8192, 4]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S2x8192x4x512 : Shape := ⟨4, ![2, 8192, 4, 512]⟩
abbrev S2x8192x4x128 : Shape := ⟨4, ![2, 8192, 4, 128]⟩
abbrev S8192x128 : Shape := ⟨2, ![8192, 128]⟩
abbrev S8192x1x128 : Shape := ⟨3, ![8192, 1, 128]⟩
abbrev S2x8192x4x16 : Shape := ⟨4, ![2, 8192, 4, 16]⟩
abbrev S2x8192x1x4x64 : Shape := ⟨5, ![2, 8192, 1, 4, 64]⟩
abbrev S2x8192x4x64 : Shape := ⟨4, ![2, 8192, 4, 64]⟩
abbrev S2x128x64x4x64 : Shape := ⟨5, ![2, 128, 64, 4, 64]⟩
abbrev S2 : Shape := ⟨1, ![2]⟩
abbrev S2x1x1x1 : Shape := ⟨4, ![2, 1, 1, 1]⟩
abbrev S4 : Shape := ⟨1, ![4]⟩
abbrev S1x1x4x1 : Shape := ⟨4, ![1, 1, 4, 1]⟩
abbrev S2x8192x4x16x1 : Shape := ⟨5, ![2, 8192, 4, 16, 1]⟩
abbrev S2x8192x4x16x3 : Shape := ⟨5, ![2, 8192, 4, 16, 3]⟩
abbrev S2x8192x4x16x64x64 : Shape := ⟨6, ![2, 8192, 4, 16, 64, 64]⟩
abbrev S2x8192x4x1024x64 : Shape := ⟨5, ![2, 8192, 4, 1024, 64]⟩
abbrev S64 : Shape := ⟨1, ![64]⟩
abbrev S1x1x1x1x64 : Shape := ⟨5, ![1, 1, 1, 1, 64]⟩
abbrev S2x8192x4x16x64 : Shape := ⟨5, ![2, 8192, 4, 16, 64]⟩
abbrev S1x8192x1x1x1 : Shape := ⟨5, ![1, 8192, 1, 1, 1]⟩
abbrev S2x8192x4x1x1024 : Shape := ⟨5, ![2, 8192, 4, 1, 1024]⟩
abbrev S2x8192x4x4x1024 : Shape := ⟨5, ![2, 8192, 4, 4, 1024]⟩
abbrev S1x8192 : Shape := ⟨2, ![1, 8192]⟩
abbrev S8192x8192 : Shape := ⟨2, ![8192, 8192]⟩
abbrev S1x8192x1x1x8192 : Shape := ⟨5, ![1, 8192, 1, 1, 8192]⟩
abbrev S2x4x8192x8192x4 : Shape := ⟨5, ![2, 4, 8192, 8192, 4]⟩
abbrev S2x8192x4x4x8192 : Shape := ⟨5, ![2, 8192, 4, 4, 8192]⟩
abbrev S2x32x256x4x4x64 : Shape := ⟨6, ![2, 32, 256, 4, 4, 64]⟩
abbrev S2x4x32x4x256x64 : Shape := ⟨6, ![2, 4, 32, 4, 256, 64]⟩
abbrev S2x4x32x1024x64 : Shape := ⟨5, ![2, 4, 32, 1024, 64]⟩

abbrev nBuf : Space → Nat
  | .hbm => 330
  | .vmem => 0
  | .smem => 0
  | _ => 0

abbrev hbmTy0_0 (i : Nat) : BufTy := match i % 128 with
  | 0 => ⟨S2x8192x1024, .bf16⟩
  | 1 => ⟨S2x8192x1024, .bf16⟩
  | 2 => ⟨S2x8192x128, .f32⟩
  | 3 => ⟨S2x4x64x512, .bf16⟩
  | 4 => ⟨S2x4x512x64, .bf16⟩
  | 5 => ⟨S2x8192x1024, .f32⟩
  | 6 => ⟨S2x8192x4x4x64, .f32⟩
  | 7 => ⟨S2x8192x1024, .f32⟩
  | 8 => ⟨S2x8192x4x4x64, .f32⟩
  | 9 => ⟨S2x4x64x512, .f32⟩
  | 10 => ⟨S2x4x512x64, .f32⟩
  | 11 => ⟨S2x8192x48, .f32⟩
  | 12 => ⟨S2x8192x4x4x3, .f32⟩
  | 13 => ⟨S8192, .i32⟩
  | 14 => ⟨S512, .i32⟩
  | 15 => ⟨S_, .i32⟩
  | 16 => ⟨S512, .i32⟩
  | 17 => ⟨S512, .i32⟩
  | 18 => ⟨S_, .i32⟩
  | 19 => ⟨S512, .i32⟩
  | 20 => ⟨S512, .i32⟩
  | 21 => ⟨S_, .i32⟩
  | 22 => ⟨S512, .i32⟩
  | 23 => ⟨S512, .i32⟩
  | 24 => ⟨S2x4x512x8192x4, .f32⟩
  | 25 => ⟨S2x8192x4x4x512, .f32⟩
  | 26 => ⟨S1x512, .i32⟩
  | 27 => ⟨S8192x1, .i32⟩
  | 28 => ⟨S8192x512, .i32⟩
  | 29 => ⟨S8192x512, .i32⟩
  | 30 => ⟨S8192x512, .i1⟩
  | 31 => ⟨S1x8192x1x1x512, .i1⟩
  | 32 => ⟨S_, .f32⟩
  | 33 => ⟨S_, .f32⟩
  | 34 => ⟨S2x8192x4x4x512, .i1⟩
  | 35 => ⟨S2x8192x4x4x512, .f32⟩
  | 36 => ⟨S2x8192x4x4x512, .f32⟩
  | 37 => ⟨S_, .f32⟩
  | 38 => ⟨S2x8192x4x4, .f32⟩
  | 39 => ⟨S2x8192x4x4x1, .f32⟩
  | 40 => ⟨S2x8192x4x4x1, .f32⟩
  | 41 => ⟨S_, .f32⟩
  | 42 => ⟨S2x8192x4x4x1, .f32⟩
  | 43 => ⟨S2x8192x4x4x1, .i1⟩
  | 44 => ⟨S_, .f32⟩
  | 45 => ⟨S_, .f32⟩
  | 46 => ⟨S2x8192x4x4x1, .f32⟩
  | 47 => ⟨S2x8192x4x4x1, .f32⟩
  | 48 => ⟨S2x8192x4x4x512, .f32⟩
  | 49 => ⟨S2x8192x4x4x512, .f32⟩
  | 50 => ⟨S2x8192x4x4x512, .f32⟩
  | 51 => ⟨S_, .f32⟩
  | 52 => ⟨S2x8192x4x4, .f32⟩
  | 53 => ⟨S2x8192x4x4x1, .f32⟩
  | 54 => ⟨S_, .f32⟩
  | 55 => ⟨S2x8192x4x4x1, .f32⟩
  | 56 => ⟨S2x8192x4x4x1, .f32⟩
  | 57 => ⟨S2x8192x4x4x512, .f32⟩
  | 58 => ⟨S2x8192x4x4x512, .f32⟩
  | 59 => ⟨S2x4x64x8192x4, .f32⟩
  | 60 => ⟨S2x8192x4x4x64, .f32⟩
  | 61 => ⟨S512, .i32⟩
  | 62 => ⟨S512x1, .i32⟩
  | 63 => ⟨S_, .i32⟩
  | 64 => ⟨S512x1, .i32⟩
  | 65 => ⟨S512x1, .i32⟩
  | 66 => ⟨S128, .i32⟩
  | 67 => ⟨S1x128, .i32⟩
  | 68 => ⟨S_, .i32⟩
  | 69 => ⟨S1x128, .i32⟩
  | 70 => ⟨S1x128, .i32⟩
  | 71 => ⟨S_, .i32⟩
  | 72 => ⟨S512x1, .i32⟩
  | 73 => ⟨S512x1, .i32⟩
  | 74 => ⟨S_, .i32⟩
  | 75 => ⟨S1x128, .i32⟩
  | 76 => ⟨S1x128, .i32⟩
  | 77 => ⟨S512x128, .i32⟩
  | 78 => ⟨S512x128, .i32⟩
  | 79 => ⟨S512x128, .i32⟩
  | 80 => ⟨S512x128, .i32⟩
  | 81 => ⟨S512x128, .i32⟩
  | 82 => ⟨S512x128, .i32⟩
  | 83 => ⟨S512x128, .i32⟩
  | 84 => ⟨S_, .i32⟩
  | 85 => ⟨S512x128, .i32⟩
  | 86 => ⟨S512x128, .i32⟩
  | 87 => ⟨S512x128, .f32⟩
  | 88 => ⟨S_, .f32⟩
  | 89 => ⟨S512x128, .f32⟩
  | 90 => ⟨S512x128, .f32⟩
  | 91 => ⟨S_, .f32⟩
  | 92 => ⟨S2x8192x4x512, .f32⟩
  | 93 => ⟨S2x8192x4x128, .f32⟩
  | 94 => ⟨S128, .i32⟩
  | 95 => ⟨S1x128, .i32⟩
  | 96 => ⟨S_, .i32⟩
  | 97 => ⟨S_, .i32⟩
  | 98 => ⟨S8192, .i32⟩
  | 99 => ⟨S8192, .i32⟩
  | 100 => ⟨S8192, .i32⟩
  | 101 => ⟨S_, .i32⟩
  | 102 => ⟨S8192, .i32⟩
  | 103 => ⟨S8192, .i1⟩
  | 104 => ⟨S8192, .i32⟩
  | 105 => ⟨S8192, .i32⟩
  | 106 => ⟨S_, .i32⟩
  | 107 => ⟨S8192, .i32⟩
  | 108 => ⟨S8192, .i1⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S_, .i32⟩
  | 116 => ⟨S1x128, .i32⟩
  | 117 => ⟨S1x128, .i32⟩
  | 118 => ⟨S8192x1, .i32⟩
  | 119 => ⟨S8192x128, .i32⟩
  | 120 => ⟨S8192x128, .i32⟩
  | 121 => ⟨S8192x128, .i1⟩
  | 122 => ⟨S8192x1x128, .i1⟩
  | 123 => ⟨S_, .i32⟩
  | 124 => ⟨S1x128, .i32⟩
  | 125 => ⟨S1x128, .i1⟩
  | 126 => ⟨S8192x128, .i32⟩
  | 127 => ⟨S8192x128, .i32⟩
  | _ => ⟨S2x8192x1024, .bf16⟩

abbrev hbmTy0_1 (i : Nat) : BufTy := match i % 128 with
  | 0 => ⟨S8192x128, .i1⟩
  | 1 => ⟨S8192x128, .i1⟩
  | 2 => ⟨S8192x128, .i1⟩
  | 3 => ⟨S_, .i32⟩
  | 4 => ⟨S8192x1, .i32⟩
  | 5 => ⟨S8192x1, .i32⟩
  | 6 => ⟨S8192x128, .i32⟩
  | 7 => ⟨S8192x128, .i32⟩
  | 8 => ⟨S8192x128, .i1⟩
  | 9 => ⟨S8192x128, .i1⟩
  | 10 => ⟨S8192x1x128, .i1⟩
  | 11 => ⟨S_, .f32⟩
  | 12 => ⟨S_, .f32⟩
  | 13 => ⟨S2x8192x4x128, .i1⟩
  | 14 => ⟨S2x8192x4x128, .f32⟩
  | 15 => ⟨S2x8192x4x128, .f32⟩
  | 16 => ⟨S_, .f32⟩
  | 17 => ⟨S_, .f32⟩
  | 18 => ⟨S2x8192x4x128, .i1⟩
  | 19 => ⟨S2x8192x4x128, .f32⟩
  | 20 => ⟨S2x8192x4x128, .f32⟩
  | 21 => ⟨S2x8192x4x16, .f32⟩
  | 22 => ⟨S2x8192x4x16, .i32⟩
  | 23 => ⟨S_, .f32⟩
  | 24 => ⟨S2x8192x4x16, .f32⟩
  | 25 => ⟨S2x8192x4x16, .i1⟩
  | 26 => ⟨S2x8192x1x4x64, .f32⟩
  | 27 => ⟨S2x8192x4x64, .f32⟩
  | 28 => ⟨S2x128x64x4x64, .f32⟩
  | 29 => ⟨S2x8192x1x4x64, .f32⟩
  | 30 => ⟨S2x8192x4x64, .f32⟩
  | 31 => ⟨S2x128x64x4x64, .f32⟩
  | 32 => ⟨S2, .i32⟩
  | 33 => ⟨S2x1x1x1, .i32⟩
  | 34 => ⟨S4, .i32⟩
  | 35 => ⟨S1x1x4x1, .i32⟩
  | 36 => ⟨S_, .i32⟩
  | 37 => ⟨S2x1x1x1, .i32⟩
  | 38 => ⟨S2x1x1x1, .i1⟩
  | 39 => ⟨S_, .i32⟩
  | 40 => ⟨S2x1x1x1, .i32⟩
  | 41 => ⟨S2x1x1x1, .i32⟩
  | 42 => ⟨S2x1x1x1, .i32⟩
  | 43 => ⟨S_, .i32⟩
  | 44 => ⟨S2x8192x4x16, .i32⟩
  | 45 => ⟨S2x8192x4x16, .i1⟩
  | 46 => ⟨S_, .i32⟩
  | 47 => ⟨S2x8192x4x16, .i32⟩
  | 48 => ⟨S2x8192x4x16, .i32⟩
  | 49 => ⟨S2x8192x4x16, .i32⟩
  | 50 => ⟨S_, .i32⟩
  | 51 => ⟨S1x1x4x1, .i32⟩
  | 52 => ⟨S1x1x4x1, .i1⟩
  | 53 => ⟨S_, .i32⟩
  | 54 => ⟨S1x1x4x1, .i32⟩
  | 55 => ⟨S1x1x4x1, .i32⟩
  | 56 => ⟨S1x1x4x1, .i32⟩
  | 57 => ⟨S2x8192x4x16, .i32⟩
  | 58 => ⟨S2x8192x4x16, .i32⟩
  | 59 => ⟨S2x8192x4x16x1, .i32⟩
  | 60 => ⟨S2x8192x4x16x1, .i32⟩
  | 61 => ⟨S2x8192x4x16x1, .i32⟩
  | 62 => ⟨S2x8192x4x16x3, .i32⟩
  | 63 => ⟨S2x8192x4x16x64x64, .f32⟩
  | 64 => ⟨S2x8192x4x1024x64, .f32⟩
  | 65 => ⟨S_, .i32⟩
  | 66 => ⟨S2x1x1x1, .i32⟩
  | 67 => ⟨S2x1x1x1, .i1⟩
  | 68 => ⟨S_, .i32⟩
  | 69 => ⟨S2x1x1x1, .i32⟩
  | 70 => ⟨S2x1x1x1, .i32⟩
  | 71 => ⟨S2x1x1x1, .i32⟩
  | 72 => ⟨S_, .i32⟩
  | 73 => ⟨S2x8192x4x16, .i32⟩
  | 74 => ⟨S2x8192x4x16, .i1⟩
  | 75 => ⟨S_, .i32⟩
  | 76 => ⟨S2x8192x4x16, .i32⟩
  | 77 => ⟨S2x8192x4x16, .i32⟩
  | 78 => ⟨S2x8192x4x16, .i32⟩
  | 79 => ⟨S_, .i32⟩
  | 80 => ⟨S1x1x4x1, .i32⟩
  | 81 => ⟨S1x1x4x1, .i1⟩
  | 82 => ⟨S_, .i32⟩
  | 83 => ⟨S1x1x4x1, .i32⟩
  | 84 => ⟨S1x1x4x1, .i32⟩
  | 85 => ⟨S1x1x4x1, .i32⟩
  | 86 => ⟨S2x8192x4x16, .i32⟩
  | 87 => ⟨S2x8192x4x16, .i32⟩
  | 88 => ⟨S2x8192x4x16x1, .i32⟩
  | 89 => ⟨S2x8192x4x16x1, .i32⟩
  | 90 => ⟨S2x8192x4x16x1, .i32⟩
  | 91 => ⟨S2x8192x4x16x3, .i32⟩
  | 92 => ⟨S2x8192x4x16x64x64, .f32⟩
  | 93 => ⟨S2x8192x4x1024x64, .f32⟩
  | 94 => ⟨S2x8192x4x16x1, .i32⟩
  | 95 => ⟨S_, .i32⟩
  | 96 => ⟨S2x8192x4x16x1, .i32⟩
  | 97 => ⟨S2x8192x4x16x1, .i32⟩
  | 98 => ⟨S64, .i32⟩
  | 99 => ⟨S1x1x1x1x64, .i32⟩
  | 100 => ⟨S2x8192x4x16x64, .i32⟩
  | 101 => ⟨S2x8192x4x16x64, .i32⟩
  | 102 => ⟨S2x8192x4x16x64, .i32⟩
  | 103 => ⟨S2x8192x4x16x1, .i1⟩
  | 104 => ⟨S1x8192x1x1x1, .i32⟩
  | 105 => ⟨S2x8192x4x16x64, .i32⟩
  | 106 => ⟨S2x8192x4x16x64, .i1⟩
  | 107 => ⟨S2x8192x4x16x64, .i1⟩
  | 108 => ⟨S2x8192x4x16x64, .i1⟩
  | 109 => ⟨S2x8192x4x1x1024, .i1⟩
  | 110 => ⟨S2x8192x4x4x1024, .f32⟩
  | 111 => ⟨S_, .f32⟩
  | 112 => ⟨S_, .f32⟩
  | 113 => ⟨S2x8192x4x4x1024, .i1⟩
  | 114 => ⟨S2x8192x4x4x1024, .f32⟩
  | 115 => ⟨S2x8192x4x4x1024, .f32⟩
  | 116 => ⟨S_, .f32⟩
  | 117 => ⟨S2x8192x4x4, .f32⟩
  | 118 => ⟨S2x8192x4x4x1, .f32⟩
  | 119 => ⟨S2x8192x4x4x1, .f32⟩
  | 120 => ⟨S_, .f32⟩
  | 121 => ⟨S2x8192x4x4x1, .f32⟩
  | 122 => ⟨S2x8192x4x4x1, .i1⟩
  | 123 => ⟨S_, .f32⟩
  | 124 => ⟨S_, .f32⟩
  | 125 => ⟨S2x8192x4x4x1, .f32⟩
  | 126 => ⟨S2x8192x4x4x1, .f32⟩
  | 127 => ⟨S2x8192x4x4x1024, .f32⟩
  | _ => ⟨S2x8192x1024, .bf16⟩

abbrev hbmTy0_2 (i : Nat) : BufTy := match i % 128 with
  | 0 => ⟨S2x8192x4x4x1024, .f32⟩
  | 1 => ⟨S2x8192x4x4x1024, .f32⟩
  | 2 => ⟨S_, .f32⟩
  | 3 => ⟨S2x8192x4x4, .f32⟩
  | 4 => ⟨S2x8192x4x4x1, .f32⟩
  | 5 => ⟨S_, .f32⟩
  | 6 => ⟨S2x8192x4x4x1, .f32⟩
  | 7 => ⟨S2x8192x4x4x1, .f32⟩
  | 8 => ⟨S2x8192x4x4x1024, .f32⟩
  | 9 => ⟨S2x8192x4x4x1024, .f32⟩
  | 10 => ⟨S2x8192x4x4x64, .f32⟩
  | 11 => ⟨S8192x1, .i32⟩
  | 12 => ⟨S1x8192, .i32⟩
  | 13 => ⟨S8192x8192, .i32⟩
  | 14 => ⟨S8192x8192, .i32⟩
  | 15 => ⟨S8192x8192, .i32⟩
  | 16 => ⟨S_, .i32⟩
  | 17 => ⟨S8192x8192, .i32⟩
  | 18 => ⟨S8192x8192, .i1⟩
  | 19 => ⟨S_, .i32⟩
  | 20 => ⟨S8192x8192, .i32⟩
  | 21 => ⟨S8192x8192, .i1⟩
  | 22 => ⟨S8192x8192, .i1⟩
  | 23 => ⟨S1x8192x1x1x8192, .i1⟩
  | 24 => ⟨S2x8192x1x4x64, .f32⟩
  | 25 => ⟨S2x8192x4x64, .f32⟩
  | 26 => ⟨S2x4x8192x8192x4, .f32⟩
  | 27 => ⟨S2x8192x4x4x8192, .f32⟩
  | 28 => ⟨S_, .f32⟩
  | 29 => ⟨S_, .f32⟩
  | 30 => ⟨S2x8192x4x4x8192, .i1⟩
  | 31 => ⟨S2x8192x4x4x8192, .f32⟩
  | 32 => ⟨S2x8192x4x4x8192, .f32⟩
  | 33 => ⟨S_, .f32⟩
  | 34 => ⟨S2x8192x4x4, .f32⟩
  | 35 => ⟨S2x8192x4x4x1, .f32⟩
  | 36 => ⟨S2x8192x4x4x1, .f32⟩
  | 37 => ⟨S_, .f32⟩
  | 38 => ⟨S2x8192x4x4x1, .f32⟩
  | 39 => ⟨S2x8192x4x4x1, .i1⟩
  | 40 => ⟨S_, .f32⟩
  | 41 => ⟨S_, .f32⟩
  | 42 => ⟨S2x8192x4x4x1, .f32⟩
  | 43 => ⟨S2x8192x4x4x1, .f32⟩
  | 44 => ⟨S2x8192x4x4x8192, .f32⟩
  | 45 => ⟨S2x8192x4x4x8192, .f32⟩
  | 46 => ⟨S2x8192x4x4x8192, .f32⟩
  | 47 => ⟨S_, .f32⟩
  | 48 => ⟨S2x8192x4x4, .f32⟩
  | 49 => ⟨S2x8192x4x4x1, .f32⟩
  | 50 => ⟨S_, .f32⟩
  | 51 => ⟨S2x8192x4x4x1, .f32⟩
  | 52 => ⟨S2x8192x4x4x1, .f32⟩
  | 53 => ⟨S2x8192x4x4x8192, .f32⟩
  | 54 => ⟨S2x8192x4x4x8192, .f32⟩
  | 55 => ⟨S2x8192x1x4x64, .f32⟩
  | 56 => ⟨S2x8192x4x64, .f32⟩
  | 57 => ⟨S2x4x64x8192x4, .f32⟩
  | 58 => ⟨S2x8192x4x4x64, .f32⟩
  | 59 => ⟨S2x8192x4x4x1, .f32⟩
  | 60 => ⟨S2x8192x4x4x64, .f32⟩
  | 61 => ⟨S2x8192x4x4x64, .f32⟩
  | 62 => ⟨S2x8192x4x4x1, .f32⟩
  | 63 => ⟨S2x8192x4x4x64, .f32⟩
  | 64 => ⟨S2x8192x4x4x64, .f32⟩
  | 65 => ⟨S2x8192x4x4x64, .f32⟩
  | 66 => ⟨S2x8192x4x4x1, .f32⟩
  | 67 => ⟨S2x8192x4x4x64, .f32⟩
  | 68 => ⟨S2x8192x4x4x64, .f32⟩
  | 69 => ⟨S2x8192x4x4x64, .f32⟩
  | 70 => ⟨S2x32x256x4x4x64, .f32⟩
  | 71 => ⟨S2x4x32x4x256x64, .f32⟩
  | 72 => ⟨S2x4x32x1024x64, .f32⟩
  | 73 => ⟨S2x4x32x1024x64, .bf16⟩
  | _ => ⟨S2x8192x1024, .bf16⟩

abbrev hbmTy (i : Nat) : BufTy := match i / 128 with
  | 0 => hbmTy0_0 i
  | 1 => hbmTy0_1 i
  | 2 => hbmTy0_2 i
  | _ => ⟨S2x8192x1024, .bf16⟩

abbrev bufTy : (tb : Table) → Fin (tcTables nBuf tb) → BufTy
  | .hbm, ⟨i, _⟩ => hbmTy i
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v70 : Ref sig .tc := ⟨.hbm, 113, rfl⟩
abbrev main_v71 : Ref sig .tc := ⟨.hbm, 114, rfl⟩
abbrev main_c_15 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_16 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_17 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_18 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v93 : Ref sig .tc := ⟨.hbm, 143, rfl⟩
abbrev main_cst_19 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_v94 : Ref sig .tc := ⟨.hbm, 148, rfl⟩
abbrev main_values : Ref sig .tc := ⟨.hbm, 149, rfl⟩
abbrev main_indices : Ref sig .tc := ⟨.hbm, 150, rfl⟩
abbrev main_cst_20 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_21 : Ref sig .tc := ⟨.hbm, 164, rfl⟩
abbrev main_v107 : Ref sig .tc := ⟨.hbm, 165, rfl⟩
abbrev main_v108 : Ref sig .tc := ⟨.hbm, 166, rfl⟩
abbrev main_c_22 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_23 : Ref sig .tc := ⟨.hbm, 171, rfl⟩
abbrev main_v112 : Ref sig .tc := ⟨.hbm, 172, rfl⟩
abbrev main_v113 : Ref sig .tc := ⟨.hbm, 173, rfl⟩
abbrev main_c_24 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_25 : Ref sig .tc := ⟨.hbm, 178, rfl⟩
abbrev main_v117 : Ref sig .tc := ⟨.hbm, 179, rfl⟩
abbrev main_v118 : Ref sig .tc := ⟨.hbm, 180, rfl⟩
abbrev main_c_26 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_c_27 : Ref sig .tc := ⟨.hbm, 193, rfl⟩
abbrev main_v130 : Ref sig .tc := ⟨.hbm, 194, rfl⟩
abbrev main_v131 : Ref sig .tc := ⟨.hbm, 195, rfl⟩
abbrev main_c_28 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_29 : Ref sig .tc := ⟨.hbm, 200, rfl⟩
abbrev main_v135 : Ref sig .tc := ⟨.hbm, 201, rfl⟩
abbrev main_v136 : Ref sig .tc := ⟨.hbm, 202, rfl⟩
abbrev main_c_30 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_c_31 : Ref sig .tc := ⟨.hbm, 207, rfl⟩
abbrev main_v140 : Ref sig .tc := ⟨.hbm, 208, rfl⟩
abbrev main_v141 : Ref sig .tc := ⟨.hbm, 209, rfl⟩
abbrev main_c_32 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_c_33 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_cst_34 : Ref sig .tc := ⟨.hbm, 239, rfl⟩
abbrev main_call5_v0 : Ref sig .tc := ⟨.hbm, 240, rfl⟩
abbrev main_call5_v1 : Ref sig .tc := ⟨.hbm, 241, rfl⟩
abbrev main_call5_v2 : Ref sig .tc := ⟨.hbm, 242, rfl⟩
abbrev main_v169 : Ref sig .tc := ⟨.hbm, 243, rfl⟩
abbrev main_cst_35 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_cst_36 : Ref sig .tc := ⟨.hbm, 248, rfl⟩
abbrev main_v173 : Ref sig .tc := ⟨.hbm, 249, rfl⟩
abbrev main_v174 : Ref sig .tc := ⟨.hbm, 250, rfl⟩
abbrev main_cst_37 : Ref sig .tc := ⟨.hbm, 251, rfl⟩
abbrev main_call6_v0 : Ref sig .tc := ⟨.hbm, 252, rfl⟩
abbrev main_call6_v1 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_cst_38 : Ref sig .tc := ⟨.hbm, 258, rfl⟩
abbrev main_v179 : Ref sig .tc := ⟨.hbm, 259, rfl⟩
abbrev main_v180 : Ref sig .tc := ⟨.hbm, 260, rfl⟩
abbrev main_cst_39 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_c_40 : Ref sig .tc := ⟨.hbm, 272, rfl⟩
abbrev main_v191 : Ref sig .tc := ⟨.hbm, 273, rfl⟩
abbrev main_v192 : Ref sig .tc := ⟨.hbm, 274, rfl⟩
abbrev main_c_41 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_cst_42 : Ref sig .tc := ⟨.hbm, 284, rfl⟩
abbrev main_call7_v0 : Ref sig .tc := ⟨.hbm, 285, rfl⟩
abbrev main_call7_v1 : Ref sig .tc := ⟨.hbm, 286, rfl⟩
abbrev main_call7_v2 : Ref sig .tc := ⟨.hbm, 287, rfl⟩
abbrev main_v201 : Ref sig .tc := ⟨.hbm, 288, rfl⟩
abbrev main_cst_43 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_cst_44 : Ref sig .tc := ⟨.hbm, 293, rfl⟩
abbrev main_v205 : Ref sig .tc := ⟨.hbm, 294, rfl⟩
abbrev main_v206 : Ref sig .tc := ⟨.hbm, 295, rfl⟩
abbrev main_cst_45 : Ref sig .tc := ⟨.hbm, 296, rfl⟩
abbrev main_call8_v0 : Ref sig .tc := ⟨.hbm, 297, rfl⟩
abbrev main_call8_v1 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_cst_46 : Ref sig .tc := ⟨.hbm, 303, rfl⟩
abbrev main_v211 : Ref sig .tc := ⟨.hbm, 304, rfl⟩
abbrev main_v212 : Ref sig .tc := ⟨.hbm, 305, rfl⟩
abbrev main_cst_47 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩

abbrev nD : Nat := 1
abbrev τ : Topo := Topo.v7x

variable {F : FTy → Type} [FloatOps F]
-- ==== FfnKernel.lean ====
abbrev S2x8192x1024 : Shape := ⟨3, ![2, 8192, 1024]⟩
abbrev S2x1x1024 : Shape := ⟨3, ![2, 1, 1024]⟩
abbrev S1024x2816 : Shape := ⟨2, ![1024, 2816]⟩
abbrev S2816x1024 : Shape := ⟨2, ![2816, 1024]⟩
abbrev S1024 : Shape := ⟨1, ![1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S1024x2816, .bf16⟩
  | .hbm, ⟨13, _⟩ => ⟨S1024x11x256, .bf16⟩
  | .hbm, ⟨14, _⟩ => ⟨S11x1024x256, .bf16⟩
  | .hbm, ⟨15, _⟩ => ⟨S2816x1024, .bf16⟩
  | .hbm, ⟨16, _⟩ => ⟨S11x256x1024, .bf16⟩
  | .hbm, ⟨17, _⟩ => ⟨S1x1024, .f32⟩
  | .hbm, ⟨18, _⟩ => ⟨S1x1024, .f32⟩
  | .hbm, ⟨19, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S2x8192x1024 : Shape := ⟨3, ![2, 8192, 1024]⟩
abbrev S2x1x1024 : Shape := ⟨3, ![2, 1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== SsdProject.lean ====
abbrev S2x8192x1024 : Shape := ⟨3, ![2, 8192, 1024]⟩
abbrev S2x1x1024 : Shape := ⟨3, ![2, 1, 1024]⟩
abbrev S1024x5152 : Shape := ⟨2, ![1024, 5152]⟩
abbrev S_ : Shape := ⟨0, ![]⟩
abbrev S1024x5248 : Shape := ⟨2, ![1024, 5248]⟩
abbrev S2x8192x2048 : Shape := ⟨3, ![2, 8192, 2048]⟩
abbrev S2x8192x3072 : Shape := ⟨3, ![2, 8192, 3072]⟩
abbrev S2x8192x128 : Shape := ⟨3, ![2, 8192, 128]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x3072 : Shape := ⟨3, ![1, 512, 3072]⟩
abbrev S1x512x128 : Shape := ⟨3, ![1, 512, 128]⟩
abbrev S512x1024 : Shape := ⟨2, ![512, 1024]⟩
abbrev S1x1024 : Shape := ⟨2, ![1, 1024]⟩
abbrev S1024x2048 : Shape := ⟨2, ![1024, 2048]⟩
abbrev S512x2048 : Shape := ⟨2, ![512, 2048]⟩
abbrev S1024x3072 : Shape := ⟨2, ![1024, 3072]⟩
abbrev S512x3072 : Shape := ⟨2, ![512, 3072]⟩
abbrev S1024x128 : Shape := ⟨2, ![1024, 128]⟩
abbrev S512x128 : Shape := ⟨2, ![512, 128]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x5152, .f32⟩
  | .hbm, ⟨4, _⟩ => ⟨S_, .i32⟩
  | .hbm, ⟨5, _⟩ => ⟨S_, .f32⟩
  | .hbm, ⟨6, _⟩ => ⟨S1024x5248, .f32⟩
  | .hbm, ⟨7, _⟩ => ⟨S1024x5248, .bf16⟩
  | .hbm, ⟨8, _⟩ => ⟨S2x8192x2048, .f32⟩
  | .hbm, ⟨9, _⟩ => ⟨S2x8192x3072, .f32⟩
  | .hbm, ⟨10, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x5248, .bf16⟩
  | .local _ .vmem, ⟨7, _⟩ => ⟨S1x512x2048, .f32⟩
  | .local _ .vmem, ⟨8, _⟩ => ⟨S1x512x2048, .f32⟩
  | .local _ .vmem, ⟨9, _⟩ => ⟨S1x512x3072, .f32⟩
  | .local _ .vmem, ⟨10, _⟩ => ⟨S1x512x3072, .f32⟩
  | .local _ .vmem, ⟨11, _⟩ => ⟨S1x512x128, .f32⟩
  | .local _ .vmem, ⟨12, _⟩ => ⟨S1x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsdProjectReferenceIdeal.lean ====
abbrev S2x8192x1024 : Shape := ⟨3, ![2, 8192, 1024]⟩
abbrev S2x1x1024 : Shape := ⟨3, ![2, 1, 1024]⟩
abbrev S1024x5152 : Shape := ⟨2, ![1024, 5152]⟩
abbrev S_ : Shape := ⟨0, ![]⟩
abbrev S2x8192x5152 : Shape := ⟨3, ![2, 8192, 5152]⟩
abbrev S2x8192x32 : Shape := ⟨3, ![2, 8192, 32]⟩
abbrev S2x8192x128 : Shape := ⟨3, ![2, 8192, 128]⟩
abbrev S2x8192x2048 : Shape := ⟨3, ![2, 8192, 2048]⟩
abbrev S2x8192x3072 : Shape := ⟨3, ![2, 8192, 3072]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x5152, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x5152, .f32⟩
  | .hbm, ⟨12, _⟩ => ⟨S2x8192x32, .f32⟩
  | .hbm, ⟨13, _⟩ => ⟨S_, .i32⟩
  | .hbm, ⟨14, _⟩ => ⟨S_, .f32⟩
  | .hbm, ⟨15, _⟩ => ⟨S2x8192x128, .f32⟩
  | .hbm, ⟨16, _⟩ => ⟨S2x8192x2048, .f32⟩
  | .hbm, ⟨17, _⟩ => ⟨S2x8192x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== SsdOut.lean ====
abbrev S2x8192x2048 : Shape := ⟨3, ![2, 8192, 2048]⟩
abbrev S2x8192x1024 : Shape := ⟨3, ![2, 8192, 1024]⟩
abbrev S2x1x1024 : Shape := ⟨3, ![2, 1, 1024]⟩
abbrev S2048x1024 : Shape := ⟨2, ![2048, 1024]⟩
abbrev S1024 : Shape := ⟨1, ![1024]⟩
abbrev S1x1024 : Shape := ⟨2, ![1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1024, .f32⟩
  | .hbm, ⟨2, _⟩ => ⟨S2x1x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsdOutIdeal.lean ====
abbrev S2x8192x2048 : Shape := ⟨3, ![2, 8192, 2048]⟩
abbrev S2x8192x1024 : Shape := ⟨3, ![2, 8192, 1024]⟩
abbrev S2x1x1024 : Shape := ⟨3, ![2, 1, 1024]⟩
abbrev S2048x1024 : Shape := ⟨2, ![2048, 1024]⟩
abbrev S1024 : Shape := ⟨1, ![1024]⟩
abbrev S1x1024 : Shape := ⟨2, ![1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1024, .f32⟩
  | .hbm, ⟨2, _⟩ => ⟨S2x1x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsdOutReferenceIdeal.lean ====
abbrev S2x8192x2048 : Shape := ⟨3, ![2, 8192, 2048]⟩
abbrev S2x8192x1024 : Shape := ⟨3, ![2, 8192, 1024]⟩
abbrev S2x1x1024 : Shape := ⟨3, ![2, 1, 1024]⟩
abbrev S2048x1024 : Shape := ⟨2, ![2048, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1024, .f32⟩
  | .hbm, ⟨2, _⟩ => ⟨S2x1x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x8192x2048, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== NsaOut.lean ====
abbrev S2x8192x1024 : Shape := ⟨3, ![2, 8192, 1024]⟩
abbrev S2x1x1024 : Shape := ⟨3, ![2, 1, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NsaOutReferenceIdeal.lean ====
abbrev S2x8192x1024 : Shape := ⟨3, ![2, 8192, 1024]⟩
abbrev S2x1x1024 : Shape := ⟨3, ![2, 1, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== FfnSample.lean ====
abbrev S32x4x1024 : Shape := ⟨3, ![32, 4, 1024]⟩
abbrev S32x1x1024 : Shape := ⟨3, ![32, 1, 1024]⟩
abbrev S1024x2816 : Shape := ⟨2, ![1024, 2816]⟩
abbrev S2816x1024 : Shape := ⟨2, ![2816, 1024]⟩
abbrev S1024 : Shape := ⟨1, ![1024]⟩
abbrev S1x128x1024 : Shape := ⟨3, ![1, 128, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S128x1024 : Shape := ⟨2, ![128, 1024]⟩
abbrev S1x1024x256 : Shape := ⟨3, ![1, 1024, 256]⟩
abbrev S1024x256 : Shape := ⟨2, ![1024, 256]⟩
abbrev S128x256 : Shape := ⟨2, ![128, 256]⟩
abbrev S1x256x1024 : Shape := ⟨3, ![1, 256, 1024]⟩
abbrev S256x1024 : Shape := ⟨2, ![256, 1024]⟩
abbrev S128 : Shape := ⟨1, ![128]⟩
abbrev S128x1 : Shape := ⟨2, ![128, 1]⟩

abbrev nBuf : Space → Nat
  | .hbm => 27
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S32x4x1024, .f32⟩
  | .hbm, ⟨10, _⟩ => ⟨S1x128x1024, .f32⟩
  | .hbm, ⟨11, _⟩ => ⟨S32x4x1024, .f32⟩
  | .hbm, ⟨12, _⟩ => ⟨S1x128x1024, .f32⟩
  | .hbm, ⟨13, _⟩ => ⟨S32x4x1024, .f32⟩
  | .hbm, ⟨14, _⟩ => ⟨S1x128x1024, .f32⟩
  | .hbm, ⟨15, _⟩ => ⟨S1x128x1024, .f32⟩
  | .hbm, ⟨16, _⟩ => ⟨S1024x2816, .bf16⟩
  | .hbm, ⟨17, _⟩ => ⟨S1024x11x256, .bf16⟩
  | .hbm, ⟨18, _⟩ => ⟨S11x1024x256, .bf16⟩
  | .hbm, ⟨19, _⟩ => ⟨S1024x2816, .bf16⟩
  | .hbm, ⟨20, _⟩ => ⟨S1024x11x256, .bf16⟩
  | .hbm, ⟨21, _⟩ => ⟨S11x1024x256, .bf16⟩
  | .hbm, ⟨22, _⟩ => ⟨S2816x1024, .bf16⟩
  | .hbm, ⟨23, _⟩ => ⟨S11x256x1024, .bf16⟩
  | .hbm, ⟨24, _⟩ => ⟨S1x1024, .f32⟩
  | .hbm, ⟨25, _⟩ => ⟨S1x1024, .f32⟩
  | .hbm, ⟨26, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S11x1024x256, .bf16⟩
  | .local _ .vmem, ⟨5, _⟩ => ⟨S11x1024x256, .bf16⟩
  | .local _ .vmem, ⟨6, _⟩ => ⟨S11x256x1024, .bf16⟩
  | .local _ .vmem, ⟨7, _⟩ => ⟨S1x1024, .f32⟩
  | .local _ .vmem, ⟨8, _⟩ => ⟨S1x1024, .f32⟩
  | .local _ .vmem, ⟨9, _⟩ => ⟨S1x128x1024, .f32⟩
  | .local _ .vmem, ⟨10, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== FfnSampleReferenceIdeal.lean ====
abbrev S32x4x1024 : Shape := ⟨3, ![32, 4, 1024]⟩
abbrev S32x1x1024 : Shape := ⟨3, ![32, 1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32x4x2816 : Shape := ⟨3, ![32, 4, 2816]⟩
abbrev S32x4 : Shape := ⟨2, ![32, 4]⟩
abbrev S32x4x1 : Shape := ⟨3, ![32, 4, 1]⟩
abbrev S1x1x1024 : Shape := ⟨3, ![1, 1, 1024]⟩
abbrev S1x128x1024 : Shape := ⟨3, ![1, 128, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S32x1x1024, .f32⟩
  | .hbm, ⟨11, _⟩ => ⟨S32x1x1024, .f32⟩
  | .hbm, ⟨12, _⟩ => ⟨S32x4x1024, .f32⟩
  | .hbm, ⟨13, _⟩ => ⟨S32x4x1024, .f32⟩
  | .hbm, ⟨14, _⟩ => ⟨S32x4x1024, .f32⟩
  | .hbm, ⟨15, _⟩ => ⟨S32x4x1024, .f32⟩
  | .hbm, ⟨16, _⟩ => ⟨S_, .f32⟩
  | .hbm, ⟨17, _⟩ => ⟨S32x4x1024, .f32⟩
  | .hbm, ⟨18, _⟩ => ⟨S32x4x1024, .f32⟩
  | .hbm, ⟨19, _⟩ => ⟨S_, .f32⟩
  | .hbm, ⟨20, _⟩ => ⟨S32x1x1024, .f32⟩
  | .hbm, ⟨21, _⟩ => ⟨S32x1x1024, .f32⟩
  | .hbm, ⟨22, _⟩ => ⟨S32x4x2816, .f32⟩
  | .hbm, ⟨23, _⟩ => ⟨S32x4x2816, .f32⟩
  | .hbm, ⟨24, _⟩ => ⟨S32x4x2816, .f32⟩
  | .hbm, ⟨25, _⟩ => ⟨S_, .f32⟩
  | .hbm, ⟨26, _⟩ => ⟨S32x4x2816, .f32⟩
  | .hbm, ⟨27, _⟩ => ⟨S32x4x2816, .f32⟩
  | .hbm, ⟨28, _⟩ => ⟨S_, .f32⟩
  | .hbm, ⟨29, _⟩ => ⟨S32x4x2816, .f32⟩
  | .hbm, ⟨30, _⟩ => ⟨S32x4x2816, .f32⟩
  | .hbm, ⟨31, _⟩ => ⟨S32x4x2816, .f32⟩
  | .hbm, ⟨32, _⟩ => ⟨S32x4x2816, .f32⟩
  | .hbm, ⟨33, _⟩ => ⟨S32x4x2816, .f32⟩
  | .hbm, ⟨34, _⟩ => ⟨S32x4x1024, .f32⟩
  | .hbm, ⟨35, _⟩ => ⟨S_, .f32⟩
  | .hbm, ⟨36, _⟩ => ⟨S32x4x1024, .f32⟩
  | .hbm, ⟨37, _⟩ => ⟨S32x4x1024, .f32⟩
  | .hbm, ⟨38, _⟩ => ⟨S32x4x1024, .f32⟩
  | .hbm, ⟨39, _⟩ => ⟨S32x4x1024, .f32⟩
  | .hbm, ⟨40, _⟩ => ⟨S32x4x1024, .f32⟩
  | .hbm, ⟨41, _⟩ => ⟨S_, .f32⟩
  | .hbm, ⟨42, _⟩ => ⟨S32x4, .f32⟩
  | .hbm, ⟨43, _⟩ => ⟨S32x4x1, .f32⟩
  | .hbm, ⟨44, _⟩ => ⟨S_, .f32⟩
  | .hbm, ⟨45, _⟩ => ⟨S32x4x1, .f32⟩
  | .hbm, ⟨46, _⟩ => ⟨S32x4x1, .f32⟩
  | .hbm, ⟨47, _⟩ => ⟨S32x4x1024, .f32⟩
  | .hbm, ⟨48, _⟩ => ⟨S32x4x1024, .f32⟩
  | .hbm, ⟨49, _⟩ => ⟨S32x4x1024, .f32⟩
  | .hbm, ⟨50, _⟩ => ⟨S_, .f32⟩
  | .hbm, ⟨51, _⟩ => ⟨S32x4, .f32⟩
  | .hbm, ⟨52, _⟩ => ⟨S32x4x1, .f32⟩
  | .hbm, ⟨53, _⟩ => ⟨S_, .f32⟩
  | .hbm, ⟨54, _⟩ => ⟨S32x4x1, .f32⟩
  | .hbm, ⟨55, _⟩ => ⟨S32x4x1, .f32⟩
  | .hbm, ⟨56, _⟩ => ⟨S32x4x1024, .f32⟩
  | .hbm, ⟨57, _⟩ => ⟨S32x4x1024, .f32⟩
  | .hbm, ⟨58, _⟩ => ⟨S_, .f32⟩
  | .hbm, ⟨59, _⟩ => ⟨S32x4x1, .f32⟩
  | .hbm, ⟨60, _⟩ => ⟨S32x4x1, .f32⟩
  | .hbm, ⟨61, _⟩ => ⟨S32x4x1, .f32⟩
  | .hbm, ⟨62, _⟩ => ⟨S32x4x1024, .f32⟩
  | .hbm, ⟨63, _⟩ => ⟨S32x4x1024, .f32⟩
  | .hbm, ⟨64, _⟩ => ⟨S1x1x1024, .f32⟩
  | .hbm, ⟨65, _⟩ => ⟨S32x4x1024, .f32⟩
  | .hbm, ⟨66, _⟩ => ⟨S32x4x1024, .f32⟩
  | .hbm, ⟨67, _⟩ => ⟨S1x1x1024, .f32⟩
  | .hbm, ⟨68, _⟩ => ⟨S32x4x1024, .f32⟩
  | .hbm, ⟨69, _⟩ => ⟨S32x4x1024, .f32⟩
  | .hbm, ⟨70, _⟩ => ⟨S1x128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== SsdSample.lean ====
abbrev S32x4x1024 : Shape := ⟨3, ![32, 4, 1024]⟩
abbrev S32x1x1024 : Shape := ⟨3, ![32, 1, 1024]⟩
abbrev S1024x5152 : Shape := ⟨2, ![1024, 5152]⟩
abbrev S1x128x1024 : Shape := ⟨3, ![1, 128, 1024]⟩
abbrev S_ : Shape := ⟨0, ![]⟩
abbrev S1024x5248 : Shape := ⟨2, ![1024, 5248]⟩
abbrev S1x128x2048 : Shape := ⟨3, ![1, 128, 2048]⟩
abbrev S1x128x3072 : Shape := ⟨3, ![1, 128, 3072]⟩
abbrev S1x128x128 : Shape := ⟨3, ![1, 128, 128]⟩
abbrev S128x1024 : Shape := ⟨2, ![128, 1024]⟩
abbrev S1024x2048 : Shape := ⟨2, ![1024, 2048]⟩
abbrev S128x2048 : Shape := ⟨2, ![128, 2048]⟩
abbrev S1024x3072 : Shape := ⟨2, ![1024, 3072]⟩
abbrev S128x3072 : Shape := ⟨2, ![128, 3072]⟩
abbrev S1024x128 : Shape := ⟨2, ![1024, 128]⟩
abbrev S128x128 : Shape := ⟨2, ![128, 128]⟩

abbrev nBuf : Space → Nat
  | .hbm => 16
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S1024x5152, .f32⟩
  | .hbm, ⟨4, _⟩ => ⟨S1x128x1024, .f32⟩
  | .hbm, ⟨5, _⟩ => ⟨S32x4x1024, .f32⟩
  | .hbm, ⟨6, _⟩ => ⟨S1x128x1024, .f32⟩
  | .hbm, ⟨7, _⟩ => ⟨S32x4x1024, .f32⟩
  | .hbm, ⟨8, _⟩ => ⟨S1x128x1024, .f32⟩
  | .hbm, ⟨9, _⟩ => ⟨S_, .i32⟩
  | .hbm, ⟨10, _⟩ => ⟨S_, .f32⟩
  | .hbm, ⟨11, _⟩ => ⟨S1024x5248, .f32⟩
  | .hbm, ⟨12, _⟩ => ⟨S1024x5248, .bf16⟩
  | .hbm, ⟨13, _⟩ => ⟨S1x128x2048, .f32⟩
  | .hbm, ⟨14, _⟩ => ⟨S1x128x3072, .f32⟩
  | .hbm, ⟨15, _⟩ => ⟨S1x128x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1024x5248, .bf16⟩
  | .local _ .vmem, ⟨4, _⟩ => ⟨S1x128x2048, .f32⟩
  | .local _ .vmem, ⟨5, _⟩ => ⟨S1x128x3072, .f32⟩
  | .local _ .vmem, ⟨6, _⟩ => ⟨S1x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== SsdSampleReferenceIdeal.lean ====
abbrev S32x4x1024 : Shape := ⟨3, ![32, 4, 1024]⟩
abbrev S32x1x1024 : Shape := ⟨3, ![32, 1, 1024]⟩
abbrev S1024x5152 : Shape := ⟨2, ![1024, 5152]⟩
abbrev S_ : Shape := ⟨0, ![]⟩
abbrev S32x4x5152 : Shape := ⟨3, ![32, 4, 5152]⟩
abbrev S32x4x32 : Shape := ⟨3, ![32, 4, 32]⟩
abbrev S32x4x128 : Shape := ⟨3, ![32, 4, 128]⟩
abbrev S32x4x2048 : Shape := ⟨3, ![32, 4, 2048]⟩
abbrev S32x4x3072 : Shape := ⟨3, ![32, 4, 3072]⟩
abbrev S1x128x2048 : Shape := ⟨3, ![1, 128, 2048]⟩
abbrev S1x128x3072 : Shape := ⟨3, ![1, 128, 3072]⟩
abbrev S1x128x128 : Shape := ⟨3, ![1, 128, 128]⟩

abbrev nBuf : Space → Nat
  | .hbm => 21
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S1024x5152, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x4x1024, .f32⟩
  | .hbm, ⟨8, _⟩ => ⟨S32x4x1024, .f32⟩
  | .hbm, ⟨9, _⟩ => ⟨S32x4x1024, .f32⟩
  | .hbm, ⟨10, _⟩ => ⟨S32x4x1024, .f32⟩
  | .hbm, ⟨11, _⟩ => ⟨S32x4x5152, .f32⟩
  | .hbm, ⟨12, _⟩ => ⟨S32x4x32, .f32⟩
  | .hbm, ⟨13, _⟩ => ⟨S_, .i32⟩
  | .hbm, ⟨14, _⟩ => ⟨S_, .f32⟩
  | .hbm, ⟨15, _⟩ => ⟨S32x4x128, .f32⟩
  | .hbm, ⟨16, _⟩ => ⟨S32x4x2048, .f32⟩
  | .hbm, ⟨17, _⟩ => ⟨S32x4x3072, .f32⟩
  | .hbm, ⟨18, _⟩ => ⟨S1x128x2048, .f32⟩
  | .hbm, ⟨19, _⟩ => ⟨S1x128x3072, .f32⟩
  | .hbm, ⟨20, _⟩ => ⟨S1x128x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== NsaProject.lean ====
abbrev S2x8192x1024 : Shape := ⟨3, ![2, 8192, 1024]⟩
abbrev S2x1x1024 : Shape := ⟨3, ![2, 1, 1024]⟩
abbrev S1024x2608 : Shape := ⟨2, ![1024, 2608]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1024x1024 : Shape := ⟨2, ![1024, 1024]⟩
abbrev S1024x256 : Shape := ⟨2, ![1024, 256]⟩
abbrev S1024x48 : Shape := ⟨2, ![1024, 48]⟩
abbrev S1024x128 : Shape := ⟨2, ![1024, 128]⟩
abbrev S1024x16x2x32 : Shape := ⟨4, ![1024, 16, 2, 32]⟩
abbrev S1024x16x1x32 : Shape := ⟨4, ![1024, 16, 1, 32]⟩
abbrev S1024x16x32 : Shape := ⟨3, ![1024, 16, 32]⟩
abbrev S1024x4x2x32 : Shape := ⟨4, ![1024, 4, 2, 32]⟩
abbrev S1024x4x1x32 : Shape := ⟨4, ![1024, 4, 1, 32]⟩
abbrev S1024x4x32 : Shape := ⟨3, ![1024, 4, 32]⟩
abbrev S1024x4224 : Shape := ⟨2, ![1024, 4224]⟩
abbrev S2x8192x512 : Shape := ⟨3, ![2, 8192, 512]⟩
abbrev S2x8192x128 : Shape := ⟨3, ![2, 8192, 128]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x128 : Shape := ⟨3, ![1, 512, 128]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1024x768 : Shape := ⟨2, ![1024, 768]⟩
abbrev S512x768 : Shape := ⟨2, ![512, 768]⟩
abbrev S512x256 : Shape := ⟨2, ![512, 256]⟩
abbrev S1x512x256 : Shape := ⟨3, ![1, 512, 256]⟩

abbrev nBuf : Space → Nat
  | .hbm => 75
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2608, .f32⟩
  | .hbm, ⟨4, _⟩ => ⟨S8192, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S1x8192x1x32, .f32⟩
  | .hbm, ⟨20, _⟩ => ⟨S1x8192x4x32, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x48, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x16x2x32, .f32⟩
  | .hbm, ⟨39, _⟩ => ⟨S1024x16x1x32, .f32⟩
  | .hbm, ⟨40, _⟩ => ⟨S1024x16x32, .f32⟩
  | .hbm, ⟨41, _⟩ => ⟨S1024x16x32, .f32⟩
  | .hbm, ⟨42, _⟩ => ⟨S1024x16x1x32, .f32⟩
  | .hbm, ⟨43, _⟩ => ⟨S1024x16x32, .f32⟩
  | .hbm, ⟨44, _⟩ => ⟨S1024x16x1x32, .f32⟩
  | .hbm, ⟨45, _⟩ => ⟨S1024x16x1x32, .f32⟩
  | .hbm, ⟨46, _⟩ => ⟨S1024x16x2x32, .f32⟩
  | .hbm, ⟨47, _⟩ => ⟨S1024x1024, .f32⟩
  | .hbm, ⟨48, _⟩ => ⟨S1024x4x2x32, .f32⟩
  | .hbm, ⟨49, _⟩ => ⟨S1024x4x1x32, .f32⟩
  | .hbm, ⟨50, _⟩ => ⟨S1024x4x32, .f32⟩
  | .hbm, ⟨51, _⟩ => ⟨S1024x4x32, .f32⟩
  | .hbm, ⟨52, _⟩ => ⟨S1024x4x1x32, .f32⟩
  | .hbm, ⟨53, _⟩ => ⟨S1024x4x32, .f32⟩
  | .hbm, ⟨54, _⟩ => ⟨S1024x4x1x32, .f32⟩
  | .hbm, ⟨55, _⟩ => ⟨S1024x4x1x32, .f32⟩
  | .hbm, ⟨56, _⟩ => ⟨S1024x4x2x32, .f32⟩
  | .hbm, ⟨57, _⟩ => ⟨S1024x256, .f32⟩
  | .hbm, ⟨58, _⟩ => ⟨S1024x4x2x32, .f32⟩
  | .hbm, ⟨59, _⟩ => ⟨S1024x4x1x32, .f32⟩
  | .hbm, ⟨60, _⟩ => ⟨S1024x4x32, .f32⟩
  | .hbm, ⟨61, _⟩ => ⟨S1024x4x32, .f32⟩
  | .hbm, ⟨62, _⟩ => ⟨S1024x4x1x32, .f32⟩
  | .hbm, ⟨63, _⟩ => ⟨S1024x4x32, .f32⟩
  | .hbm, ⟨64, _⟩ => ⟨S1024x4x1x32, .f32⟩
  | .hbm, ⟨65, _⟩ => ⟨S1024x4x1x32, .f32⟩
  | .hbm, ⟨66, _⟩ => ⟨S1024x4x2x32, .f32⟩
  | .hbm, ⟨67, _⟩ => ⟨S1024x256, .f32⟩
  | .hbm, ⟨68, _⟩ => ⟨S1024x4224, .f32⟩
  | .hbm, ⟨69, _⟩ => ⟨S1024x4224, .bf16⟩
  | .hbm, ⟨70, _⟩ => ⟨S2x8192x1024, .bf16⟩
  | .hbm, ⟨71, _⟩ => ⟨S2x8192x1024, .f32⟩
  | .hbm, ⟨72, _⟩ => ⟨S2x8192x512, .f32⟩
  | .hbm, ⟨73, _⟩ => ⟨S2x8192x128, .f32⟩
  | .hbm, ⟨74, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4224, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x512, .f32⟩
  | .local _ .vmem, ⟨16, _⟩ => ⟨S1x512x512, .f32⟩
  | .local _ .vmem, ⟨17, _⟩ => ⟨S1x512x128, .f32⟩
  | .local _ .vmem, ⟨18, _⟩ => ⟨S1x512x128, .f32⟩
  | .local _ .vmem, ⟨19, _⟩ => ⟨S1x512x1024, .bf16⟩
  | .local _ .vmem, ⟨20, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61_0 : Ref sig .tc := ⟨.hbm, 70, rfl⟩
abbrev main_v61_1 : Ref sig .tc := ⟨.hbm, 71, rfl⟩
abbrev main_v61_2 : Ref sig .tc := ⟨.hbm, 72, rfl⟩
abbrev main_v61_3 : Ref sig .tc := ⟨.hbm, 73, rfl⟩
abbrev main_v61_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NsaProjectReferenceIdeal.lean ====
abbrev S2x8192x1024 : Shape := ⟨3, ![2, 8192, 1024]⟩
abbrev S2x1x1024 : Shape := ⟨3, ![2, 1, 1024]⟩
abbrev S1024x2608 : Shape := ⟨2, ![1024, 2608]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x2608 : Shape := ⟨3, ![2, 8192, 2608]⟩
abbrev S2x8192x16x64 : Shape := ⟨4, ![2, 8192, 16, 64]⟩
abbrev S2x8192x16x32 : Shape := ⟨4, ![2, 8192, 16, 32]⟩
abbrev S1x8192x1x32 : Shape := ⟨4, ![1, 8192, 1, 32]⟩
abbrev S2x8192x1536 : Shape := ⟨3, ![2, 8192, 1536]⟩
abbrev S2x8192x6x4x64 : Shape := ⟨5, ![2, 8192, 6, 4, 64]⟩
abbrev S2x8192x1x4x64 : Shape := ⟨5, ![2, 8192, 1, 4, 64]⟩
abbrev S2x8192x4x64 : Shape := ⟨4, ![2, 8192, 4, 64]⟩
abbrev S2x8192x4x32 : Shape := ⟨4, ![2, 8192, 4, 32]⟩
abbrev S2x8192x4x4x64 : Shape := ⟨5, ![2, 8192, 4, 4, 64]⟩
abbrev S2x8192x2x4x64 : Shape := ⟨5, ![2, 8192, 2, 4, 64]⟩
abbrev S2x8192x48 : Shape := ⟨3, ![2, 8192, 48]⟩
abbrev S2x8192x128 : Shape := ⟨3, ![2, 8192, 128]⟩
abbrev S2x8192x512 : Shape := ⟨3, ![2, 8192, 512]⟩

abbrev nBuf : Space → Nat
  | .hbm => 132
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024x2608, .f32⟩
  | 4 => ⟨S8192, .i32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S8192, .f32⟩
  | 14 => ⟨S8192x1, .f32⟩
  | 15 => ⟨S1x32, .f32⟩
  | 16 => ⟨S8192x32, .f32⟩
  | 17 => ⟨S8192x32, .f32⟩
  | 18 => ⟨S8192x32, .f32⟩
  | 19 => ⟨S8192x32, .f32⟩
  | 20 => ⟨S8192x1x32, .f32⟩
  | 21 => ⟨S8192x32, .f32⟩
  | 22 => ⟨S8192x1x32, .f32⟩
  | 23 => ⟨S_, .f32⟩
  | 24 => ⟨S2x1x1024, .f32⟩
  | 25 => ⟨S2x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S2x8192x2608, .f32⟩
  | 31 => ⟨S2x8192x1024, .f32⟩
  | 32 => ⟨S2x8192x16x64, .f32⟩
  | 33 => ⟨S2x8192x16x32, .f32⟩
  | 34 => ⟨S2x8192x16x32, .f32⟩
  | 35 => ⟨S1x8192x1x32, .f32⟩
  | 36 => ⟨S2x8192x16x32, .f32⟩
  | 37 => ⟨S2x8192x16x32, .f32⟩
  | 38 => ⟨S1x8192x1x32, .f32⟩
  | 39 => ⟨S2x8192x16x32, .f32⟩
  | 40 => ⟨S2x8192x16x32, .f32⟩
  | 41 => ⟨S2x8192x16x32, .f32⟩
  | 42 => ⟨S1x8192x1x32, .f32⟩
  | 43 => ⟨S2x8192x16x32, .f32⟩
  | 44 => ⟨S2x8192x16x32, .f32⟩
  | 45 => ⟨S1x8192x1x32, .f32⟩
  | 46 => ⟨S2x8192x16x32, .f32⟩
  | 47 => ⟨S2x8192x16x32, .f32⟩
  | 48 => ⟨S2x8192x16x32, .f32⟩
  | 49 => ⟨S2x8192x16x64, .f32⟩
  | 50 => ⟨S_, .f32⟩
  | 51 => ⟨S2x8192x16x64, .f32⟩
  | 52 => ⟨S2x8192x16x64, .f32⟩
  | 53 => ⟨S2x8192x1536, .f32⟩
  | 54 => ⟨S2x8192x6x4x64, .f32⟩
  | 55 => ⟨S2x8192x1x4x64, .f32⟩
  | 56 => ⟨S2x8192x4x64, .f32⟩
  | 57 => ⟨S2x8192x4x32, .f32⟩
  | 58 => ⟨S2x8192x4x32, .f32⟩
  | 59 => ⟨S1x8192x1x32, .f32⟩
  | 60 => ⟨S2x8192x4x32, .f32⟩
  | 61 => ⟨S2x8192x4x32, .f32⟩
  | 62 => ⟨S1x8192x1x32, .f32⟩
  | 63 => ⟨S2x8192x4x32, .f32⟩
  | 64 => ⟨S2x8192x4x32, .f32⟩
  | 65 => ⟨S2x8192x4x32, .f32⟩
  | 66 => ⟨S1x8192x1x32, .f32⟩
  | 67 => ⟨S2x8192x4x32, .f32⟩
  | 68 => ⟨S2x8192x4x32, .f32⟩
  | 69 => ⟨S1x8192x1x32, .f32⟩
  | 70 => ⟨S2x8192x4x32, .f32⟩
  | 71 => ⟨S2x8192x4x32, .f32⟩
  | 72 => ⟨S2x8192x4x32, .f32⟩
  | 73 => ⟨S2x8192x4x64, .f32⟩
  | 74 => ⟨S2x8192x1x4x64, .f32⟩
  | 75 => ⟨S2x8192x4x64, .f32⟩
  | 76 => ⟨S2x8192x1x4x64, .f32⟩
  | 77 => ⟨S2x8192x4x64, .f32⟩
  | 78 => ⟨S2x8192x4x32, .f32⟩
  | 79 => ⟨S2x8192x4x32, .f32⟩
  | 80 => ⟨S1x8192x1x32, .f32⟩
  | 81 => ⟨S2x8192x4x32, .f32⟩
  | 82 => ⟨S2x8192x4x32, .f32⟩
  | 83 => ⟨S1x8192x1x32, .f32⟩
  | 84 => ⟨S2x8192x4x32, .f32⟩
  | 85 => ⟨S2x8192x4x32, .f32⟩
  | 86 => ⟨S2x8192x4x32, .f32⟩
  | 87 => ⟨S1x8192x1x32, .f32⟩
  | 88 => ⟨S2x8192x4x32, .f32⟩
  | 89 => ⟨S2x8192x4x32, .f32⟩
  | 90 => ⟨S1x8192x1x32, .f32⟩
  | 91 => ⟨S2x8192x4x32, .f32⟩
  | 92 => ⟨S2x8192x4x32, .f32⟩
  | 93 => ⟨S2x8192x4x32, .f32⟩
  | 94 => ⟨S2x8192x4x64, .f32⟩
  | 95 => ⟨S2x8192x1x4x64, .f32⟩
  | 96 => ⟨S2x8192x4x64, .f32⟩
  | 97 => ⟨S2x8192x1x4x64, .f32⟩
  | 98 => ⟨S2x8192x4x64, .f32⟩
  | 99 => ⟨S2x8192x1x4x64, .f32⟩
  | 100 => ⟨S2x8192x4x64, .f32⟩
  | 101 => ⟨S2x8192x1x4x64, .f32⟩
  | 102 => ⟨S2x8192x1x4x64, .f32⟩
  | 103 => ⟨S2x8192x1x4x64, .f32⟩
  | 104 => ⟨S2x8192x1x4x64, .f32⟩
  | 105 => ⟨S2x8192x4x4x64, .f32⟩
  | 106 => ⟨S2x8192x1x4x64, .f32⟩
  | 107 => ⟨S2x8192x1x4x64, .f32⟩
  | 108 => ⟨S2x8192x2x4x64, .f32⟩
  | 109 => ⟨S2x8192x48, .f32⟩
  | 110 => ⟨S_, .i32⟩
  | 111 => ⟨S_, .f32⟩
  | 112 => ⟨S2x8192x128, .f32⟩
  | 113 => ⟨S2x8192x128, .f32⟩
  | 114 => ⟨S2x8192x128, .f32⟩
  | 115 => ⟨S_, .f32⟩
  | 116 => ⟨S2x8192x128, .f32⟩
  | 117 => ⟨S2x8192x128, .f32⟩
  | 118 => ⟨S_, .f32⟩
  | 119 => ⟨S2x8192x128, .f32⟩
  | 120 => ⟨S2x8192x128, .f32⟩
  | 121 => ⟨S2x8192x1x4x64, .f32⟩
  | 122 => ⟨S2x8192x1x4x64, .f32⟩
  | 123 => ⟨S2x8192x1x4x64, .f32⟩
  | 124 => ⟨S2x8192x1x4x64, .f32⟩
  | 125 => ⟨S2x8192x4x4x64, .f32⟩
  | 126 => ⟨S2x8192x16x64, .bf16⟩
  | 127 => ⟨S2x8192x4x4x64, .bf16⟩
  | _ => ⟨S2x8192x1024, .f32⟩

abbrev hbmTy0_1 (i : Nat) : BufTy := match i % 128 with
  | 0 => ⟨S2x8192x1024, .bf16⟩
  | 1 => ⟨S2x8192x1024, .f32⟩
  | 2 => ⟨S2x8192x512, .f32⟩
  | 3 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_c : Ref sig .tc := ⟨.hbm, 110, rfl⟩
abbrev main_call0_v0 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_cst_3 : Ref sig .tc := ⟨.hbm, 115, rfl⟩
abbrev main_v105 : Ref sig .tc := ⟨.hbm, 116, rfl⟩
abbrev main_v106 : Ref sig .tc := ⟨.hbm, 117, rfl⟩
abbrev main_cst_4 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩

abbrev nD : Nat := 1
abbrev τ : Topo := Topo.v7x

variable {F : FTy → Type} [FloatOps F]
-- ==== Proof.FrameKernelIdeal.lean ====
module

public import proofs.«01_k».proof.Proof.Gen.KernelIdeal.Frame.RunD
public import Idealize.ShloMosaic.Lib.Claim
public import proofs.«01_k».proof.Proof.Gen.KernelIdeal.Frame.RunA
public import proofs.«01_k».proof.Proof.Gen.KernelIdeal.Frame.RunB
public import proofs.«01_k».proof.Proof.Gen.KernelIdeal.Frame.RunC

@[expose] public section

/-! The frame of the kernel with the named constants: its body at every grid point, and the run. -/

-- membership in a rectangle of production extents (`View.cover_of_tiled`): the elaborator's structural look
-- recurses once per coordinate of the long axes
set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

-- the body's text is never run here: its runs are the lemmas `kernelRun0_*`
attribute [local irreducible] cc0_nsa_attention

variable (m : (ℓ : Loc nD τ sig) → Buf (Elt F) ℓ) (ρ : Dev nD → PrngReg)
/-- Case A's pieces for output 13 tile its block (16 stores of `S1x1x1x256x64`, checked by the kernel's evaluation: Lib/Ring.lean `Piece.tiledL`, linear in the pieces, through a loop's `@[irreducible]` trip theorem too), so they cover it. -/
theorem cover0_A_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : ¬cond0_0 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) (y : S1x4x1x1024x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).1 S1x1x1x256x64.size (by sl_kernel_rfl) y

/-- What case A leaves in output 13's staging buffer: its pieces read back over junk. -/
def out0_A_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : ¬cond0_0 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) : Vec F S1x4x1x1024x64 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12).1)

/-- Case B's pieces for output 13 tile its block (16 stores of `S1x1x1x256x64`, checked by the kernel's evaluation: Lib/Ring.lean `Piece.tiledL`, linear in the pieces, through a loop's `@[irreducible]` trip theorem too), so they cover it. -/
theorem cover0_B_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : cond0_0 i) (hc1 : ¬cond0_1 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) (y : S1x4x1x1024x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12).1 S1x1x1x256x64.size (by sl_kernel_rfl) y

/-- What case B leaves in output 13's staging buffer: its pieces read back over junk. -/
def out0_B_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : cond0_0 i) (hc1 : ¬cond0_1 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) : Vec F S1x4x1x1024x64 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12).1)

/-- Case C's pieces for output 13 tile its block (16 stores of `S1x1x1x256x64`, checked by the kernel's evaluation: Lib/Ring.lean `Piece.tiledL`, linear in the pieces, through a loop's `@[irreducible]` trip theorem too), so they cover it. -/
theorem cover0_C_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : cond0_0 i) (hc1 : cond0_1 i) (hc2 : ¬cond0_2 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) (y : S1x4x1x1024x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12).1 S1x1x1x256x64.size (by sl_kernel_rfl) y

/-- What case C leaves in output 13's staging buffer: its pieces read back over junk. -/
def out0_C_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : cond0_0 i) (hc1 : cond0_1 i) (hc2 : ¬cond0_2 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) : Vec F S1x4x1x1024x64 .bf16 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12).1)

/-- Case D's pieces for output 13 tile its block (16 stores of `S1x1x1x256x64`, checked by the kernel's evaluation: Lib/Ring.lean `Piece.tiledL`, linear in the pieces, through a loop's `@[irreducible]` trip theorem too), so they cover it. -/
theorem cover0_D_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : cond0_0 i) (hc1 : cond0_1 i) (hc2 : cond0_2 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) (y : S1x4x1x1024x64.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12).1 S1x1x1x256x64.size (by sl_kernel_rfl) y

/-- What case D leaves in output 13's staging buffer: its pieces read back over junk. -/
def out0_D_13 (c : Dev nD) (i : grid0.Coords) (arg2 : Memref sig .tc .vmem S1x4x1x1024x64 .bf16) (harg2 : arg2.IsWhole) (arg3 : Memref sig .tc .vmem S1x4x64x512 .bf16) (harg3 : arg3.IsWhole) (arg4 : Memref sig .tc .vmem S1x4x512x64 .bf16) (harg4 : arg4.IsWhole) (arg5 : Memref sig .tc .vmem S1x4x16x64x512 .bf16) (harg5 : arg5.IsWhole) (arg6 : Memref sig .tc .vmem S1x4x16x512x128 .bf16) (harg6 : arg6.IsWhole) (arg7 : Memref sig .tc .vmem S1x4x1x64x256 .bf16) (harg7 : arg7.IsWhole) (arg8 : Memref sig .tc .vmem S1x4x1x64x256 .bf16) (harg8 : arg8.IsWhole) (arg9 : Memref sig .tc .vmem S1x4x1x64x256 .bf16) (harg9 : arg9.IsWhole) (arg10 : Memref sig .tc .vmem S1x4x1x256x128 .bf16) (harg10 : arg10.IsWhole) (arg11 : Memref sig .tc .vmem S1x4x1x256x128 .bf16) (harg11 : arg11.IsWhole) (arg12 : Memref sig .tc .vmem S1x4x1x256x128 .bf16) (harg12 : arg12.IsWhole) (arg13 : Memref sig .tc .vmem S1x256x128 .f32) (harg13 : arg13.IsWhole) (arg14 : Memref sig .tc .vmem S512x128 .bf16) (harg14 : arg14.IsWhole) (arg15 : Memref sig .tc .vmem S1x4x1x1024x64 .bf16) (harg15 : arg15.IsWhole) (arg16 : Memref sig .tc .vmem S4x1024x64 .f32) (harg16 : arg16.IsWhole) (arg17 : Memref sig .tc .vmem S128x1024 .f32) (harg17 : arg17.IsWhole) (arg18 : Memref sig .tc .vmem S4x1024x192 .bf16) (harg18 : arg18.IsWhole) (arg19 : Memref sig .tc .vmem S4x1024x128 .f32) (harg19 : arg19.IsWhole) (arg20 : Memref sig .tc .vmem S4x1024x128 .f32) (harg20 : arg20.IsWhole) (hc0 : cond0_0 i) (hc1 : cond0_1 i) (hc2 : cond0_2 i)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) : Vec F S1x4x1x1024x64 .bf16 :=
  VO0_13.read (Elt F) (VO0_13.writes (Elt F) VO0_13.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x4x1x1024x64 .bf16
  | 0, hn => out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩)
  | n + 1, hn =>
    if h0 : 8 ≤ (n + 1) % 32 then
      if h1 : ¬(8 ≤ (n + 1) % 32 ∧ (n + 1) % 32 ≤ 15) then
        if h2 : ¬(16 ≤ (n + 1) % 32 ∧ (n + 1) % 32 ≤ 23) then
          out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩)
        else
          out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩)
      else
        out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩)
    else
      out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩)

/-- `outsAt0` at a point of case A: that case's contents. -/
theorem outsAt0_A (c : Dev nD) (t : Fin cfg0.N) (h0 : ¬8 ≤ t.val % 32) :
    outsAt0 m c t.val t.isLt = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨n, hn⟩ := t
  cases n with
  | zero => exact rfl
  | succ n => exact (dif_neg h0).trans rfl

/-- `outsAt0` at a point of case B: that case's contents. -/
theorem outsAt0_B (c : Dev nD) (t : Fin cfg0.N) (h0 : 8 ≤ t.val % 32) (h1 : ¬¬(8 ≤ t.val % 32 ∧ t.val % 32 ≤ 15)) :
    outsAt0 m c t.val t.isLt = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨n, hn⟩ := t
  cases n with
  | zero => exact (by exfalso; (try dsimp only at h0); exact by omega)
  | succ n => exact (dif_pos h0).trans ((dif_neg h1).trans rfl)

/-- `outsAt0` at a point of case C: that case's contents. -/
theorem outsAt0_C (c : Dev nD) (t : Fin cfg0.N) (h0 : 8 ≤ t.val % 32) (h1 : ¬(8 ≤ t.val % 32 ∧ t.val % 32 ≤ 15)) (h2 : ¬¬(16 ≤ t.val % 32 ∧ t.val % 32 ≤ 23)) :
    outsAt0 m c t.val t.isLt = out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨n, hn⟩ := t
  cases n with
  | zero => exact (by exfalso; (try dsimp only at h0); exact by omega)
  | succ n => exact (dif_pos h0).trans ((dif_pos h1).trans ((dif_neg h2).trans rfl))

/-- `outsAt0` at a point of case D: that case's contents. -/
theorem outsAt0_D (c : Dev nD) (t : Fin cfg0.N) (h0 : 8 ≤ t.val % 32) (h1 : ¬(8 ≤ t.val % 32 ∧ t.val % 32 ≤ 15)) (h2 : ¬(16 ≤ t.val % 32 ∧ t.val % 32 ≤ 23)) :
    outsAt0 m c t.val t.isLt = out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨n, hn⟩ := t
  cases n with
  | zero => exact (by exfalso; (try dsimp only at h0); exact by omega)
  | succ n => exact (dif_pos h0).trans ((dif_pos h1).trans ((dif_pos h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The body's triple, given its run: the scratch buffers, what is owed and the register pass through. -/
theorem body_core (c : Dev nD) (prog : Prog (TpuEff nD τ sig (Elt F) Λ₀ .tc) PUnit) (arg2 : Memref sig .tc .vmem S1x4x1x1024x64 .bf16) (arg3 : Memref sig .tc .vmem S1x4x64x512 .bf16) (arg4 : Memref sig .tc .vmem S1x4x512x64 .bf16) (arg5 : Memref sig .tc .vmem S1x4x16x64x512 .bf16) (arg6 : Memref sig .tc .vmem S1x4x16x512x128 .bf16) (arg7 : Memref sig .tc .vmem S1x4x1x64x256 .bf16) (arg8 : Memref sig .tc .vmem S1x4x1x64x256 .bf16) (arg9 : Memref sig .tc .vmem S1x4x1x64x256 .bf16) (arg10 : Memref sig .tc .vmem S1x4x1x256x128 .bf16) (arg11 : Memref sig .tc .vmem S1x4x1x256x128 .bf16) (arg12 : Memref sig .tc .vmem S1x4x1x256x128 .bf16) (arg13 : Memref sig .tc .vmem S1x256x128 .f32) (arg14 : Memref sig .tc .vmem S512x128 .bf16) (arg15 : Memref sig .tc .vmem S1x4x1x1024x64 .bf16) (arg16 : Memref sig .tc .vmem S4x1024x64 .f32) (arg17 : Memref sig .tc .vmem S128x1024 .f32) (arg18 : Memref sig .tc .vmem S4x1024x192 .bf16) (arg19 : Memref sig .tc .vmem S4x1024x128 .f32) (arg20 : Memref sig .tc .vmem S4x1024x128 .f32)
    (x0 : Vec F S1x4x1x1024x64 .bf16) (x1 : Vec F S1x4x64x512 .bf16) (x2 : Vec F S1x4x512x64 .bf16) (x3 : Vec F S1x4x16x64x512 .bf16) (x4 : Vec F S1x4x16x512x128 .bf16) (x5 : Vec F S1x4x1x64x256 .bf16) (x6 : Vec F S1x4x1x64x256 .bf16) (x7 : Vec F S1x4x1x64x256 .bf16) (x8 : Vec F S1x4x1x256x128 .bf16) (x9 : Vec F S1x4x1x256x128 .bf16) (x10 : Vec F S1x4x1x256x128 .bf16) (x11 : Vec F S1x256x128 .f32) (x12 : Vec F S512x128 .bf16) (G O : sProp 𝕄) (B : Vec F S1x4x1x1024x64 .bf16 → Vec F S1x4x1x1024x64 .bf16)
    (L : List (View.Piece (Elt F) S1x4x1x1024x64 .bf16)) (LT : List (View.Piece (Elt F) S4x1024x64 .f32)) (out : Vec F S1x4x1x1024x64 .bf16)
    (hout : ∀ f, arg15.view.read (Elt F) (arg15.view.writes (Elt F) f L) = out)
    (hrun : ∀ (E : Set ℕ) (K : PUnit → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L) ∗ (∃ f, arg16.view.loc (c : Thread nD τ) ↦[arg16.view.set]{fullShare} arg16.view.writes (Elt F) f LT) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩)) ⊢ wp frame (wpE (defs₀ (F := F)) Variants.none c none) E prog K) :
    iprop(iprop(iprop((∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) ∗ G) ∗ O ∗ (∃ _d : Vec F S1x4x1x1024x64 .bf16, owns (c : Thread nD τ) arg2 fullShare x0) ∗ (∃ _d : Vec F S1x4x64x512 .bf16, owns (c : Thread nD τ) arg3 fullShare x1) ∗ (∃ _d : Vec F S1x4x512x64 .bf16, owns (c : Thread nD τ) arg4 fullShare x2) ∗ (∃ _d : Vec F S1x4x16x64x512 .bf16, owns (c : Thread nD τ) arg5 fullShare x3) ∗ (∃ _d : Vec F S1x4x16x512x128 .bf16, owns (c : Thread nD τ) arg6 fullShare x4) ∗ (∃ _d : Vec F S1x4x1x64x256 .bf16, owns (c : Thread nD τ) arg7 fullShare x5) ∗ (∃ _d : Vec F S1x4x1x64x256 .bf16, owns (c : Thread nD τ) arg8 fullShare x6) ∗ (∃ _d : Vec F S1x4x1x64x256 .bf16, owns (c : Thread nD τ) arg9 fullShare x7) ∗ (∃ _d : Vec F S1x4x1x256x128 .bf16, owns (c : Thread nD τ) arg10 fullShare x8) ∗ (∃ _d : Vec F S1x4x1x256x128 .bf16, owns (c : Thread nD τ) arg11 fullShare x9) ∗ (∃ _d : Vec F S1x4x1x256x128 .bf16, owns (c : Thread nD τ) arg12 fullShare x10) ∗ (∃ _d : Vec F S1x256x128 .f32, owns (c : Thread nD τ) arg13 fullShare x11) ∗ (∃ _d : Vec F S512x128 .bf16, owns (c : Thread nD τ) arg14 fullShare x12) ∗ (∃ _d : Vec F S1x4x1x1024x64 .bf16, owns (c : Thread nD τ) arg15 fullShare (B _d)))
      ⊢ wp frame (wpE (defs₀ (F := F)) Variants.none c none) Set.univ prog (fun _ => iprop(iprop(iprop((∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare out)) := by
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, ⟨%e13, H13⟩, ⟨%fT0, HS0⟩, HS1, HS2, HS3, HS4⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact hout e13

/-- The body at a point of case A. -/
theorem sound_body_A (c : Dev nD) (t : Fin cfg0.N) (h0 : ¬8 ≤ t.val % 32) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  refine body_core c (bodyAt0 t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) iprop(∃ r, prngReg c r) _ (fun d => (dats m 0 c).before 13 t d) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1 (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1 _ ?_ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2
  intro f
  rw [outsAt0_A m c t h0]
  exact View.read_writes_of_cover _ _ _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-- The body at a point of case B. -/
theorem sound_body_B (c : Dev nD) (t : Fin cfg0.N) (h0 : 8 ≤ t.val % 32) (h1 : ¬¬(8 ≤ t.val % 32 ∧ t.val % 32 ≤ 15)) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  refine body_core c (bodyAt0 t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) iprop(∃ r, prngReg c r) _ (fun d => (dats m 0 c).before 13 t d) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1 (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1 _ ?_ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2
  intro f
  rw [outsAt0_B m c t h0 h1]
  exact View.read_writes_of_cover _ _ _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-- The body at a point of case C. -/
theorem sound_body_C (c : Dev nD) (t : Fin cfg0.N) (h0 : 8 ≤ t.val % 32) (h1 : ¬(8 ≤ t.val % 32 ∧ t.val % 32 ≤ 15)) (h2 : ¬¬(16 ≤ t.val % 32 ∧ t.val % 32 ≤ 23)) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  refine body_core c (bodyAt0 t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) iprop(∃ r, prngReg c r) _ (fun d => (dats m 0 c).before 13 t d) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1 _ ?_ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2
  intro f
  rw [outsAt0_C m c t h0 h1 h2]
  exact View.read_writes_of_cover _ _ _ _ _ (cover0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-- The body at a point of case D. -/
theorem sound_body_D (c : Dev nD) (t : Fin cfg0.N) (h0 : 8 ≤ t.val % 32) (h1 : ¬(8 ≤ t.val % 32 ∧ t.val % 32 ≤ 15)) (h2 : ¬(16 ≤ t.val % 32 ∧ t.val % 32 ≤ 23)) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  refine body_core c (bodyAt0 t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) iprop(∃ r, prngReg c r) _ (fun d => (dats m 0 c).before 13 t d) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1 (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1 _ ?_ (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2
  intro f
  rw [outsAt0_D m c t h0 h1 h2]
  exact View.read_writes_of_cover _ _ _ _ _ (cover0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : 8 ≤ t.val % 32
  · by_cases h1 : ¬(8 ≤ t.val % 32 ∧ t.val % 32 ≤ 15)
    · by_cases h2 : ¬(16 ≤ t.val % 32 ∧ t.val % 32 ≤ 23)
      · exact sound_body_D m c t h0 h1 h2
      · exact sound_body_C m c t h0 h1 h2
    · exact sound_body_B m c t h0 h1
  · exact sound_body_A m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KernelIdeal

end
-- ==== Proof.FrameReference.lean ====
/-
  The reference runs, ends with its argument arrays unchanged, and leaves every counter at zero.
-/
module

public import proofs.«01_k».proof.Proof.Gen.ReferenceIdeal.Run
public import Idealize.ShloMosaic.Lib.Claim
public import Idealize.ShloMosaic.Lib.Quiescent

@[expose] public section

noncomputable section

namespace Cert.Proof.ReferenceIdeal

open Idealize.ShloMosaic Idealize.SL.Sem Cert.ReferenceIdeal Cert.ReferenceIdeal.Value
open Cert.ReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (run m ρ)

end Cert.Proof.ReferenceIdeal

end
-- ==== Proof.FrameFfnReference.lean ====
/-
  The feed-forward reference runs, ends with its argument arrays unchanged, and leaves every counter at zero.
-/
module

public import proofs.«01_k».proof.Proof.Gen.FfnReferenceIdeal.Run
public import Idealize.ShloMosaic.Lib.Claim
public import Idealize.ShloMosaic.Lib.Quiescent

@[expose] public section

noncomputable section

namespace Cert.Proof.FfnReferenceIdeal

open Idealize.ShloMosaic Idealize.SL.Sem Cert.FfnReferenceIdeal Cert.FfnReferenceIdeal.Value
open Cert.FfnReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2, sem_eq_zero_of_no_sems rfl r.2⟩) (run m ρ)

end Cert.Proof.FfnReferenceIdeal

end
-- ==== Proof.FfnBlock.lean ====
/-
  What one block of the feed-forward sublayer computes: the words that the body leaves in its result block.
-/
module

public import proofs.«01_k».proof.Proof.Gen.FfnKernelIdeal.Frame
public import Idealize.ShloMosaic.Lib.VecWindow
public import Idealize.ShloMosaic.Lib.WholeRead
public import Idealize.ShloMosaic.Lib.Pointwise

@[expose] public section

set_option maxRecDepth 16384

noncomputable section

namespace Cert.Proof.Ffn

open Idealize.ShloMosaic Idealize.SL.Sem Cert.FfnKernelIdeal Cert.FfnKernelIdeal.Gen

variable {F : FTy → Type} [FloatOps F]

/-- Chunk `n` of the eleven that a stack of weights holds. -/
def up (x : Vec F S11x1024x256 .bf16) (n : ℕ) : Vec F S1x1024x256 .bf16 :=
  fun j => x (ix3 (Fin.ofNat 11 n) (j 1) (j 2))

/-- Chunk `n` of the eleven of the second product's weights. -/
def down (x : Vec F S11x256x1024 .bf16) (n : ℕ) : Vec F S1x256x1024 .bf16 :=
  fun j => x (ix3 (Fin.ofNat 11 n) (j 1) (j 2))

/-- The accumulator after `n` chunks, from the modulated rows `h`. -/
def acc (h : FVec F S512x1024 .bf16) (x4 x5 : Vec F S11x1024x256 .bf16) (x6 : Vec F S11x256x1024 .bf16) :
    ℕ → FVec F S512x1024 .f32
  | 0 => k0_pay4
  | n + 1 => k0_pay8 h (up x4 n) (up x5 n) (acc h x4 x5 x6 n) (down x6 n)

/-- A load of one chunk of a stack of weights reads that chunk. -/
theorem load_up (a : Memref sig .tc .vmem S11x1024x256 .bf16) (ha : a.IsWhole) (x : Vec F S11x1024x256 .bf16) (n : ℕ)
    (inb : ∀ d, (![n, 0, 0] : Fin 3 → ℕ) d + (![1, 1024, 256] : Fin 3 → ℕ) d ≤ S11x1024x256.size d) :
    a.view.readAt (Elt F) (Rect.unit (![n, 0, 0] : Fin 3 → ℕ) ![1, 1024, 256] inb).toLoadRect (ha.unread x) = up x n := by
  funext j
  refine (ha.readAt_unread x _ j).trans (congrArg x (funext fun d => Fin.ext ?_))
  have h0 := inb 0
  simp at h0
  match d with
  | ⟨0, _⟩ =>
    have : (j 0).val < 1 := (j 0).isLt
    show n + 1 * (j 0).val = n % 11
    omega
  | ⟨1, _⟩ => show 0 + 1 * (j 1).val = (j 1).val; omega
  | ⟨2, _⟩ => show 0 + 1 * (j 2).val = (j 2).val; omega

/-- A load of one chunk of the second product's weights reads that chunk. -/
theorem load_down (a : Memref sig .tc .vmem S11x256x1024 .bf16) (ha : a.IsWhole) (x : Vec F S11x256x1024 .bf16) (n : ℕ)
    (inb : ∀ d, (![n, 0, 0] : Fin 3 → ℕ) d + (![1, 256, 1024] : Fin 3 → ℕ) d ≤ S11x256x1024.size d) :
    a.view.readAt (Elt F) (Rect.unit (![n, 0, 0] : Fin 3 → ℕ) ![1, 256, 1024] inb).toLoadRect (ha.unread x) = down x n := by
  funext j
  refine (ha.readAt_unread x _ j).trans (congrArg x (funext fun d => Fin.ext ?_))
  have h0 := inb 0
  simp at h0
  match d with
  | ⟨0, _⟩ =>
    have : (j 0).val < 1 := (j 0).isLt
    show n + 1 * (j 0).val = n % 11
    omega
  | ⟨1, _⟩ => show 0 + 1 * (j 1).val = (j 1).val; omega
  | ⟨2, _⟩ => show 0 + 1 * (j 2).val = (j 2).val; omega

/-- A load of a whole block reads the block. -/
theorem load_all {s : Shape} {e : EltTy} (a : Memref sig .tc .vmem s e) (ha : a.IsWhole) (x : Vec F s e)
    {off : Fin s.rank → ℕ} (inb : ∀ d, off d + s.size d ≤ s.size d) :
    a.view.readAt (Elt F) (Rect.unit off s.size inb).toLoadRect (ha.unread x) = x :=
  (View.readAt_full a.view (ha.unread x) inb).trans (ha.read_unread x)

variable (c : Dev nD) (arg2 : Memref sig .tc .vmem S1x512x1024 .f32) (harg2 : arg2.IsWhole)
  (arg3 : Memref sig .tc .vmem S1x1x1024 .f32) (harg3 : arg3.IsWhole)
  (arg4 : Memref sig .tc .vmem S1x1x1024 .f32) (harg4 : arg4.IsWhole)
  (arg6 : Memref sig .tc .vmem S11x1024x256 .bf16) (harg6 : arg6.IsWhole)
  (arg7 : Memref sig .tc .vmem S11x1024x256 .bf16) (harg7 : arg7.IsWhole)
  (arg8 : Memref sig .tc .vmem S11x256x1024 .bf16) (harg8 : arg8.IsWhole)
  (arg12 : Memref sig .tc .vmem S512x1024 .f32)
  (x0 : Vec F S1x512x1024 .f32) (x1 x2 : Vec F S1x1x1024 .f32) (x4 x5 : Vec F S11x1024x256 .bf16) (x6 : Vec F S11x256x1024 .bf16)

/-- The rows after the modulation, rounded: the word the body computes once. -/
theorem rows_eq : kernelRun0_A.sl.r_1 c arg2 harg2 arg3 harg3 arg4 harg4 x0 x1 x2 = k0_pay3 x0 x2 x1 := by
  unfold kernelRun0_A.sl.r_1
  rw [load_all, load_all, load_all]

/-- The accumulator as it is first read: zeros. -/
theorem read0 : kernelRun0_A.sl.v27 c arg12 = acc (k0_pay3 x0 x2 x1) x4 x5 x6 0 := by
  unfold kernelRun0_A.sl.v27 kernelRun0_A.sl.HS0_1
  rw [View.readCov_full]; rfl

/-- The accumulator as it is read after 1 chunk. -/
theorem read1 : kernelRun0_A.sl.v45 c arg2 harg2 arg3 harg3 arg4 harg4 arg6 harg6 arg7 harg7 arg8 harg8 arg12 x0 x1 x2 x4 x5 x6 = acc (k0_pay3 x0 x2 x1) x4 x5 x6 1 := by
  unfold kernelRun0_A.sl.v45 kernelRun0_A.sl.HS0_2
  rw [View.readCov_full, read0 c arg12 x0 x1 x2 x4 x5 x6]
  unfold kernelRun0_A.sl.r_2 kernelRun0_A.sl.r_3 kernelRun0_A.sl.cst_24
  rw [load_all, load_all, load_all]
  simp only [load_up, load_down, rows_eq]
  rfl

/-- The accumulator as it is read after 2 chunks. -/
theorem read2 : kernelRun0_A.sl.v63 c arg2 harg2 arg3 harg3 arg4 harg4 arg6 harg6 arg7 harg7 arg8 harg8 arg12 x0 x1 x2 x4 x5 x6 = acc (k0_pay3 x0 x2 x1) x4 x5 x6 2 := by
  unfold kernelRun0_A.sl.v63 kernelRun0_A.sl.HS0_3
  rw [View.readCov_full]
  simp only [load_up, load_down, rows_eq, read1]
  rfl

/-- The accumulator as it is read after 3 chunks. -/
theorem read3 : kernelRun0_A.sl.v81 c arg2 harg2 arg3 harg3 arg4 harg4 arg6 harg6 arg7 harg7 arg8 harg8 arg12 x0 x1 x2 x4 x5 x6 = acc (k0_pay3 x0 x2 x1) x4 x5 x6 3 := by
  unfold kernelRun0_A.sl.v81 kernelRun0_A.sl.HS0_4
  rw [View.readCov_full]
  unfold kernelRun0_A.sl.r_4
  simp only [load_up, load_down, rows_eq, read2]
  rfl

/-- The accumulator as it is read after 4 chunks. -/
theorem read4 : kernelRun0_A.sl.v99 c arg2 harg2 arg3 harg3 arg4 harg4 arg6 harg6 arg7 harg7 arg8 harg8 arg12 x0 x1 x2 x4 x5 x6 = acc (k0_pay3 x0 x2 x1) x4 x5 x6 4 := by
  unfold kernelRun0_A.sl.v99 kernelRun0_A.sl.HS0_5
  rw [View.readCov_full]
  simp only [load_up, load_down, rows_eq, read3]
  rfl

/-- The accumulator as it is read after 5 chunks. -/
theorem read5 : kernelRun0_A.sl.v117 c arg2 harg2 arg3 harg3 arg4 harg4 arg6 harg6 arg7 harg7 arg8 harg8 arg12 x0 x1 x2 x4 x5 x6 = acc (k0_pay3 x0 x2 x1) x4 x5 x6 5 := by
  unfold kernelRun0_A.sl.v117 kernelRun0_A.sl.HS0_6
  rw [View.readCov_full]
  unfold kernelRun0_A.sl.r_5
  simp only [load_up, load_down, rows_eq, read4]
  rfl

/-- The accumulator as it is read after 6 chunks. -/
theorem read6 : kernelRun0_A.sl.v135 c arg2 harg2 arg3 harg3 arg4 harg4 arg6 harg6 arg7 harg7 arg8 harg8 arg12 x0 x1 x2 x4 x5 x6 = acc (k0_pay3 x0 x2 x1) x4 x5 x6 6 := by
  unfold kernelRun0_A.sl.v135 kernelRun0_A.sl.HS0_7
  rw [View.readCov_full]
  unfold kernelRun0_A.sl.r_6
  simp only [load_up, load_down, rows_eq, read5]
  rfl

/-- The accumulator as it is read after 7 chunks. -/
theorem read7 : kernelRun0_A.sl.v153 c arg2 harg2 arg3 harg3 arg4 harg4 arg6 harg6 arg7 harg7 arg8 harg8 arg12 x0 x1 x2 x4 x5 x6 = acc (k0_pay3 x0 x2 x1) x4 x5 x6 7 := by
  unfold kernelRun0_A.sl.v153 kernelRun0_A.sl.HS0_8
  rw [View.readCov_full]
  simp only [load_up, load_down, rows_eq, read6]
  rfl

/-- The accumulator as it is read after 8 chunks. -/
theorem read8 : kernelRun0_A.sl.v171 c arg2 harg2 arg3 harg3 arg4 harg4 arg6 harg6 arg7 harg7 arg8 harg8 arg12 x0 x1 x2 x4 x5 x6 = acc (k0_pay3 x0 x2 x1) x4 x5 x6 8 := by
  unfold kernelRun0_A.sl.v171 kernelRun0_A.sl.HS0_9
  rw [View.readCov_full]
  unfold kernelRun0_A.sl.r_7
  simp only [load_up, load_down, rows_eq, read7]
  rfl

/-- The accumulator as it is read after 9 chunks. -/
theorem read9 : kernelRun0_A.sl.v189 c arg2 harg2 arg3 harg3 arg4 harg4 arg6 harg6 arg7 harg7 arg8 harg8 arg12 x0 x1 x2 x4 x5 x6 = acc (k0_pay3 x0 x2 x1) x4 x5 x6 9 := by
  unfold kernelRun0_A.sl.v189 kernelRun0_A.sl.HS0_10
  rw [View.readCov_full]
  simp only [load_up, load_down, rows_eq, read8]
  rfl

/-- The accumulator as it is read after 10 chunks. -/
theorem read10 : kernelRun0_A.sl.v207 c arg2 harg2 arg3 harg3 arg4 harg4 arg6 harg6 arg7 harg7 arg8 harg8 arg12 x0 x1 x2 x4 x5 x6 = acc (k0_pay3 x0 x2 x1) x4 x5 x6 10 := by
  unfold kernelRun0_A.sl.v207 kernelRun0_A.sl.HS0_11
  rw [View.readCov_full]
  unfold kernelRun0_A.sl.r_8 kernelRun0_A.sl.r_9
  simp only [load_up, load_down, rows_eq, read9]
  rfl

/-- The accumulator as it is read after 11 chunks. -/
theorem read11 : kernelRun0_A.sl.v221 c arg2 harg2 arg3 harg3 arg4 harg4 arg6 harg6 arg7 harg7 arg8 harg8 arg12 x0 x1 x2 x4 x5 x6 = acc (k0_pay3 x0 x2 x1) x4 x5 x6 11 := by
  unfold kernelRun0_A.sl.v221 kernelRun0_A.sl.HS0_12
  rw [View.readCov_full]
  simp only [load_up, load_down, rows_eq, read10]
  rfl

/-- The body's result block: the layer norm's word over the accumulator after all eleven chunks. -/
theorem out_eq (i : grid0.Coords) (arg5 : Memref sig .tc .vmem S1x1x1024 .f32) (harg5 : arg5.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole)
    (harg12 : arg12.IsWhole) (x3 : Vec F S1x1x1024 .f32) (x7 x8 : Vec F S1x1024 .f32) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (k0_pay25 (k0_pay2 x0) k0_pay24 x3 (acc (k0_pay3 x0 x2 x1) x4 x5 x6 11) x7 x8) := by
  have e : out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (kernelRun0_A.sl.r_10 c arg2 harg2 arg3 harg3 arg4 harg4 arg5 harg5 arg6 harg6 arg7 harg7 arg8 harg8 arg9 harg9 arg10 harg10 arg12 x0 x1 x2 x3 x4 x5 x6 x7 x8) :=
    View.read_writes_full VO0_9 _ inb_S1x512x1024_S1x512x1024_0_0_0 _ []
  rw [e]
  unfold kernelRun0_A.sl.r_10 kernelRun0_A.sl.r
  rw [read11, load_all, load_all, load_all, load_all]

end Cert.Proof.Ffn

end
-- ==== Proof.FfnValue.lean ====
/-
  The feed-forward sublayer over the ideal numbers: the formula, and that one block of the kernel computes it.
-/
module

public import proofs.«01_k».proof.Proof.FfnBlock
public import Idealize.ShloMosaic.Lib.Pointwise

@[expose] public section

set_option maxRecDepth 16384

noncomputable section

namespace Cert.Proof.Ffn

open Idealize.ShloMosaic Idealize.SL.Sem Cert.FfnKernelIdeal Cert.FfnKernelIdeal.Gen

/-- A row, scaled and shifted by the modulation. -/
def modulated (x sh sc : Fin 1024 → EReal) (i : Fin 1024) : EReal := x i * (1 + sc i) + sh i

/-- A row against one column of a weight matrix. -/
def against (h : Fin 1024 → EReal) (w : Fin 1024 → Fin 2816 → EReal) (f : Fin 2816) : EReal := ∑ i, h i * w i f

/-- One hidden feature: the gate's `silu` times the other product. -/
def feature (h : Fin 1024 → EReal) (w1 w3 : Fin 1024 → Fin 2816 → EReal) (f : Fin 2816) : EReal :=
  against h w1 f * Ideal.logistic (against h w1 f) * against h w3 f

/-- The second product: the features against one column of its weights. -/
def mixed (h : Fin 1024 → EReal) (w1 w3 : Fin 1024 → Fin 2816 → EReal) (w2 : Fin 2816 → Fin 1024 → EReal) (l : Fin 1024) : EReal :=
  ∑ f, feature h w1 w3 f * w2 f l

/-- The residual stream: the scaled row plus half the gated product. -/
def stream (x gt y : Fin 1024 → EReal) (l : Fin 1024) : EReal :=
  Ideal.ofBits FTy.f32 1071072509#32 * x l + (1 + gt l) * (Ideal.ofBits FTy.f32 1056964608#32 * y l)

/-- The mean of a row of 1024. -/
def mean (y : Fin 1024 → EReal) : EReal := Ideal.div (∑ i, y i) (Ideal.ofBits FTy.f32 1149239296#32)

/-- A row, normalised by its mean and variance, then scaled and shifted. -/
def normed (y g b : Fin 1024 → EReal) (l : Fin 1024) : EReal :=
  (y l - mean y) * Ideal.rsqrt (mean (fun i => (y i - mean y) * (y i - mean y)) + Ideal.ofBits FTy.f32 925353388#32) * g l + b l

/-- One row of the sublayer's result. -/
def sublayer (x sh sc gt : Fin 1024 → EReal) (w1 w3 : Fin 1024 → Fin 2816 → EReal) (w2 : Fin 2816 → Fin 1024 → EReal)
    (g b : Fin 1024 → EReal) : Fin 1024 → EReal :=
  normed (stream x gt (mixed (modulated x sh sc) w1 w3 w2)) g b

theorem rows_apply (x0 : Vec Ideal S1x512x1024 .f32) (x1 x2 : Vec Ideal S1x1x1024 .f32) (r : Fin 512) (i : Fin 1024) :
    k0_pay3 x0 x2 x1 (ix2 r i)
      = modulated (fun i => x0 (ix3 0 r i)) (fun i => x1 (ix3 0 0 i)) (fun i => x2 (ix3 0 0 i)) i := by
  unfold modulated
  pointwise [k0_pay3, k0_pay2]

/-- What one chunk of 256 features adds to the accumulator. -/
theorem chunk_apply (h : FVec Ideal S512x1024 .bf16) (w1 w3 : Vec Ideal S1x1024x256 .bf16) (a : FVec Ideal S512x1024 .f32)
    (w2 : Vec Ideal S1x256x1024 .bf16) (r : Fin 512) (l : Fin 1024) :
    k0_pay8 h w1 w3 a w2 (ix2 r l)
      = a (ix2 r l) + ∑ j : Fin 256, ((∑ i : Fin 1024, h (ix2 r i) * w1 (ix3 0 i j))
          * Ideal.logistic (∑ i : Fin 1024, h (ix2 r i) * w1 (ix3 0 i j))
          * ∑ i : Fin 1024, h (ix2 r i) * w3 (ix3 0 i j)) * w2 (ix3 0 j l) := by
  pointwise [k0_pay8]

theorem zero_apply (r : Fin 512) (l : Fin 1024) : (k0_pay4 (F := Ideal)) (ix2 r l) = 0 := by
  pointwise [k0_pay4]

/-- The written block, from the accumulated product. -/
theorem norm_apply (x0 : Vec Ideal S1x512x1024 .f32) (x3 : Vec Ideal S1x1x1024 .f32) (a : FVec Ideal S512x1024 .f32)
    (x7 x8 : Vec Ideal S1x1024 .f32) (r : Fin 512) (l : Fin 1024) :
    k0_pay1 (k0_pay25 (k0_pay2 x0) k0_pay24 x3 a x7 x8) (ix3 0 r l)
      = normed (stream (fun i => x0 (ix3 0 r i)) (fun i => x3 (ix3 0 0 i)) (fun i => a (ix2 r i)))
          (fun i => x7 (ix2 0 i)) (fun i => x8 (ix2 0 i)) l := by
  unfold normed mean stream
  pointwise [k0_pay1, k0_pay25, k0_pay2, k0_pay24]

/-- A sum over eleven chunks of 256 is the sum over all 2816. -/
theorem sum_chunks (g : Fin 2816 → EReal) :
    ∑ c : Fin 11, ∑ j : Fin 256, g ⟨c.val * 256 + j.val, by omega⟩ = ∑ f, g f := by
  rw [← Fintype.sum_prod_type', ← Equiv.sum_comp (finProdFinEquiv (m := 11) (n := 256))]
  refine Finset.sum_congr rfl fun p _ => congrArg g (Fin.ext ?_)
  show p.1.val * 256 + p.2.val = p.2.val + 256 * p.1.val
  omega

/-- The accumulator after `n` chunks is the sum of the first `n` chunks' shares. -/
theorem acc_apply (h : FVec Ideal S512x1024 .bf16) (x4 x5 : Vec Ideal S11x1024x256 .bf16) (x6 : Vec Ideal S11x256x1024 .bf16)
    (r : Fin 512) (l : Fin 1024) (n : ℕ) :
    acc h x4 x5 x6 n (ix2 r l)
      = ∑ c ∈ Finset.range n, ∑ j : Fin 256, ((∑ i : Fin 1024, h (ix2 r i) * x4 (ix3 (Fin.ofNat 11 c) i j))
          * Ideal.logistic (∑ i : Fin 1024, h (ix2 r i) * x4 (ix3 (Fin.ofNat 11 c) i j))
          * ∑ i : Fin 1024, h (ix2 r i) * x5 (ix3 (Fin.ofNat 11 c) i j)) * x6 (ix3 (Fin.ofNat 11 c) j l) := by
  induction n with
  | zero => rw [Finset.sum_range_zero]; exact zero_apply r l
  | succ n ih =>
    rw [Finset.sum_range_succ, ← ih]
    exact chunk_apply h (up x4 n) (up x5 n) (acc h x4 x5 x6 n) (down x6 n) r l

/-- With the stacks of weights read as matrices, the whole accumulation is the second product. -/
theorem acc_eq (h : FVec Ideal S512x1024 .bf16) (x4 x5 : Vec Ideal S11x1024x256 .bf16) (x6 : Vec Ideal S11x256x1024 .bf16)
    (w1 w3 : Fin 1024 → Fin 2816 → EReal) (w2 : Fin 2816 → Fin 1024 → EReal)
    (h4 : ∀ (c : Fin 11) (i : Fin 1024) (j : Fin 256), x4 (ix3 c i j) = w1 i ⟨c.val * 256 + j.val, by omega⟩)
    (h5 : ∀ (c : Fin 11) (i : Fin 1024) (j : Fin 256), x5 (ix3 c i j) = w3 i ⟨c.val * 256 + j.val, by omega⟩)
    (h6 : ∀ (c : Fin 11) (j : Fin 256) (l : Fin 1024), x6 (ix3 c j l) = w2 ⟨c.val * 256 + j.val, by omega⟩ l)
    (r : Fin 512) (l : Fin 1024) :
    acc h x4 x5 x6 11 (ix2 r l) = mixed (fun i => h (ix2 r i)) w1 w3 w2 l := by
  rw [acc_apply, Finset.sum_range]
  unfold mixed
  rw [← sum_chunks]
  refine Finset.sum_congr rfl fun c _ => Finset.sum_congr rfl fun j _ => ?_
  have e : Fin.ofNat 11 c.val = c := Fin.ext (Nat.mod_eq_of_lt c.isLt)
  rw [e]
  simp only [h4, h5, h6]
  rfl

/-- One row of the block that the kernel writes is that row of the sublayer. -/
theorem block_apply (x0 : Vec Ideal S1x512x1024 .f32) (x1 x2 x3 : Vec Ideal S1x1x1024 .f32)
    (x4 x5 : Vec Ideal S11x1024x256 .bf16) (x6 : Vec Ideal S11x256x1024 .bf16) (x7 x8 : Vec Ideal S1x1024 .f32)
    (w1 w3 : Fin 1024 → Fin 2816 → EReal) (w2 : Fin 2816 → Fin 1024 → EReal)
    (h4 : ∀ (c : Fin 11) (i : Fin 1024) (j : Fin 256), x4 (ix3 c i j) = w1 i ⟨c.val * 256 + j.val, by omega⟩)
    (h5 : ∀ (c : Fin 11) (i : Fin 1024) (j : Fin 256), x5 (ix3 c i j) = w3 i ⟨c.val * 256 + j.val, by omega⟩)
    (h6 : ∀ (c : Fin 11) (j : Fin 256) (l : Fin 1024), x6 (ix3 c j l) = w2 ⟨c.val * 256 + j.val, by omega⟩ l)
    (r : Fin 512) (l : Fin 1024) :
    k0_pay1 (k0_pay25 (k0_pay2 x0) k0_pay24 x3 (acc (k0_pay3 x0 x2 x1) x4 x5 x6 11) x7 x8) (ix3 0 r l)
      = sublayer (fun i => x0 (ix3 0 r i)) (fun i => x1 (ix3 0 0 i)) (fun i => x2 (ix3 0 0 i)) (fun i => x3 (ix3 0 0 i))
          w1 w3 w2 (fun i => x7 (ix2 0 i)) (fun i => x8 (ix2 0 i)) l := by
  rw [norm_apply]
  simp only [acc_eq _ x4 x5 x6 w1 w3 w2 h4 h5 h6, rows_apply]
  rfl

end Cert.Proof.Ffn

end
-- ==== Proof.FfnKernelArray.lean ====
/-
  What the feed-forward kernel's result array holds after the run: the sublayer of its argument arrays.
-/
module

public import proofs.«01_k».proof.Proof.FfnValue
public import proofs.«01_k».proof.Proof.Gen.FfnKernelIdeal.Frame
public import proofs.«01_k».proof.Proof.Gen.FfnKernelIdeal.Value
public import Idealize.ShloMosaic.Lib.Pipeline.ValueKit

@[expose] public section

set_option maxRecDepth 16384

noncomputable section

namespace Cert.Proof.Ffn

open Idealize.ShloMosaic Idealize.ShloMosaic.TcCoe Idealize.SL.Sem Cert.FfnKernelIdeal Cert.FfnKernelIdeal.Gen
open Idealize.ShloMosaic.Pipeline (Dat)

/-- The sublayer's result array, from its argument arrays. -/
def sublayerArray (x : FVec Ideal S2x8192x1024 .f32) (sh sc gt : FVec Ideal S2x1x1024 .f32) (w1 w3 : FVec Ideal S1024x2816 .f32)
    (w2 : FVec Ideal S2816x1024 .f32) (g b : FVec Ideal S1024 .f32) : FVec Ideal S2x8192x1024 .f32 :=
  fun j => sublayer (fun i => x (ix3 (j 0) (j 1) i)) (fun i => sh (ix3 (j 0) 0 i)) (fun i => sc (ix3 (j 0) 0 i))
    (fun i => gt (ix3 (j 0) 0 i)) (fun i f => w1 (ix2 i f)) (fun i f => w3 (ix2 i f)) (fun f l => w2 (ix2 f l))
    (fun i => g (ix1 i)) (fun i => b (ix1 i)) (j 2)

variable (m : (ℓ : Loc nD τ sig) → Buf (Elt Ideal) ℓ)

/-- Every window's block index at every grid point. -/
theorem idx : ∀ t : Fin cfg0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![(grid0.coords t 0).val, 0, 0] ∧ win0_4.index t = ![0, 0, 0] ∧ win0_5.index t = ![0, 0, 0]
    ∧ win0_6.index t = ![0, 0, 0] ∧ win0_7.index t = ![0, 0] ∧ win0_8.index t = ![0, 0]
    ∧ win0_9.index t = ![(grid0.coords t 0).val, (grid0.coords t 1).val, 0] :=
  (by decide +kernel : ∀ t : Fin grid0.N, _)

/-- The first weights, as the kernel finds them: column `c * 256 + j` of the matrix in chunk `c`. -/
theorem up1 (c : Dev nD) (t : Fin cfg0.N) (k : Fin 11) (i : Fin 1024) (j : Fin 256) :
    (iblk m c 4 t : Vec Ideal S11x1024x256 .bf16) (ix3 k i j)
      = (m ((c : Thread nD τ).loc main_arg4) : FVec Ideal S1024x2816 .f32) (ix2 i ⟨k.val * 256 + j.val, by omega⟩) := by
  have e : ((cfg0.win 4).blk t).view.emb (ix3 k i j) = ix3 k i j := by blk_ext [idx t]
  show V m c main_v2 (((cfg0.win 4).blk t).view.emb (ix3 k i j)) = _
  rw [e]
  entry_read
  pointwise

/-- The gate product's weights likewise. -/
theorem up3 (c : Dev nD) (t : Fin cfg0.N) (k : Fin 11) (i : Fin 1024) (j : Fin 256) :
    (iblk m c 5 t : Vec Ideal S11x1024x256 .bf16) (ix3 k i j)
      = (m ((c : Thread nD τ).loc main_arg5) : FVec Ideal S1024x2816 .f32) (ix2 i ⟨k.val * 256 + j.val, by omega⟩) := by
  have e : ((cfg0.win 5).blk t).view.emb (ix3 k i j) = ix3 k i j := by blk_ext [idx t]
  show V m c main_v5 (((cfg0.win 5).blk t).view.emb (ix3 k i j)) = _
  rw [e]
  entry_read
  pointwise

/-- The second product's weights: row `c * 256 + j` of the matrix in chunk `c`. -/
theorem down2 (c : Dev nD) (t : Fin cfg0.N) (k : Fin 11) (j : Fin 256) (l : Fin 1024) :
    (iblk m c 6 t : Vec Ideal S11x256x1024 .bf16) (ix3 k j l)
      = (m ((c : Thread nD τ).loc main_arg6) : FVec Ideal S2816x1024 .f32) (ix2 ⟨k.val * 256 + j.val, by omega⟩ l) := by
  have e : ((cfg0.win 6).blk t).view.emb (ix3 k j l) = ix3 k j l := by blk_ext [idx t]
  show V m c main_v7 (((cfg0.win 6).blk t).view.emb (ix3 k j l)) = _
  rw [e]
  entry_read
  pointwise

/-- The normalisation's scale, as the kernel finds it. -/
theorem scale (c : Dev nD) (t : Fin cfg0.N) (i : Fin 1024) :
    (iblk m c 7 t : Vec Ideal S1x1024 .f32) (ix2 0 i)
      = (m ((c : Thread nD τ).loc main_arg7) : FVec Ideal S1024 .f32) (ix1 i) := by
  have e : ((cfg0.win 7).blk t).view.emb (ix2 0 i) = ix2 0 i := by blk_ext [idx t]
  show V m c main_v8 (((cfg0.win 7).blk t).view.emb (ix2 0 i)) = _
  rw [e]
  entry_read
  pointwise

/-- The normalisation's shift, as the kernel finds it. -/
theorem offset (c : Dev nD) (t : Fin cfg0.N) (i : Fin 1024) :
    (iblk m c 8 t : Vec Ideal S1x1024 .f32) (ix2 0 i)
      = (m ((c : Thread nD τ).loc main_arg8) : FVec Ideal S1024 .f32) (ix1 i) := by
  have e : ((cfg0.win 8).blk t).view.emb (ix2 0 i) = ix2 0 i := by blk_ext [idx t]
  show V m c main_v9 (((cfg0.win 8).blk t).view.emb (ix2 0 i)) = _
  rw [e]
  entry_read
  pointwise

/-- The array that the run must leave, from the launched arguments. -/
abbrev goal (c : Dev nD) : FVec Ideal S2x8192x1024 .f32 :=
  sublayerArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the body writes at one place of one grid point's block is the sublayer at that place of the array. -/
theorem point (c : Dev nD) (t : Fin cfg0.N) (r : Fin 512) (l : Fin 1024) :
    k0_pay1 (k0_pay25 (k0_pay2 (iblk m c 0 t)) k0_pay24 (iblk m c 3 t)
        (acc (k0_pay3 (iblk m c 0 t) (iblk m c 2 t) (iblk m c 1 t)) (iblk m c 4 t) (iblk m c 5 t) (iblk m c 6 t) 11)
        (iblk m c 7 t) (iblk m c 8 t)) (ix3 0 r l)
      = goal m c (((cfg0.win 9).blk t).view.emb (ix3 0 r l)) := by
  refine (block_apply (iblk m c 0 t) (iblk m c 1 t) (iblk m c 2 t) (iblk m c 3 t) (iblk m c 4 t) (iblk m c 5 t) (iblk m c 6 t)
    (iblk m c 7 t) (iblk m c 8 t)
    (fun i f => (m ((c : Thread nD τ).loc main_arg4) : FVec Ideal S1024x2816 .f32) (ix2 i f))
    (fun i f => (m ((c : Thread nD τ).loc main_arg5) : FVec Ideal S1024x2816 .f32) (ix2 i f))
    (fun f l => (m ((c : Thread nD τ).loc main_arg6) : FVec Ideal S2816x1024 .f32) (ix2 f l))
    (up1 m c t) (up3 m c t) (down2 m c t) r l).trans ?_
  simp only [goal, sublayerArray]
  congr 1
  · funext i
    blk_ext [iblk, V, idx t]
  · funext i
    blk_ext [iblk, V, idx t]
  · funext i
    blk_ext [iblk, V, idx t]
  · funext i
    blk_ext [iblk, V, idx t]
  · exact funext fun i => scale m c t i
  · exact funext fun i => offset m c t i
  · refine Fin.ext ?_
    show l.val = ((((cfg0.win 9).blk t).view.emb (ix3 0 r l)) 2 : ℕ)
    blk_simp [idx t]

/-- The result array after the run is the sublayer of the launched arguments. -/
theorem final (c : Dev nD) : (dats m 0 c).arrAt 9 cfg0.N = goal m c := by
  refine (dats m 0 c).arrAt_eq_of_covers 9 _ (by decide +kernel) fun t _ y => ?_
  blk_simp
  rw [after0_9]
  unfold outsAt0
  rw [out_eq]
  have hy : y = ix3 (⟨0, by decide⟩ : Fin 1) (⟨(y 1).val, (y 1).isLt⟩ : Fin 512) (⟨(y 2).val, (y 2).isLt⟩ : Fin 1024) := by
    blk_ext
  rw [hy]
  exact point m c t _ _

end Cert.Proof.Ffn

end
-- ==== Proof.FfnReference.lean ====
/-
  The feed-forward reference: its result is the sublayer of its arguments.
-/
module

public import proofs.«01_k».proof.Proof.FfnKernelArray
public import proofs.«01_k».proof.Proof.Gen.FfnReferenceIdeal.Run
public import proofs.«01_k».proof.Proof.Gen.FfnReferenceIdeal.Read
public import Idealize.ShloMosaic.Lib.Pipeline.ValueKit

@[expose] public section

set_option maxRecDepth 16384

noncomputable section

namespace Cert.Proof.Ffn

open Idealize.ShloMosaic Idealize.SL.Sem Cert.FfnReferenceIdeal Cert.FfnReferenceIdeal.Gen Cert.FfnReferenceIdeal.Read

variable (x : FVec Ideal S2x8192x1024 .f32) (sh sc gt : FVec Ideal S2x1x1024 .f32) (w1 w3 : FVec Ideal S1024x2816 .f32)
    (w2 : FVec Ideal S2816x1024 .f32) (g b : FVec Ideal S1024 .f32)

/-- The modulated rows. -/
theorem ref_rows (p : Fin 2) (q : Fin 8192) (k : Fin 1024) : val_main_v5 (F := Ideal) x sh sc (ix3 p q k)
    = modulated (fun k => x (ix3 p q k)) (fun k => sh (ix3 p 0 k)) (fun k => sc (ix3 p 0 k)) k := by
  unfold modulated
  pointwise [val_main_v5, val_main_v4, val_main_v3, val_main_v2, val_main_v1, val_main_v0, val_main_cst]

/-- The hidden features, from the modulated rows. -/
theorem ref_feature (p : Fin 2) (q : Fin 8192) (f : Fin 2816) : val_main_v13 (F := Ideal) x sh sc w1 w3 (ix3 p q f)
    = feature (fun k => val_main_v5 (F := Ideal) x sh sc (ix3 p q k)) (fun i f => w1 (ix2 i f)) (fun i f => w3 (ix2 i f)) f := by
  unfold feature against Ideal.logistic
  pointwise [val_main_v13, val_main_v12, val_main_v11, val_main_v10, val_main_call0_v0, val_main_call0_v1, val_main_call0_v2,
    val_main_call0_v3, val_main_call0_v4, val_main_call0_v5, val_main_call0_cst, val_main_call0_cst_0]

/-- The second product, from the features. -/
theorem ref_mixed (p : Fin 2) (q : Fin 8192) (l : Fin 1024) : val_main_v14 (F := Ideal) x sh sc w1 w3 w2 (ix3 p q l)
    = ∑ f : Fin 2816, val_main_v13 (F := Ideal) x sh sc w1 w3 (ix3 p q f) * w2 (ix2 f l) := by
  pointwise [val_main_v14]

/-- The residual stream, from the second product. -/
theorem ref_stream (p : Fin 2) (q : Fin 8192) (l : Fin 1024) : val_main_v19 (F := Ideal) x sh sc gt w1 w3 w2 (ix3 p q l)
    = stream (fun k => x (ix3 p q k)) (fun k => gt (ix3 p 0 k)) (fun k => val_main_v14 (F := Ideal) x sh sc w1 w3 w2 (ix3 p q k)) l := by
  unfold stream
  pointwise [val_main_v19, val_main_v18, val_main_v17, val_main_v16, val_main_v15, val_main_v9, val_main_v8, val_main_v7, val_main_v6, val_main_cst_0, val_main_cst_1, val_main_cst_2]

/-- The normalisation, from the residual stream. -/
theorem ref_normed (p : Fin 2) (q : Fin 8192) (l : Fin 1024) : val_main_v43 (F := Ideal) x sh sc gt w1 w3 w2 g b (ix3 p q l)
    = normed (fun k => val_main_v19 (F := Ideal) x sh sc gt w1 w3 w2 (ix3 p q k)) (fun k => g (ix1 k)) (fun k => b (ix1 k)) l := by
  unfold normed mean
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_3, val_main_cst_4, val_main_cst_5, val_main_cst_6, val_main_cst_7]

/-- The reference's result is the sublayer of its arguments. -/
theorem ref_eq : val_main_v43 (F := Ideal) x sh sc gt w1 w3 w2 g b = sublayerArray x sh sc gt w1 w3 w2 g b := by
  funext j
  have hj : j = ix3 (⟨(j 0).val, (j 0).isLt⟩ : Fin 2) (⟨(j 1).val, (j 1).isLt⟩ : Fin 8192) (⟨(j 2).val, (j 2).isLt⟩ : Fin 1024) := by
    blk_ext
  rw [hj, ref_normed]
  simp only [ref_stream, ref_mixed, ref_feature, ref_rows]
  rfl

end Cert.Proof.Ffn

end
-- ==== Proof.FfnEquation.lean ====
/-
  The feed-forward kernel against its reference: from equal arguments both end with equal results.
-/
module

public import proofs.«01_k».proof.Defs
public import proofs.«01_k».proof.Proof.FfnKernelArray
public import proofs.«01_k».proof.Proof.FfnReference

@[expose] public section

noncomputable section

namespace Cert.Proof.Ffn

open Idealize.ShloMosaic Idealize.SL.Sem

/-- From arguments that agree, the reference's result array is the one that the kernel must leave. -/
theorem results_eq (m : (ℓ : Loc Cert.FfnKernelIdeal.nD Cert.FfnKernelIdeal.τ Cert.FfnKernelIdeal.sig) → Buf (Elt Ideal) ℓ)
    (m' : (ℓ : Loc Cert.FfnReferenceIdeal.nD Cert.FfnReferenceIdeal.τ Cert.FfnReferenceIdeal.sig) → Buf (Elt Ideal) ℓ)
    (c : Dev Cert.FfnKernelIdeal.nD)
    (h : m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)) :
    Cert.FfnReferenceIdeal.Value.res_main_v43 m' c = goal m c := by
  obtain ⟨h0, h1, h2, h3, h4, h5, h6, h7, h8⟩ := h
  rw [Cert.FfnReferenceIdeal.Read.val_main_v43_eq, h0, h1, h2, h3, h4, h5, h6, h7, h8]
  exact ref_eq _ _ _ _ _ _ _ _ _

/-- The two programs, over the ideal numbers, end with the same result array and leave their arguments as they were. -/
theorem algebraic : Cert.algebraic_FfnKernelIdeal_FfnReferenceIdeal
    (hFfnKernelIdeal := Cert.FfnKernelIdeal.Gen.facts) (hFfnReferenceIdeal := Cert.FfnReferenceIdeal.Gen.facts) := by
  intro m g m' g' _ hagree
  refine ⟨fun c => goal m c, ?_, ?_⟩
  · exact (θ_run _ _ _).mono (fun r h c => ⟨(h c).1.trans (final m c), (h c).2⟩) (Cert.FfnKernelIdeal.Value.run_blocks m g)
  · exact (θ_run _ _ _).mono (fun r h c => ⟨(h c).1.trans (results_eq m m' c (hagree c)), (h c).2⟩)
      (Cert.FfnReferenceIdeal.Value.run m' g')

end Cert.Proof.Ffn

end
-- ==== Proof.FrameSsdProjectReference.lean ====
/-
  The recurrent mixer's projection reference runs, ends with its argument arrays unchanged, and leaves every counter at zero.
-/
module

public import proofs.«01_k».proof.Proof.Gen.SsdProjectReferenceIdeal.Run
public import Idealize.ShloMosaic.Lib.Claim
public import Idealize.ShloMosaic.Lib.Quiescent

@[expose] public section

noncomputable section

namespace Cert.Proof.SsdProjectReferenceIdeal

open Idealize.ShloMosaic Idealize.SL.Sem Cert.SsdProjectReferenceIdeal Cert.SsdProjectReferenceIdeal.Value
open Cert.SsdProjectReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Proof.SsdProjectReferenceIdeal

end
-- ==== Proof.SsdProjectKernel.lean ====
/-
  The recurrent mixer's projection: its formula, and that the kernel's three result arrays hold it after the run.
-/
module

public import proofs.«01_k».proof.Proof.FfnValue
public import proofs.«01_k».proof.Proof.Gen.SsdProjectIdeal.Frame
public import proofs.«01_k».proof.Proof.Gen.SsdProjectIdeal.Value
public import Idealize.ShloMosaic.Lib.Pipeline.ValueKit
public import Idealize.ShloMosaic.Lib.Pointwise

@[expose] public section

set_option maxRecDepth 16384

noncomputable section

namespace Cert.Proof.SsdProject

open Idealize.ShloMosaic Idealize.ShloMosaic.TcCoe Idealize.SL.Sem Cert.SsdProjectIdeal Cert.SsdProjectIdeal.Gen
open Cert.Proof.Ffn (modulated)

/-- One modulated row against one column of the projection's weights. -/
def column (x sh sc : Fin 1024 → EReal) (w : Fin 1024 → EReal) : EReal := ∑ i, modulated x sh sc i * w i

variable (x : FVec Ideal S2x8192x1024 .f32) (sh sc : FVec Ideal S2x1x1024 .f32) (w : FVec Ideal S1024x5152 .f32)

/-- Column `n` of the projection of row `q` of batch `p`. -/
def entry (p : Fin 2) (q : Fin 8192) (n : Fin 5152) : EReal :=
  column (fun i => x (ix3 p q i)) (fun i => sh (ix3 p 0 i)) (fun i => sc (ix3 p 0 i)) (fun i => w (ix2 i n))

/-- The first 2048 columns. -/
def gateArray : FVec Ideal S2x8192x2048 .f32 := fun j =>
  entry x sh sc w (j 0) (j 1) ⟨(j 2).val, (show (j 2).val < 2048 from (j 2).isLt).trans (by decide)⟩

/-- The next 3072 columns. -/
def convArray : FVec Ideal S2x8192x3072 .f32 := fun j =>
  entry x sh sc w (j 0) (j 1) ⟨2048 + (j 2).val, by have : (j 2).val < 3072 := (j 2).isLt; omega⟩

/-- The last 32 columns, followed by zeros. -/
def stepArray : FVec Ideal S2x8192x128 .f32 := fun j =>
  if h : (j 2).val < 32 then entry x sh sc w (j 0) (j 1) ⟨5120 + (j 2).val, by omega⟩ else 0

/-- The weights with columns of zeros after them. -/
def padded (i : Fin 1024) (n : Fin 5248) : EReal := if h : n.val < 5152 then w (ix2 i ⟨n.val, h⟩) else 0

theorem gate_apply (x0 : Vec Ideal S1x512x1024 .f32) (x1 x2 : Vec Ideal S1x1x1024 .f32) (x3 : Vec Ideal S1024x2048 .bf16)
    (r : Fin 512) (l : Fin 2048) :
    k0_pay3 x0 x2 x1 x3 (ix3 0 r l)
      = column (fun i => x0 (ix3 0 r i)) (fun i => x1 (ix3 0 0 i)) (fun i => x2 (ix3 0 0 i)) (fun i => x3 (ix2 i l)) := by
  unfold column modulated
  pointwise [k0_pay3, k0_pay2]

theorem conv_apply (x0 : Vec Ideal S1x512x1024 .f32) (x1 x2 : Vec Ideal S1x1x1024 .f32) (x3 : Vec Ideal S1024x3072 .bf16)
    (r : Fin 512) (l : Fin 3072) :
    k0_pay4 x0 x2 x1 x3 (ix3 0 r l)
      = column (fun i => x0 (ix3 0 r i)) (fun i => x1 (ix3 0 0 i)) (fun i => x2 (ix3 0 0 i)) (fun i => x3 (ix2 i l)) := by
  unfold column modulated
  pointwise [k0_pay4, k0_pay2]

theorem step_apply (x0 : Vec Ideal S1x512x1024 .f32) (x1 x2 : Vec Ideal S1x1x1024 .f32) (x3 : Vec Ideal S1024x128 .bf16)
    (r : Fin 512) (l : Fin 128) :
    k0_pay1 (k0_pay5 x0 x2 x1 x3) (ix3 0 r l)
      = column (fun i => x0 (ix3 0 r i)) (fun i => x1 (ix3 0 0 i)) (fun i => x2 (ix3 0 0 i)) (fun i => x3 (ix2 i l)) := by
  unfold column modulated
  pointwise [k0_pay1, k0_pay5, k0_pay2]

variable (m : (ℓ : Loc nD τ sig) → Buf (Elt Ideal) ℓ)

/-- Every window's block index at every grid point. -/
theorem idx : ∀ t : Fin cfg0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0] :=
  (by decide +kernel : ∀ t : Fin grid0.N, _)

/-- What the host code before the kernel leaves for the weights: the rounded matrix with 96 columns of zeros after it. -/
theorem prepared (c : Dev nD) : @Eq (FVec Ideal S1024x5248 .bf16) (V m c main_v1)
    (truncf .bf16 (pad S1024x5248 ![0, 0] ![0, 96] ![0, 0] (m ((c : Thread nD τ).loc main_arg3) : FVec Ideal S1024x5152 .f32)
        (sitofp .f32 (constantI S_ 32 0#32)) pads_S1024x5152_S1024x5248_000_0960 h_S_) bitsLt_bf16_f32) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

/-- The integer zero, as a float. -/
theorem word_zero : (FloatOps.sitofp FTy.f32 0#32 : Ideal FTy.f32) = 0 := by
  show (((0#32 : BitVec 32).toInt : ℝ) : EReal) = 0
  simp

/-- The weights, as the kernel finds them: the matrix, with columns of zeros after it. -/
theorem weight (c : Dev nD) (t : Fin cfg0.N) (i : Fin 1024) (n : Fin 5248) :
    (iblk m c 3 t : Vec Ideal S1024x5248 .bf16) (ix2 i n) = padded (m ((c : Thread nD τ).loc main_arg3)) i n := by
  have e : ((cfg0.win 3).blk t).view.emb (ix2 i n) = ix2 i n := by blk_ext [idx t]
  show V m c main_v1 (((cfg0.win 3).blk t).view.emb (ix2 i n)) = _
  rw [e]
  refine (congrFun (prepared m c) _).trans ?_
  unfold padded
  pointwise
  by_cases h : n.val < 5152
  · rw [dif_pos h, dif_pos]
    intro a
    match a with
    | ⟨0, _⟩ => exact ⟨Nat.zero_le _, Nat.mod_one _, (Nat.div_one _).trans_lt i.isLt⟩
    | ⟨1, _⟩ => exact ⟨Nat.zero_le _, Nat.mod_one _, (Nat.div_one _).trans_lt h⟩
  · rw [dif_neg h, dif_neg, word_zero]
    intro q
    exact h ((Nat.div_one _).symm.trans_lt (q (1 : Fin 2)).2.2)

/-- The columns that the first product reads. -/
theorem gate_weight (c : Dev nD) (t : Fin cfg0.N) (i : Fin 1024) (l : Fin 2048) :
    View.ld (iblk m c 3 t : Vec Ideal S1024x5248 .bf16) r0_2 (ix2 i l)
      = (m ((c : Thread nD τ).loc main_arg3) : FVec Ideal S1024x5152 .f32) (ix2 i ⟨l.val, by omega⟩) := by
  have e : r0_2.idx (ix2 i l) = ix2 i (⟨l.val, by omega⟩ : Fin 5248) := funext fun a => Fin.ext <| by
    match a with
    | ⟨0, _⟩ => show 0 + 1 * i.val = i.val; omega
    | ⟨1, _⟩ => show 0 + 1 * l.val = l.val; omega
  show (iblk m c 3 t : Vec Ideal S1024x5248 .bf16) (r0_2.idx (ix2 i l)) = _
  rw [e, weight, padded, dif_pos (show l.val < 5152 by omega)]

/-- The columns that the second product reads. -/
theorem conv_weight (c : Dev nD) (t : Fin cfg0.N) (i : Fin 1024) (l : Fin 3072) :
    View.ld (iblk m c 3 t : Vec Ideal S1024x5248 .bf16) r0_4 (ix2 i l)
      = (m ((c : Thread nD τ).loc main_arg3) : FVec Ideal S1024x5152 .f32) (ix2 i ⟨2048 + l.val, by omega⟩) := by
  have e : r0_4.idx (ix2 i l) = ix2 i (⟨2048 + l.val, by omega⟩ : Fin 5248) := funext fun a => Fin.ext <| by
    match a with
    | ⟨0, _⟩ => show 0 + 1 * i.val = i.val; omega
    | ⟨1, _⟩ => show 2048 + 1 * l.val = 2048 + l.val; omega
  show (iblk m c 3 t : Vec Ideal S1024x5248 .bf16) (r0_4.idx (ix2 i l)) = _
  rw [e, weight, padded, dif_pos (show 2048 + l.val < 5152 by omega)]

/-- The columns that the third product reads: the last 32, then zeros. -/
theorem step_weight (c : Dev nD) (t : Fin cfg0.N) (i : Fin 1024) (l : Fin 128) :
    View.ld (iblk m c 3 t : Vec Ideal S1024x5248 .bf16) r0_6 (ix2 i l)
      = padded (m ((c : Thread nD τ).loc main_arg3)) i ⟨5120 + l.val, by omega⟩ := by
  have e : r0_6.idx (ix2 i l) = ix2 i (⟨5120 + l.val, by omega⟩ : Fin 5248) := funext fun a => Fin.ext <| by
    match a with
    | ⟨0, _⟩ => show 0 + 1 * i.val = i.val; omega
    | ⟨1, _⟩ => show 5120 + 1 * l.val = 5120 + l.val; omega
  show (iblk m c 3 t : Vec Ideal S1024x5248 .bf16) (r0_6.idx (ix2 i l)) = _
  rw [e, weight]

end Cert.Proof.SsdProject

end
-- ==== Proof.SsdProjectArray.lean ====
/-
  The recurrent mixer's projection: what the kernel's three result arrays hold after the run.
-/
module

public import proofs.«01_k».proof.Proof.SsdProjectKernel

@[expose] public section

set_option maxRecDepth 16384

noncomputable section

namespace Cert.Proof.SsdProject

open Idealize.ShloMosaic Idealize.ShloMosaic.TcCoe Idealize.SL.Sem Cert.SsdProjectIdeal Cert.SsdProjectIdeal.Gen
open Idealize.ShloMosaic.Pipeline (Dat)

variable (m : (ℓ : Loc nD τ sig) → Buf (Elt Ideal) ℓ)

/-- The first array that the run must leave, from the launched arguments. -/
abbrev gateGoal (c : Dev nD) : FVec Ideal S2x8192x2048 .f32 :=
  gateArray (m ((c : Thread nD τ).loc main_arg0)) (m ((c : Thread nD τ).loc main_arg1)) (m ((c : Thread nD τ).loc main_arg2))
    (m ((c : Thread nD τ).loc main_arg3))

/-- The second. -/
abbrev convGoal (c : Dev nD) : FVec Ideal S2x8192x3072 .f32 :=
  convArray (m ((c : Thread nD τ).loc main_arg0)) (m ((c : Thread nD τ).loc main_arg1)) (m ((c : Thread nD τ).loc main_arg2))
    (m ((c : Thread nD τ).loc main_arg3))

/-- The third. -/
abbrev stepGoal (c : Dev nD) : FVec Ideal S2x8192x128 .f32 :=
  stepArray (m ((c : Thread nD τ).loc main_arg0)) (m ((c : Thread nD τ).loc main_arg1)) (m ((c : Thread nD τ).loc main_arg2))
    (m ((c : Thread nD τ).loc main_arg3))

theorem gate_point (c : Dev nD) (t : Fin cfg0.N) (r : Fin 512) (l : Fin 2048) :
    k0_pay3 (iblk m c 0 t) (iblk m c 2 t) (iblk m c 1 t) (View.ld (iblk m c 3 t) r0_2) (ix3 0 r l)
      = gateGoal m c (((cfg0.win 4).blk t).view.emb (ix3 0 r l)) := by
  refine (gate_apply (iblk m c 0 t) (iblk m c 1 t) (iblk m c 2 t) (View.ld (iblk m c 3 t) r0_2) r l).trans ?_
  simp only [gateGoal, gateArray, entry]
  congr 1
  · funext i
    blk_ext [iblk, V, idx t]
  · funext i
    blk_ext [iblk, V, idx t]
  · funext i
    blk_ext [iblk, V, idx t]
  · funext i
    refine (gate_weight m c t i l).trans (congrArg _ (congrArg (ix2 i) (Fin.ext ?_)))
    show l.val = ((((cfg0.win 4).blk t).view.emb (ix3 0 r l)) 2 : ℕ)
    blk_simp [idx t]

theorem conv_point (c : Dev nD) (t : Fin cfg0.N) (r : Fin 512) (l : Fin 3072) :
    k0_pay4 (iblk m c 0 t) (iblk m c 2 t) (iblk m c 1 t) (View.ld (iblk m c 3 t) r0_4) (ix3 0 r l)
      = convGoal m c (((cfg0.win 5).blk t).view.emb (ix3 0 r l)) := by
  refine (conv_apply (iblk m c 0 t) (iblk m c 1 t) (iblk m c 2 t) (View.ld (iblk m c 3 t) r0_4) r l).trans ?_
  simp only [convGoal, convArray, entry]
  congr 1
  · funext i
    blk_ext [iblk, V, idx t]
  · funext i
    blk_ext [iblk, V, idx t]
  · funext i
    blk_ext [iblk, V, idx t]
  · funext i
    refine (conv_weight m c t i l).trans (congrArg _ (congrArg (ix2 i) (Fin.ext ?_)))
    show 2048 + l.val = 2048 + ((((cfg0.win 5).blk t).view.emb (ix3 0 r l)) 2 : ℕ)
    blk_simp [idx t]

theorem step_point (c : Dev nD) (t : Fin cfg0.N) (r : Fin 512) (l : Fin 128) :
    k0_pay1 (k0_pay5 (iblk m c 0 t) (iblk m c 2 t) (iblk m c 1 t) (View.ld (iblk m c 3 t) r0_6)) (ix3 0 r l)
      = stepGoal m c (((cfg0.win 6).blk t).view.emb (ix3 0 r l)) := by
  refine (step_apply (iblk m c 0 t) (iblk m c 1 t) (iblk m c 2 t) (View.ld (iblk m c 3 t) r0_6) r l).trans ?_
  have hl : ((((cfg0.win 6).blk t).view.emb (ix3 0 r l)) 2 : ℕ) = l.val := by blk_simp [idx t]
  simp only [step_weight]
  by_cases h : l.val < 32
  · simp only [stepGoal, stepArray, entry]
    rw [dif_pos (hl.trans_lt h)]
    congr 1
    · funext i
      blk_ext [iblk, V, idx t]
    · funext i
      blk_ext [iblk, V, idx t]
    · funext i
      blk_ext [iblk, V, idx t]
    · funext i
      rw [padded, dif_pos (show 5120 + l.val < 5152 by omega)]
      refine congrArg _ (congrArg (ix2 i) (Fin.ext ?_))
      show 5120 + l.val = 5120 + ((((cfg0.win 6).blk t).view.emb (ix3 0 r l)) 2 : ℕ)
      rw [hl]
  · simp only [stepGoal, stepArray]
    rw [dif_neg (fun q => h (hl.symm.trans_lt q))]
    unfold column
    refine Finset.sum_eq_zero fun i _ => ?_
    beta_reduce
    rw [padded, dif_neg (show ¬ 5120 + l.val < 5152 by omega)]
    exact mul_zero _

/-- The first result array after the run. -/
theorem gate_final (c : Dev nD) : (dats m 0 c).arrAt 4 cfg0.N = gateGoal m c := by
  refine (dats m 0 c).arrAt_eq_of_covers 4 _ (by decide +kernel) fun t _ y => ?_
  blk_simp
  rw [after0_4]
  frame_out
  have hy : y = ix3 (⟨0, by decide⟩ : Fin 1) (⟨(y 1).val, (y 1).isLt⟩ : Fin 512) (⟨(y 2).val, (y 2).isLt⟩ : Fin 2048) := by
    blk_ext
  rw [hy]
  exact gate_point m c t _ _

/-- The second. -/
theorem conv_final (c : Dev nD) : (dats m 0 c).arrAt 5 cfg0.N = convGoal m c := by
  refine (dats m 0 c).arrAt_eq_of_covers 5 _ (by decide +kernel) fun t _ y => ?_
  blk_simp
  rw [after0_5]
  frame_out
  have hy : y = ix3 (⟨0, by decide⟩ : Fin 1) (⟨(y 1).val, (y 1).isLt⟩ : Fin 512) (⟨(y 2).val, (y 2).isLt⟩ : Fin 3072) := by
    blk_ext
  rw [hy]
  exact conv_point m c t _ _

/-- The third. -/
theorem step_final (c : Dev nD) : (dats m 0 c).arrAt 6 cfg0.N = stepGoal m c := by
  refine (dats m 0 c).arrAt_eq_of_covers 6 _ (by decide +kernel) fun t _ y => ?_
  blk_simp
  rw [after0_6]
  frame_out
  have hy : y = ix3 (⟨0, by decide⟩ : Fin 1) (⟨(y 1).val, (y 1).isLt⟩ : Fin 512) (⟨(y 2).val, (y 2).isLt⟩ : Fin 128) := by
    blk_ext
  rw [hy]
  exact step_point m c t _ _

end Cert.Proof.SsdProject

end
-- ==== Proof.SsdProjectEquation.lean ====
/-
  The recurrent mixer's projection: the reference computes the formula, so both programs end with equal results.
-/
module

public import proofs.«01_k».proof.Defs
public import proofs.«01_k».proof.Proof.SsdProjectArray
public import proofs.«01_k».proof.Proof.Gen.SsdProjectReferenceIdeal.Run
public import proofs.«01_k».proof.Proof.Gen.SsdProjectReferenceIdeal.Read

@[expose] public section

set_option maxRecDepth 16384

noncomputable section

namespace Cert.Proof.SsdProject

open Idealize.ShloMosaic Idealize.SL.Sem
open Cert.Proof.Ffn (modulated)

section Reference

open Cert.SsdProjectReferenceIdeal Cert.SsdProjectReferenceIdeal.Gen Cert.SsdProjectReferenceIdeal.Read

variable (x : FVec Ideal S2x8192x1024 .f32) (sh sc : FVec Ideal S2x1x1024 .f32) (w : FVec Ideal S1024x5152 .f32)

/-- The whole projection. -/
theorem ref_entry (p : Fin 2) (q : Fin 8192) (n : Fin 5152) : val_main_v6 (F := Ideal) x sh sc w (ix3 p q n)
    = entry x sh sc w p q n := by
  unfold entry column modulated
  pointwise [val_main_v6, val_main_v5, val_main_v4, val_main_v3, val_main_v2, val_main_v1, val_main_v0, val_main_cst]

theorem ref_gate : val_main_v9 (F := Ideal) x sh sc w = gateArray x sh sc w := by
  funext j
  rw [val_main_v9_apply]
  refine (congrArg _ ?_).trans (ref_entry x sh sc w (j 0) (j 1) _)
  funext a
  refine Fin.ext ?_
  match a with
  | ⟨0, _⟩ => rfl
  | ⟨1, _⟩ => rfl
  | ⟨2, _⟩ => rfl

theorem ref_conv : val_main_v10 (F := Ideal) x sh sc w = convArray x sh sc w := by
  funext j
  rw [val_main_v10_apply]
  refine (congrArg _ ?_).trans (ref_entry x sh sc w (j 0) (j 1) _)
  funext a
  refine Fin.ext ?_
  match a with
  | ⟨0, _⟩ => rfl
  | ⟨1, _⟩ => rfl
  | ⟨2, _⟩ => rfl

theorem ref_step : val_main_v8 (F := Ideal) x sh sc w = stepArray x sh sc w := by
  funext j
  have hj : j = ix3 (⟨(j 0).val, (j 0).isLt⟩ : Fin 2) (⟨(j 1).val, (j 1).isLt⟩ : Fin 8192) (⟨(j 2).val, (j 2).isLt⟩ : Fin 128) := by
    blk_ext
  rw [hj]
  unfold stepArray
  pointwise [val_main_v8, val_main_v7, val_main_call0_v0, val_main_c]
  by_cases h : (j 2).val < 32
  · rw [dif_pos h, dif_pos h]
    exact ref_entry x sh sc w (j 0) (j 1) _
  · rw [dif_neg h, dif_neg h]
    exact word_zero

end Reference

/-- The two programs, over the ideal numbers, end with the same result arrays and leave their arguments as they were. -/
theorem algebraic : Cert.algebraic_SsdProjectIdeal_SsdProjectReferenceIdeal
    (hSsdProjectIdeal := Cert.SsdProjectIdeal.Gen.facts) (hSsdProjectReferenceIdeal := Cert.SsdProjectReferenceIdeal.Gen.facts) := by
  intro m g m' g' _ hagree
  refine ⟨fun c => gateGoal m c, fun c => convGoal m c, fun c => stepGoal m c, ?_, ?_⟩
  · exact (θ_run _ _ _).mono (fun r h c => ⟨(h c).1.trans (gate_final m c), (h c).2.1.trans (conv_final m c),
      (h c).2.2.1.trans (step_final m c), (h c).2.2.2⟩) (Cert.SsdProjectIdeal.Value.run_blocks m g)
  · refine (θ_run _ _ _).mono (fun r h c => ⟨(h c).1.trans ?_, (h c).2.1.trans ?_, (h c).2.2.1.trans ?_, (h c).2.2.2⟩)
      (Cert.SsdProjectReferenceIdeal.Value.run m' g')
    all_goals obtain ⟨h0, h1, h2, h3⟩ := hagree c
    · rw [Cert.SsdProjectReferenceIdeal.Read.val_main_v9_eq, h0, h1, h2, h3]
      exact ref_gate _ _ _ _
    · rw [Cert.SsdProjectReferenceIdeal.Read.val_main_v10_eq, h0, h1, h2, h3]
      exact ref_conv _ _ _ _
    · rw [Cert.SsdProjectReferenceIdeal.Read.val_main_v8_eq, h0, h1, h2, h3]
      exact ref_step _ _ _ _

end Cert.Proof.SsdProject

end
-- ==== Proof.FrameSsdOutReference.lean ====
/-
  The recurrent mixer's output reference runs, ends with its argument arrays unchanged, and leaves every counter at zero.
-/
module

public import proofs.«01_k».proof.Proof.Gen.SsdOutReferenceIdeal.Run
public import Idealize.ShloMosaic.Lib.Claim
public import Idealize.ShloMosaic.Lib.Quiescent

@[expose] public section

noncomputable section

namespace Cert.Proof.SsdOutReferenceIdeal

open Idealize.ShloMosaic Idealize.SL.Sem Cert.SsdOutReferenceIdeal Cert.SsdOutReferenceIdeal.Value
open Cert.SsdOutReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems rfl r.2⟩) (run m ρ)

end Cert.Proof.SsdOutReferenceIdeal

end
-- ==== Proof.SsdOutKernel.lean ====
/-
  The recurrent mixer's output sublayer: its formula, and that the kernel's result array holds it after the run.
-/
module

public import proofs.«01_k».proof.Proof.FfnValue
public import proofs.«01_k».proof.Proof.Gen.SsdOutIdeal.Frame
public import proofs.«01_k».proof.Proof.Gen.SsdOutIdeal.Value
public import Idealize.ShloMosaic.Lib.Pipeline.ValueKit
public import Idealize.ShloMosaic.Lib.Pointwise

@[expose] public section

set_option maxRecDepth 16384

noncomputable section

namespace Cert.Proof.SsdOut

open Idealize.ShloMosaic Idealize.ShloMosaic.TcCoe Idealize.SL.Sem Cert.SsdOutIdeal Cert.SsdOutIdeal.Gen
open Cert.Proof.Ffn (normed mean)

/-- The residual stream: the scaled row plus the gated product of the mixer's row with the output weights. -/
def stream (y : Fin 2048 → EReal) (x gt : Fin 1024 → EReal) (w : Fin 2048 → Fin 1024 → EReal) (l : Fin 1024) : EReal :=
  Ideal.ofBits FTy.f32 1071072509#32 * x l + (1 + gt l) * ∑ i, y i * w i l

/-- The sublayer's result array, from its argument arrays. -/
def sublayerArray (y : FVec Ideal S2x8192x2048 .bf16) (x : FVec Ideal S2x8192x1024 .f32) (gt : FVec Ideal S2x1x1024 .f32)
    (w : FVec Ideal S2048x1024 .f32) (g b : FVec Ideal S1024 .f32) : FVec Ideal S2x8192x1024 .f32 :=
  fun j => normed (stream (fun i => y (ix3 (j 0) (j 1) i)) (fun i => x (ix3 (j 0) (j 1) i)) (fun i => gt (ix3 (j 0) 0 i))
    (fun i l => w (ix2 i l))) (fun i => g (ix1 i)) (fun i => b (ix1 i)) (j 2)

/-- One row of the block that the kernel writes is that row of the sublayer. -/
theorem block_apply (x0 : Vec Ideal S1x512x2048 .bf16) (x1 : Vec Ideal S1x512x1024 .f32) (x2 : Vec Ideal S1x1x1024 .f32)
    (x3 : Vec Ideal S2048x1024 .bf16) (x4 x5 : Vec Ideal S1x1024 .f32) (r : Fin 512) (l : Fin 1024) :
    k0_pay1 (k0_pay2 x0 x3 x1 x2 x4) x5 (ix3 0 r l)
      = normed (stream (fun i => x0 (ix3 0 r i)) (fun i => x1 (ix3 0 r i)) (fun i => x2 (ix3 0 0 i)) (fun i l => x3 (ix2 i l)))
          (fun i => x4 (ix2 0 i)) (fun i => x5 (ix2 0 i)) l := by
  unfold normed mean stream
  pointwise [k0_pay1, k0_pay2]

variable (m : (ℓ : Loc nD τ sig) → Buf (Elt Ideal) ℓ)

/-- Every window's block index at every grid point. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, 0, 0] ∧ win0_3.index t = ![0, 0]
    ∧ win0_4.index t = ![0, 0] ∧ win0_5.index t = ![0, 0]
    ∧ win0_6.index t = ![(grid0.coords t 0).val, (grid0.coords t 1).val, 0] :=
  (by decide +kernel : ∀ t : Fin grid0.N, _)

/-- The output weights, as the kernel finds them. -/
theorem weight (c : Dev nD) (t : Fin cfg0.N) (i : Fin 2048) (l : Fin 1024) :
    (iblk m c 3 t : Vec Ideal S2048x1024 .bf16) (ix2 i l)
      = (m ((c : Thread nD τ).loc main_arg3) : FVec Ideal S2048x1024 .f32) (ix2 i l) := by
  have e : ((cfg0.win 3).blk t).view.emb (ix2 i l) = ix2 i l := by blk_ext [idx t]
  show V m c main_v0 (((cfg0.win 3).blk t).view.emb (ix2 i l)) = _
  rw [e]
  entry_read
  pointwise

/-- The normalisation's scale, as the kernel finds it. -/
theorem scale (c : Dev nD) (t : Fin cfg0.N) (i : Fin 1024) :
    (iblk m c 4 t : Vec Ideal S1x1024 .f32) (ix2 0 i)
      = (m ((c : Thread nD τ).loc main_arg4) : FVec Ideal S1024 .f32) (ix1 i) := by
  have e : ((cfg0.win 4).blk t).view.emb (ix2 0 i) = ix2 0 i := by blk_ext [idx t]
  show V m c main_v1 (((cfg0.win 4).blk t).view.emb (ix2 0 i)) = _
  rw [e]
  entry_read
  pointwise

/-- The normalisation's shift, as the kernel finds it. -/
theorem offset (c : Dev nD) (t : Fin cfg0.N) (i : Fin 1024) :
    (iblk m c 5 t : Vec Ideal S1x1024 .f32) (ix2 0 i)
      = (m ((c : Thread nD τ).loc main_arg5) : FVec Ideal S1024 .f32) (ix1 i) := by
  have e : ((cfg0.win 5).blk t).view.emb (ix2 0 i) = ix2 0 i := by blk_ext [idx t]
  show V m c main_v2 (((cfg0.win 5).blk t).view.emb (ix2 0 i)) = _
  rw [e]
  entry_read
  pointwise

/-- The array that the run must leave, from the launched arguments. -/
abbrev goal (c : Dev nD) : FVec Ideal S2x8192x1024 .f32 :=
  sublayerArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body writes at one place of one grid point's block is the sublayer at that place of the array. -/
theorem point (c : Dev nD) (t : Fin cfg0.N) (r : Fin 512) (l : Fin 1024) :
    k0_pay1 (k0_pay2 (iblk m c 0 t) (iblk m c 3 t) (iblk m c 1 t) (iblk m c 2 t) (iblk m c 4 t)) (iblk m c 5 t) (ix3 0 r l)
      = goal m c (((cfg0.win 6).blk t).view.emb (ix3 0 r l)) := by
  refine (block_apply (iblk m c 0 t) (iblk m c 1 t) (iblk m c 2 t) (iblk m c 3 t) (iblk m c 4 t) (iblk m c 5 t) r l).trans ?_
  simp only [goal, sublayerArray]
  congr 1
  · congr 1
    · funext i
      blk_ext [iblk, V, idx t]
    · funext i
      blk_ext [iblk, V, idx t]
    · funext i
      blk_ext [iblk, V, idx t]
    · exact funext fun i => funext fun l => weight m c t i l
  · exact funext fun i => scale m c t i
  · exact funext fun i => offset m c t i
  · refine Fin.ext ?_
    show l.val = ((((cfg0.win 6).blk t).view.emb (ix3 0 r l)) 2 : ℕ)
    blk_simp [idx t]

/-- The result array after the run is the sublayer of the launched arguments. -/
theorem final (c : Dev nD) : (dats m 0 c).arrAt 6 cfg0.N = goal m c := by
  refine (dats m 0 c).arrAt_eq_of_covers 6 _ (by decide +kernel) fun t _ y => ?_
  blk_simp
  rw [after0_6]
  frame_out
  have hy : y = ix3 (⟨0, by decide⟩ : Fin 1) (⟨(y 1).val, (y 1).isLt⟩ : Fin 512) (⟨(y 2).val, (y 2).isLt⟩ : Fin 1024) := by
    blk_ext
  rw [hy]
  exact point m c t _ _

end Cert.Proof.SsdOut

end
-- ==== Proof.SsdOutEquation.lean ====
/-
  The recurrent mixer's output sublayer: the reference computes the formula, so both programs end with equal results.
-/
module

public import proofs.«01_k».proof.Defs
public import proofs.«01_k».proof.Proof.SsdOutKernel
public import proofs.«01_k».proof.Proof.Gen.SsdOutReferenceIdeal.Run
public import proofs.«01_k».proof.Proof.Gen.SsdOutReferenceIdeal.Read
public import Idealize.ShloMosaic.Lib.Claim
public import Idealize.ShloMosaic.Lib.Quiescent

@[expose] public section

set_option maxRecDepth 16384

noncomputable section

namespace Cert.Proof.SsdOut

open Idealize.ShloMosaic Idealize.SL.Sem
open Cert.Proof.Ffn (normed mean)

section Reference

open Cert.SsdOutReferenceIdeal Cert.SsdOutReferenceIdeal.Gen Cert.SsdOutReferenceIdeal.Read

variable (y : FVec Ideal S2x8192x2048 .bf16) (x : FVec Ideal S2x8192x1024 .f32) (gt : FVec Ideal S2x1x1024 .f32)
    (w : FVec Ideal S2048x1024 .f32) (g b : FVec Ideal S1024 .f32)

/-- The residual stream. -/
theorem ref_stream (p : Fin 2) (q : Fin 8192) (l : Fin 1024) : val_main_v8 (F := Ideal) y x gt w (ix3 p q l)
    = stream (fun k => y (ix3 p q k)) (fun k => x (ix3 p q k)) (fun k => gt (ix3 p 0 k)) (fun k l => w (ix2 k l)) l := by
  unfold stream
  pointwise [val_main_v8, val_main_v7, val_main_v6, val_main_v5, val_main_v4, val_main_v3, val_main_v2, val_main_v1,
    val_main_v0, val_main_cst, val_main_cst_0]

/-- The normalisation, from the residual stream. -/
theorem ref_normed (p : Fin 2) (q : Fin 8192) (l : Fin 1024) : val_main_v32 (F := Ideal) y x gt w g b (ix3 p q l)
    = normed (fun k => val_main_v8 (F := Ideal) y x gt w (ix3 p q k)) (fun k => g (ix1 k)) (fun k => b (ix1 k)) l := by
  unfold normed mean
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_cst_1, val_main_cst_2, val_main_cst_3, val_main_cst_4, val_main_cst_5]

/-- The reference's result is the sublayer of its arguments. -/
theorem ref_eq : val_main_v32 (F := Ideal) y x gt w g b = sublayerArray y x gt w g b := by
  funext j
  have hj : j = ix3 (⟨(j 0).val, (j 0).isLt⟩ : Fin 2) (⟨(j 1).val, (j 1).isLt⟩ : Fin 8192) (⟨(j 2).val, (j 2).isLt⟩ : Fin 1024) := by
    blk_ext
  rw [hj, ref_normed]
  simp only [ref_stream]
  rfl

end Reference

/-- The two programs, over the ideal numbers, end with the same result array and leave their arguments as they were. -/
theorem algebraic : Cert.algebraic_SsdOutIdeal_SsdOutReferenceIdeal
    (hSsdOutIdeal := Cert.SsdOutIdeal.Gen.facts) (hSsdOutReferenceIdeal := Cert.SsdOutReferenceIdeal.Gen.facts) := by
  intro m g m' g' _ hagree
  refine ⟨fun c => goal m c, ?_, ?_⟩
  · exact (θ_run _ _ _).mono (fun r h c => ⟨(h c).1.trans (final m c), (h c).2⟩) (Cert.SsdOutIdeal.Value.run_blocks m g)
  · refine (θ_run _ _ _).mono (fun r h c => ⟨(h c).1.trans ?_, (h c).2⟩) (Cert.SsdOutReferenceIdeal.Value.run m' g')
    obtain ⟨h0, h1, h2, h3, h4, h5⟩ := hagree c
    rw [Cert.SsdOutReferenceIdeal.Read.val_main_v32_eq, h0, h1, h2, h3, h4, h5]
    exact ref_eq _ _ _ _ _ _

end Cert.Proof.SsdOut

end
-- ==== Proof.FrameNsaOutReference.lean ====
/-
  The sparse attention's output reference runs, ends with its argument arrays unchanged, and leaves every counter at zero.
-/
module

public import proofs.«01_k».proof.Proof.Gen.NsaOutReferenceIdeal.Run
public import Idealize.ShloMosaic.Lib.Claim
public import Idealize.ShloMosaic.Lib.Quiescent

@[expose] public section

noncomputable section

namespace Cert.Proof.NsaOutReferenceIdeal

open Idealize.ShloMosaic Idealize.SL.Sem Cert.NsaOutReferenceIdeal Cert.NsaOutReferenceIdeal.Value
open Cert.NsaOutReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems rfl r.2⟩) (run m ρ)

end Cert.Proof.NsaOutReferenceIdeal

end
-- ==== Proof.NsaOutKernel.lean ====
/-
  The sparse attention's output sublayer: its formula, and that the kernel's result array holds it after the run.
-/
module

public import proofs.«01_k».proof.Proof.FfnValue
public import proofs.«01_k».proof.Proof.Gen.NsaOutIdeal.Frame
public import proofs.«01_k».proof.Proof.Gen.NsaOutIdeal.Value
public import Idealize.ShloMosaic.Lib.Pipeline.ValueKit
public import Idealize.ShloMosaic.Lib.Pointwise

@[expose] public section

set_option maxRecDepth 16384

noncomputable section

namespace Cert.Proof.NsaOut

open Idealize.ShloMosaic Idealize.ShloMosaic.TcCoe Idealize.SL.Sem Cert.NsaOutIdeal Cert.NsaOutIdeal.Gen
open Cert.Proof.Ffn (normed mean)

/-- The residual stream: the scaled row plus the gated product of the attention's row with the output weights. -/
def stream (y : Fin 1024 → EReal) (x gt : Fin 1024 → EReal) (w : Fin 1024 → Fin 1024 → EReal) (l : Fin 1024) : EReal :=
  Ideal.ofBits FTy.f32 1071072509#32 * x l + (1 + gt l) * ∑ i, y i * w i l

/-- The sublayer's result array, from its argument arrays. -/
def sublayerArray (y : FVec Ideal S2x8192x1024 .bf16) (x : FVec Ideal S2x8192x1024 .f32) (gt : FVec Ideal S2x1x1024 .f32)
    (w : FVec Ideal S1024x1024 .f32) (g b : FVec Ideal S1024 .f32) : FVec Ideal S2x8192x1024 .f32 :=
  fun j => normed (stream (fun i => y (ix3 (j 0) (j 1) i)) (fun i => x (ix3 (j 0) (j 1) i)) (fun i => gt (ix3 (j 0) 0 i))
    (fun i l => w (ix2 i l))) (fun i => g (ix1 i)) (fun i => b (ix1 i)) (j 2)

/-- One row of the block that the kernel writes is that row of the sublayer. -/
theorem block_apply (x0 : Vec Ideal S1x512x1024 .bf16) (x1 : Vec Ideal S1x512x1024 .f32) (x2 : Vec Ideal S1x1x1024 .f32)
    (x3 : Vec Ideal S1024x1024 .bf16) (x4 x5 : Vec Ideal S1x1024 .f32) (r : Fin 512) (l : Fin 1024) :
    k0_pay1 (k0_pay2 x0 x3 x1 x2 x4) x5 (ix3 0 r l)
      = normed (stream (fun i => x0 (ix3 0 r i)) (fun i => x1 (ix3 0 r i)) (fun i => x2 (ix3 0 0 i)) (fun i l => x3 (ix2 i l)))
          (fun i => x4 (ix2 0 i)) (fun i => x5 (ix2 0 i)) l := by
  unfold normed mean stream
  pointwise [k0_pay1, k0_pay2]

variable (m : (ℓ : Loc nD τ sig) → Buf (Elt Ideal) ℓ)

/-- Every window's block index at every grid point. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, 0, 0] ∧ win0_3.index t = ![0, 0]
    ∧ win0_4.index t = ![0, 0] ∧ win0_5.index t = ![0, 0]
    ∧ win0_6.index t = ![(grid0.coords t 0).val, (grid0.coords t 1).val, 0] :=
  (by decide +kernel : ∀ t : Fin grid0.N, _)

/-- The output weights, as the kernel finds them. -/
theorem weight (c : Dev nD) (t : Fin cfg0.N) (i : Fin 1024) (l : Fin 1024) :
    (iblk m c 3 t : Vec Ideal S1024x1024 .bf16) (ix2 i l)
      = (m ((c : Thread nD τ).loc main_arg3) : FVec Ideal S1024x1024 .f32) (ix2 i l) := by
  have e : ((cfg0.win 3).blk t).view.emb (ix2 i l) = ix2 i l := by blk_ext [idx t]
  show V m c main_v0 (((cfg0.win 3).blk t).view.emb (ix2 i l)) = _
  rw [e]
  entry_read
  pointwise

/-- The normalisation's scale, as the kernel finds it. -/
theorem scale (c : Dev nD) (t : Fin cfg0.N) (i : Fin 1024) :
    (iblk m c 4 t : Vec Ideal S1x1024 .f32) (ix2 0 i)
      = (m ((c : Thread nD τ).loc main_arg4) : FVec Ideal S1024 .f32) (ix1 i) := by
  have e : ((cfg0.win 4).blk t).view.emb (ix2 0 i) = ix2 0 i := by blk_ext [idx t]
  show V m c main_v1 (((cfg0.win 4).blk t).view.emb (ix2 0 i)) = _
  rw [e]
  entry_read
  pointwise

/-- The normalisation's shift, as the kernel finds it. -/
theorem offset (c : Dev nD) (t : Fin cfg0.N) (i : Fin 1024) :
    (iblk m c 5 t : Vec Ideal S1x1024 .f32) (ix2 0 i)
      = (m ((c : Thread nD τ).loc main_arg5) : FVec Ideal S1024 .f32) (ix1 i) := by
  have e : ((cfg0.win 5).blk t).view.emb (ix2 0 i) = ix2 0 i := by blk_ext [idx t]
  show V m c main_v2 (((cfg0.win 5).blk t).view.emb (ix2 0 i)) = _
  rw [e]
  entry_read
  pointwise

/-- The array that the run must leave, from the launched arguments. -/
abbrev goal (c : Dev nD) : FVec Ideal S2x8192x1024 .f32 :=
  sublayerArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body writes at one place of one grid point's block is the sublayer at that place of the array. -/
theorem point (c : Dev nD) (t : Fin cfg0.N) (r : Fin 512) (l : Fin 1024) :
    k0_pay1 (k0_pay2 (iblk m c 0 t) (iblk m c 3 t) (iblk m c 1 t) (iblk m c 2 t) (iblk m c 4 t)) (iblk m c 5 t) (ix3 0 r l)
      = goal m c (((cfg0.win 6).blk t).view.emb (ix3 0 r l)) := by
  refine (block_apply (iblk m c 0 t) (iblk m c 1 t) (iblk m c 2 t) (iblk m c 3 t) (iblk m c 4 t) (iblk m c 5 t) r l).trans ?_
  simp only [goal, sublayerArray]
  congr 1
  · congr 1
    · funext i
      blk_ext [iblk, V, idx t]
    · funext i
      blk_ext [iblk, V, idx t]
    · funext i
      blk_ext [iblk, V, idx t]
    · exact funext fun i => funext fun l => weight m c t i l
  · exact funext fun i => scale m c t i
  · exact funext fun i => offset m c t i
  · refine Fin.ext ?_
    show l.val = ((((cfg0.win 6).blk t).view.emb (ix3 0 r l)) 2 : ℕ)
    blk_simp [idx t]

/-- The result array after the run is the sublayer of the launched arguments. -/
theorem final (c : Dev nD) : (dats m 0 c).arrAt 6 cfg0.N = goal m c := by
  refine (dats m 0 c).arrAt_eq_of_covers 6 _ (by decide +kernel) fun t _ y => ?_
  blk_simp
  rw [after0_6]
  frame_out
  have hy : y = ix3 (⟨0, by decide⟩ : Fin 1) (⟨(y 1).val, (y 1).isLt⟩ : Fin 512) (⟨(y 2).val, (y 2).isLt⟩ : Fin 1024) := by
    blk_ext
  rw [hy]
  exact point m c t _ _

end Cert.Proof.NsaOut

end
-- ==== Proof.NsaOutEquation.lean ====
/-
  The sparse attention's output sublayer: the reference computes the formula, so both programs end with equal results.
-/
module

public import proofs.«01_k».proof.Defs
public import proofs.«01_k».proof.Proof.NsaOutKernel
public import proofs.«01_k».proof.Proof.Gen.NsaOutReferenceIdeal.Run
public import proofs.«01_k».proof.Proof.Gen.NsaOutReferenceIdeal.Read
public import Idealize.ShloMosaic.Lib.Claim
public import Idealize.ShloMosaic.Lib.Quiescent

@[expose] public section

set_option maxRecDepth 16384

noncomputable section

namespace Cert.Proof.NsaOut

open Idealize.ShloMosaic Idealize.SL.Sem
open Cert.Proof.Ffn (normed mean)

section Reference

open Cert.NsaOutReferenceIdeal Cert.NsaOutReferenceIdeal.Gen Cert.NsaOutReferenceIdeal.Read

variable (y : FVec Ideal S2x8192x1024 .bf16) (x : FVec Ideal S2x8192x1024 .f32) (gt : FVec Ideal S2x1x1024 .f32)
    (w : FVec Ideal S1024x1024 .f32) (g b : FVec Ideal S1024 .f32)

/-- The residual stream. -/
theorem ref_stream (p : Fin 2) (q : Fin 8192) (l : Fin 1024) : val_main_v8 (F := Ideal) y x gt w (ix3 p q l)
    = stream (fun k => y (ix3 p q k)) (fun k => x (ix3 p q k)) (fun k => gt (ix3 p 0 k)) (fun k l => w (ix2 k l)) l := by
  unfold stream
  pointwise [val_main_v8, val_main_v7, val_main_v6, val_main_v5, val_main_v4, val_main_v3, val_main_v2, val_main_v1,
    val_main_v0, val_main_cst, val_main_cst_0]

/-- The normalisation, from the residual stream. -/
theorem ref_normed (p : Fin 2) (q : Fin 8192) (l : Fin 1024) : val_main_v32 (F := Ideal) y x gt w g b (ix3 p q l)
    = normed (fun k => val_main_v8 (F := Ideal) y x gt w (ix3 p q k)) (fun k => g (ix1 k)) (fun k => b (ix1 k)) l := by
  unfold normed mean
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_cst_1, val_main_cst_2, val_main_cst_3, val_main_cst_4, val_main_cst_5]

/-- The reference's result is the sublayer of its arguments. -/
theorem ref_eq : val_main_v32 (F := Ideal) y x gt w g b = sublayerArray y x gt w g b := by
  funext j
  have hj : j = ix3 (⟨(j 0).val, (j 0).isLt⟩ : Fin 2) (⟨(j 1).val, (j 1).isLt⟩ : Fin 8192) (⟨(j 2).val, (j 2).isLt⟩ : Fin 1024) := by
    blk_ext
  rw [hj, ref_normed]
  simp only [ref_stream]
  rfl

end Reference

/-- The two programs, over the ideal numbers, end with the same result array and leave their arguments as they were. -/
theorem algebraic : Cert.algebraic_NsaOutIdeal_NsaOutReferenceIdeal
    (hNsaOutIdeal := Cert.NsaOutIdeal.Gen.facts) (hNsaOutReferenceIdeal := Cert.NsaOutReferenceIdeal.Gen.facts) := by
  intro m g m' g' _ hagree
  refine ⟨fun c => goal m c, ?_, ?_⟩
  · exact (θ_run _ _ _).mono (fun r h c => ⟨(h c).1.trans (final m c), (h c).2⟩) (Cert.NsaOutIdeal.Value.run_blocks m g)
  · refine (θ_run _ _ _).mono (fun r h c => ⟨(h c).1.trans ?_, (h c).2⟩) (Cert.NsaOutReferenceIdeal.Value.run m' g')
    obtain ⟨h0, h1, h2, h3, h4, h5⟩ := hagree c
    rw [Cert.NsaOutReferenceIdeal.Read.val_main_v32_eq, h0, h1, h2, h3, h4, h5]
    exact ref_eq _ _ _ _ _ _

end Cert.Proof.NsaOut

end
-- ==== Proof.FrameFfnSampleReference.lean ====
/-
  The feed-forward reference of the sample runs, ends with its argument arrays unchanged, and leaves every counter at zero.
-/
module

public import proofs.«01_k».proof.Proof.Gen.FfnSampleReferenceIdeal.Run
public import Idealize.ShloMosaic.Lib.Claim
public import Idealize.ShloMosaic.Lib.Quiescent

@[expose] public section

noncomputable section

namespace Cert.Proof.FfnSampleReferenceIdeal

open Idealize.ShloMosaic Idealize.SL.Sem Cert.FfnSampleReferenceIdeal Cert.FfnSampleReferenceIdeal.Value
open Cert.FfnSampleReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2, sem_eq_zero_of_no_sems rfl r.2⟩) (run m ρ)

end Cert.Proof.FfnSampleReferenceIdeal

end
-- ==== Proof.FfnSampleBlock.lean ====
/-
  What one block of the feed-forward sublayer of the sample computes: the words that the body leaves in its result block.
-/
module

public import proofs.«01_k».proof.Proof.Gen.FfnSampleIdeal.Frame
public import Idealize.ShloMosaic.Lib.VecWindow
public import Idealize.ShloMosaic.Lib.WholeRead
public import Idealize.ShloMosaic.Lib.Pointwise

@[expose] public section

set_option maxRecDepth 16384

noncomputable section

namespace Cert.Proof.FfnSample

open Idealize.ShloMosaic Idealize.SL.Sem Cert.FfnSampleIdeal Cert.FfnSampleIdeal.Gen

variable {F : FTy → Type} [FloatOps F]

/-- Chunk `n` of the eleven that a stack of weights holds. -/
def up (x : Vec F S11x1024x256 .bf16) (n : ℕ) : Vec F S1x1024x256 .bf16 :=
  fun j => x (ix3 (Fin.ofNat 11 n) (j 1) (j 2))

/-- Chunk `n` of the eleven of the second product's weights. -/
def down (x : Vec F S11x256x1024 .bf16) (n : ℕ) : Vec F S1x256x1024 .bf16 :=
  fun j => x (ix3 (Fin.ofNat 11 n) (j 1) (j 2))

/-- The accumulator after `n` chunks, from the modulated rows `h`. -/
def acc (h : FVec F S128x1024 .bf16) (x4 x5 : Vec F S11x1024x256 .bf16) (x6 : Vec F S11x256x1024 .bf16) :
    ℕ → FVec F S128x1024 .f32
  | 0 => k0_pay4
  | n + 1 => k0_pay7 h (up x4 n) (up x5 n) (acc h x4 x5 x6 n) (down x6 n)

/-- A load of one chunk of a stack of weights reads that chunk. -/
theorem load_up (a : Memref sig .tc .vmem S11x1024x256 .bf16) (ha : a.IsWhole) (x : Vec F S11x1024x256 .bf16) (n : ℕ)
    (inb : ∀ d, (![n, 0, 0] : Fin 3 → ℕ) d + (![1, 1024, 256] : Fin 3 → ℕ) d ≤ S11x1024x256.size d) :
    a.view.readAt (Elt F) (Rect.unit (![n, 0, 0] : Fin 3 → ℕ) ![1, 1024, 256] inb).toLoadRect (ha.unread x) = up x n := by
  funext j
  refine (ha.readAt_unread x _ j).trans (congrArg x (funext fun d => Fin.ext ?_))
  have h0 := inb 0
  simp at h0
  match d with
  | ⟨0, _⟩ =>
    have : (j 0).val < 1 := (j 0).isLt
    show n + 1 * (j 0).val = n % 11
    omega
  | ⟨1, _⟩ => show 0 + 1 * (j 1).val = (j 1).val; omega
  | ⟨2, _⟩ => show 0 + 1 * (j 2).val = (j 2).val; omega

/-- A load of one chunk of the second product's weights reads that chunk. -/
theorem load_down (a : Memref sig .tc .vmem S11x256x1024 .bf16) (ha : a.IsWhole) (x : Vec F S11x256x1024 .bf16) (n : ℕ)
    (inb : ∀ d, (![n, 0, 0] : Fin 3 → ℕ) d + (![1, 256, 1024] : Fin 3 → ℕ) d ≤ S11x256x1024.size d) :
    a.view.readAt (Elt F) (Rect.unit (![n, 0, 0] : Fin 3 → ℕ) ![1, 256, 1024] inb).toLoadRect (ha.unread x) = down x n := by
  funext j
  refine (ha.readAt_unread x _ j).trans (congrArg x (funext fun d => Fin.ext ?_))
  have h0 := inb 0
  simp at h0
  match d with
  | ⟨0, _⟩ =>
    have : (j 0).val < 1 := (j 0).isLt
    show n + 1 * (j 0).val = n % 11
    omega
  | ⟨1, _⟩ => show 0 + 1 * (j 1).val = (j 1).val; omega
  | ⟨2, _⟩ => show 0 + 1 * (j 2).val = (j 2).val; omega

/-- A load of a whole block reads the block. -/
theorem load_all {s : Shape} {e : EltTy} (a : Memref sig .tc .vmem s e) (ha : a.IsWhole) (x : Vec F s e)
    {off : Fin s.rank → ℕ} (inb : ∀ d, off d + s.size d ≤ s.size d) :
    a.view.readAt (Elt F) (Rect.unit off s.size inb).toLoadRect (ha.unread x) = x :=
  (View.readAt_full a.view (ha.unread x) inb).trans (ha.read_unread x)

variable (c : Dev nD) (arg2 : Memref sig .tc .vmem S1x128x1024 .f32) (harg2 : arg2.IsWhole)
  (arg3 : Memref sig .tc .vmem S1x128x1024 .f32) (harg3 : arg3.IsWhole)
  (arg4 : Memref sig .tc .vmem S1x128x1024 .f32) (harg4 : arg4.IsWhole)
  (arg6 : Memref sig .tc .vmem S11x1024x256 .bf16) (harg6 : arg6.IsWhole)
  (arg7 : Memref sig .tc .vmem S11x1024x256 .bf16) (harg7 : arg7.IsWhole)
  (arg8 : Memref sig .tc .vmem S11x256x1024 .bf16) (harg8 : arg8.IsWhole)
  (arg12 : Memref sig .tc .vmem S128x1024 .f32)
  (x0 : Vec F S1x128x1024 .f32) (x1 x2 : Vec F S1x128x1024 .f32) (x4 x5 : Vec F S11x1024x256 .bf16) (x6 : Vec F S11x256x1024 .bf16)

/-- The rows after the modulation, rounded: the word the body computes once. -/
theorem rows_eq : kernelRun0_A.sl.r_1 c arg2 harg2 arg3 harg3 arg4 harg4 x0 x1 x2 = k0_pay3 x0 x2 x1 := by
  unfold kernelRun0_A.sl.r_1
  rw [load_all, load_all, load_all]

/-- The accumulator as it is first read: zeros. -/
theorem read0 : kernelRun0_A.sl.v25 c arg12 = acc (k0_pay3 x0 x2 x1) x4 x5 x6 0 := by
  unfold kernelRun0_A.sl.v25 kernelRun0_A.sl.HS0_1
  rw [View.readCov_full]; rfl

/-- The accumulator as it is read after 1 chunk. -/
theorem read1 : kernelRun0_A.sl.v43 c arg2 harg2 arg3 harg3 arg4 harg4 arg6 harg6 arg7 harg7 arg8 harg8 arg12 x0 x1 x2 x4 x5 x6 = acc (k0_pay3 x0 x2 x1) x4 x5 x6 1 := by
  unfold kernelRun0_A.sl.v43 kernelRun0_A.sl.HS0_2
  rw [View.readCov_full]
  unfold kernelRun0_A.sl.r_2
  rw [read0 c arg12 x0 x1 x2 x4 x5 x6, load_all, load_all, load_all]
  simp only [load_up, load_down, rows_eq]
  rfl

/-- The accumulator as it is read after 2 chunks. -/
theorem read2 : kernelRun0_A.sl.v61 c arg2 harg2 arg3 harg3 arg4 harg4 arg6 harg6 arg7 harg7 arg8 harg8 arg12 x0 x1 x2 x4 x5 x6 = acc (k0_pay3 x0 x2 x1) x4 x5 x6 2 := by
  unfold kernelRun0_A.sl.v61 kernelRun0_A.sl.HS0_3
  rw [View.readCov_full]
  simp only [load_up, load_down, rows_eq, read1]
  rfl

/-- The accumulator as it is read after 3 chunks. -/
theorem read3 : kernelRun0_A.sl.v79 c arg2 harg2 arg3 harg3 arg4 harg4 arg6 harg6 arg7 harg7 arg8 harg8 arg12 x0 x1 x2 x4 x5 x6 = acc (k0_pay3 x0 x2 x1) x4 x5 x6 3 := by
  unfold kernelRun0_A.sl.v79 kernelRun0_A.sl.HS0_4
  rw [View.readCov_full]
  unfold kernelRun0_A.sl.r_3
  simp only [load_up, load_down, rows_eq, read2]
  rfl

/-- The accumulator as it is read after 4 chunks. -/
theorem read4 : kernelRun0_A.sl.v97 c arg2 harg2 arg3 harg3 arg4 harg4 arg6 harg6 arg7 harg7 arg8 harg8 arg12 x0 x1 x2 x4 x5 x6 = acc (k0_pay3 x0 x2 x1) x4 x5 x6 4 := by
  unfold kernelRun0_A.sl.v97 kernelRun0_A.sl.HS0_5
  rw [View.readCov_full]
  simp only [load_up, load_down, rows_eq, read3]
  rfl

/-- The accumulator as it is read after 5 chunks. -/
theorem read5 : kernelRun0_A.sl.v115 c arg2 harg2 arg3 harg3 arg4 harg4 arg6 harg6 arg7 harg7 arg8 harg8 arg12 x0 x1 x2 x4 x5 x6 = acc (k0_pay3 x0 x2 x1) x4 x5 x6 5 := by
  unfold kernelRun0_A.sl.v115 kernelRun0_A.sl.HS0_6
  rw [View.readCov_full]
  unfold kernelRun0_A.sl.r_4
  simp only [load_up, load_down, rows_eq, read4]
  rfl

/-- The accumulator as it is read after 6 chunks. -/
theorem read6 : kernelRun0_A.sl.v133 c arg2 harg2 arg3 harg3 arg4 harg4 arg6 harg6 arg7 harg7 arg8 harg8 arg12 x0 x1 x2 x4 x5 x6 = acc (k0_pay3 x0 x2 x1) x4 x5 x6 6 := by
  unfold kernelRun0_A.sl.v133 kernelRun0_A.sl.HS0_7
  rw [View.readCov_full]
  unfold kernelRun0_A.sl.r_5
  simp only [load_up, load_down, rows_eq, read5]
  rfl

/-- The accumulator as it is read after 7 chunks. -/
theorem read7 : kernelRun0_A.sl.v151 c arg2 harg2 arg3 harg3 arg4 harg4 arg6 harg6 arg7 harg7 arg8 harg8 arg12 x0 x1 x2 x4 x5 x6 = acc (k0_pay3 x0 x2 x1) x4 x5 x6 7 := by
  unfold kernelRun0_A.sl.v151 kernelRun0_A.sl.HS0_8
  rw [View.readCov_full]
  simp only [load_up, load_down, rows_eq, read6]
  rfl

/-- The accumulator as it is read after 8 chunks. -/
theorem read8 : kernelRun0_A.sl.v169 c arg2 harg2 arg3 harg3 arg4 harg4 arg6 harg6 arg7 harg7 arg8 harg8 arg12 x0 x1 x2 x4 x5 x6 = acc (k0_pay3 x0 x2 x1) x4 x5 x6 8 := by
  unfold kernelRun0_A.sl.v169 kernelRun0_A.sl.HS0_9
  rw [View.readCov_full]
  unfold kernelRun0_A.sl.r_6
  simp only [load_up, load_down, rows_eq, read7]
  rfl

/-- The accumulator as it is read after 9 chunks. -/
theorem read9 : kernelRun0_A.sl.v187 c arg2 harg2 arg3 harg3 arg4 harg4 arg6 harg6 arg7 harg7 arg8 harg8 arg12 x0 x1 x2 x4 x5 x6 = acc (k0_pay3 x0 x2 x1) x4 x5 x6 9 := by
  unfold kernelRun0_A.sl.v187 kernelRun0_A.sl.HS0_10
  rw [View.readCov_full]
  simp only [load_up, load_down, rows_eq, read8]
  rfl

/-- The accumulator as it is read after 10 chunks. -/
theorem read10 : kernelRun0_A.sl.v205 c arg2 harg2 arg3 harg3 arg4 harg4 arg6 harg6 arg7 harg7 arg8 harg8 arg12 x0 x1 x2 x4 x5 x6 = acc (k0_pay3 x0 x2 x1) x4 x5 x6 10 := by
  unfold kernelRun0_A.sl.v205 kernelRun0_A.sl.HS0_11
  rw [View.readCov_full]
  unfold kernelRun0_A.sl.r_7 kernelRun0_A.sl.r_8
  simp only [load_up, load_down, rows_eq, read9]
  rfl

/-- The accumulator as it is read after 11 chunks. -/
theorem read11 : kernelRun0_A.sl.v219 c arg2 harg2 arg3 harg3 arg4 harg4 arg6 harg6 arg7 harg7 arg8 harg8 arg12 x0 x1 x2 x4 x5 x6 = acc (k0_pay3 x0 x2 x1) x4 x5 x6 11 := by
  unfold kernelRun0_A.sl.v219 kernelRun0_A.sl.HS0_12
  rw [View.readCov_full]
  simp only [load_up, load_down, rows_eq, read10]
  rfl

/-- The body's result block: the layer norm's word over the accumulator after all eleven chunks. -/
theorem out_eq (i : grid0.Coords) (arg5 : Memref sig .tc .vmem S1x128x1024 .f32) (harg5 : arg5.IsWhole) (arg9 : Memref sig .tc .vmem S1x1024 .f32) (harg9 : arg9.IsWhole) (arg10 : Memref sig .tc .vmem S1x1024 .f32) (harg10 : arg10.IsWhole) (arg11 : Memref sig .tc .vmem S1x128x1024 .f32) (harg11 : arg11.IsWhole)
    (harg12 : arg12.IsWhole) (x3 : Vec F S1x128x1024 .f32) (x7 x8 : Vec F S1x1024 .f32) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (k0_pay23 (k0_pay22 (k0_pay2 x0)) x3 (acc (k0_pay3 x0 x2 x1) x4 x5 x6 11) x7 x8) := by
  have e : out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (kernelRun0_A.sl.r_10 c arg2 harg2 arg3 harg3 arg4 harg4 arg5 harg5 arg6 harg6 arg7 harg7 arg8 harg8 arg9 harg9 arg10 harg10 arg12 x0 x1 x2 x3 x4 x5 x6 x7 x8) :=
    View.read_writes_full VO0_9 _ inb_S1x128x1024_S1x128x1024_0_0_0 _ []
  rw [e]
  unfold kernelRun0_A.sl.r_10 kernelRun0_A.sl.r_9 kernelRun0_A.sl.r
  rw [read11, load_all, load_all, load_all, load_all]

end Cert.Proof.FfnSample

end
-- ==== Proof.FfnSampleValue.lean ====
/-
  The feed-forward sublayer of the sample over the ideal numbers: the formula, and that one block of the kernel computes it.
-/
module

public import proofs.«01_k».proof.Proof.FfnValue
public import proofs.«01_k».proof.Proof.FfnSampleBlock
public import Idealize.ShloMosaic.Lib.Pointwise

@[expose] public section

set_option maxRecDepth 16384

noncomputable section

namespace Cert.Proof.FfnSample

open Idealize.ShloMosaic Idealize.SL.Sem Cert.FfnSampleIdeal Cert.FfnSampleIdeal.Gen
open Cert.Proof.Ffn (modulated against feature mixed stream mean normed sublayer sum_chunks)

theorem rows_apply (x0 : Vec Ideal S1x128x1024 .f32) (x1 x2 : Vec Ideal S1x128x1024 .f32) (r : Fin 128) (i : Fin 1024) :
    k0_pay3 x0 x2 x1 (ix2 r i)
      = modulated (fun i => x0 (ix3 0 r i)) (fun i => x1 (ix3 0 r i)) (fun i => x2 (ix3 0 r i)) i := by
  unfold modulated
  pointwise [k0_pay3, k0_pay2]

/-- What one chunk of 256 features adds to the accumulator. -/
theorem chunk_apply (h : FVec Ideal S128x1024 .bf16) (w1 w3 : Vec Ideal S1x1024x256 .bf16) (a : FVec Ideal S128x1024 .f32)
    (w2 : Vec Ideal S1x256x1024 .bf16) (r : Fin 128) (l : Fin 1024) :
    k0_pay7 h w1 w3 a w2 (ix2 r l)
      = a (ix2 r l) + ∑ j : Fin 256, ((∑ i : Fin 1024, h (ix2 r i) * w1 (ix3 0 i j))
          * Ideal.logistic (∑ i : Fin 1024, h (ix2 r i) * w1 (ix3 0 i j))
          * ∑ i : Fin 1024, h (ix2 r i) * w3 (ix3 0 i j)) * w2 (ix3 0 j l) := by
  pointwise [k0_pay7]

theorem zero_apply (r : Fin 128) (l : Fin 1024) : (k0_pay4 (F := Ideal)) (ix2 r l) = 0 := by
  pointwise [k0_pay4]

/-- The written block, from the accumulated product. -/
theorem norm_apply (x0 : Vec Ideal S1x128x1024 .f32) (x3 : Vec Ideal S1x128x1024 .f32) (a : FVec Ideal S128x1024 .f32)
    (x7 x8 : Vec Ideal S1x1024 .f32) (r : Fin 128) (l : Fin 1024) :
    k0_pay1 (k0_pay23 (k0_pay22 (k0_pay2 x0)) x3 a x7 x8) (ix3 0 r l)
      = normed (stream (fun i => x0 (ix3 0 r i)) (fun i => x3 (ix3 0 r i)) (fun i => a (ix2 r i)))
          (fun i => x7 (ix2 0 i)) (fun i => x8 (ix2 0 i)) l := by
  unfold normed mean stream
  pointwise [k0_pay1, k0_pay23, k0_pay22, k0_pay2]

/-- The accumulator after `n` chunks is the sum of the first `n` chunks' shares. -/
theorem acc_apply (h : FVec Ideal S128x1024 .bf16) (x4 x5 : Vec Ideal S11x1024x256 .bf16) (x6 : Vec Ideal S11x256x1024 .bf16)
    (r : Fin 128) (l : Fin 1024) (n : ℕ) :
    acc h x4 x5 x6 n (ix2 r l)
      = ∑ c ∈ Finset.range n, ∑ j : Fin 256, ((∑ i : Fin 1024, h (ix2 r i) * x4 (ix3 (Fin.ofNat 11 c) i j))
          * Ideal.logistic (∑ i : Fin 1024, h (ix2 r i) * x4 (ix3 (Fin.ofNat 11 c) i j))
          * ∑ i : Fin 1024, h (ix2 r i) * x5 (ix3 (Fin.ofNat 11 c) i j)) * x6 (ix3 (Fin.ofNat 11 c) j l) := by
  induction n with
  | zero => rw [Finset.sum_range_zero]; exact zero_apply r l
  | succ n ih =>
    rw [Finset.sum_range_succ, ← ih]
    exact chunk_apply h (up x4 n) (up x5 n) (acc h x4 x5 x6 n) (down x6 n) r l

/-- With the stacks of weights read as matrices, the whole accumulation is the second product. -/
theorem acc_eq (h : FVec Ideal S128x1024 .bf16) (x4 x5 : Vec Ideal S11x1024x256 .bf16) (x6 : Vec Ideal S11x256x1024 .bf16)
    (w1 w3 : Fin 1024 → Fin 2816 → EReal) (w2 : Fin 2816 → Fin 1024 → EReal)
    (h4 : ∀ (c : Fin 11) (i : Fin 1024) (j : Fin 256), x4 (ix3 c i j) = w1 i ⟨c.val * 256 + j.val, by omega⟩)
    (h5 : ∀ (c : Fin 11) (i : Fin 1024) (j : Fin 256), x5 (ix3 c i j) = w3 i ⟨c.val * 256 + j.val, by omega⟩)
    (h6 : ∀ (c : Fin 11) (j : Fin 256) (l : Fin 1024), x6 (ix3 c j l) = w2 ⟨c.val * 256 + j.val, by omega⟩ l)
    (r : Fin 128) (l : Fin 1024) :
    acc h x4 x5 x6 11 (ix2 r l) = mixed (fun i => h (ix2 r i)) w1 w3 w2 l := by
  rw [acc_apply, Finset.sum_range]
  unfold mixed
  rw [← sum_chunks]
  refine Finset.sum_congr rfl fun c _ => Finset.sum_congr rfl fun j _ => ?_
  have e : Fin.ofNat 11 c.val = c := Fin.ext (Nat.mod_eq_of_lt c.isLt)
  rw [e]
  simp only [h4, h5, h6]
  rfl

/-- One row of the block that the kernel writes is that row of the sublayer. -/
theorem block_apply (x0 : Vec Ideal S1x128x1024 .f32) (x1 x2 x3 : Vec Ideal S1x128x1024 .f32)
    (x4 x5 : Vec Ideal S11x1024x256 .bf16) (x6 : Vec Ideal S11x256x1024 .bf16) (x7 x8 : Vec Ideal S1x1024 .f32)
    (w1 w3 : Fin 1024 → Fin 2816 → EReal) (w2 : Fin 2816 → Fin 1024 → EReal)
    (h4 : ∀ (c : Fin 11) (i : Fin 1024) (j : Fin 256), x4 (ix3 c i j) = w1 i ⟨c.val * 256 + j.val, by omega⟩)
    (h5 : ∀ (c : Fin 11) (i : Fin 1024) (j : Fin 256), x5 (ix3 c i j) = w3 i ⟨c.val * 256 + j.val, by omega⟩)
    (h6 : ∀ (c : Fin 11) (j : Fin 256) (l : Fin 1024), x6 (ix3 c j l) = w2 ⟨c.val * 256 + j.val, by omega⟩ l)
    (r : Fin 128) (l : Fin 1024) :
    k0_pay1 (k0_pay23 (k0_pay22 (k0_pay2 x0)) x3 (acc (k0_pay3 x0 x2 x1) x4 x5 x6 11) x7 x8) (ix3 0 r l)
      = sublayer (fun i => x0 (ix3 0 r i)) (fun i => x1 (ix3 0 r i)) (fun i => x2 (ix3 0 r i)) (fun i => x3 (ix3 0 r i))
          w1 w3 w2 (fun i => x7 (ix2 0 i)) (fun i => x8 (ix2 0 i)) l := by
  rw [norm_apply]
  simp only [acc_eq _ x4 x5 x6 w1 w3 w2 h4 h5 h6, rows_apply]
  rfl

end Cert.Proof.FfnSample

end
-- ==== Proof.FfnSampleKernelArray.lean ====
/-
  What the feed-forward kernel of the sample's result array holds after the run: the sublayer of its argument arrays.
-/
module

public import proofs.«01_k».proof.Proof.FfnSampleValue
public import proofs.«01_k».proof.Proof.Gen.FfnSampleIdeal.Frame
public import proofs.«01_k».proof.Proof.Gen.FfnSampleIdeal.Value
public import Idealize.ShloMosaic.Lib.Pipeline.ValueKit

@[expose] public section

set_option maxRecDepth 16384

noncomputable section

namespace Cert.Proof.FfnSample

open Idealize.ShloMosaic Idealize.ShloMosaic.TcCoe Idealize.SL.Sem Cert.FfnSampleIdeal Cert.FfnSampleIdeal.Gen
open Cert.Proof.Ffn (modulated against feature mixed stream mean normed sublayer sum_chunks)
open Idealize.ShloMosaic.Pipeline (Dat)

/-- The row of the batch that row `r` of the 128 is in. -/
def group (r : Fin 128) : Fin 32 := ⟨r.val / 4, by omega⟩

/-- The step within the batch that row `r` of the 128 is. -/
def step (r : Fin 128) : Fin 4 := ⟨r.val % 4, by omega⟩

/-- Row `q` of batch `p` of the sublayer's result. -/
def row (x : FVec Ideal S32x4x1024 .f32) (sh sc gt : FVec Ideal S32x1x1024 .f32) (w1 w3 : FVec Ideal S1024x2816 .f32)
    (w2 : FVec Ideal S2816x1024 .f32) (g b : FVec Ideal S1024 .f32) (p : Fin 32) (q : Fin 4) : Fin 1024 → EReal :=
  sublayer (fun i => x (ix3 p q i)) (fun i => sh (ix3 p 0 i)) (fun i => sc (ix3 p 0 i))
    (fun i => gt (ix3 p 0 i)) (fun i f => w1 (ix2 i f)) (fun i f => w3 (ix2 i f)) (fun f l => w2 (ix2 f l))
    (fun i => g (ix1 i)) (fun i => b (ix1 i))

/-- The sublayer's result array, from its argument arrays: the rows of the 32 batches one after the other. -/
def sublayerArray (x : FVec Ideal S32x4x1024 .f32) (sh sc gt : FVec Ideal S32x1x1024 .f32) (w1 w3 : FVec Ideal S1024x2816 .f32)
    (w2 : FVec Ideal S2816x1024 .f32) (g b : FVec Ideal S1024 .f32) : FVec Ideal S1x128x1024 .f32 :=
  fun j => row x sh sc gt w1 w3 w2 g b (group (j 1)) (step (j 1)) (j 2)

variable (m : (ℓ : Loc nD τ sig) → Buf (Elt Ideal) ℓ)

/-- Every window's block index at every grid point. -/
theorem idx : ∀ t : Fin cfg0.N,
    win0_0.index t = ![0, 0, 0]
    ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0] ∧ win0_8.index t = ![0, 0]
    ∧ win0_9.index t = ![0, 0, 0] :=
  (by decide +kernel : ∀ t : Fin grid0.N, _)

/-- The rows, as the kernel finds them. -/
theorem rows (c : Dev nD) (t : Fin cfg0.N) (r : Fin 128) (i : Fin 1024) :
    (iblk m c 0 t : Vec Ideal S1x128x1024 .f32) (ix3 0 r i)
      = (m ((c : Thread nD τ).loc main_arg0) : FVec Ideal S32x4x1024 .f32) (ix3 (group r) (step r) i) := by
  have e : ((cfg0.win 0).blk t).view.emb (ix3 0 r i) = ix3 0 r i := by blk_ext [idx t]
  show V m c main_v6 (((cfg0.win 0).blk t).view.emb (ix3 0 r i)) = _
  rw [e]
  entry_read
  unfold group step
  pointwise

/-- The modulation's shift, as the kernel finds it: a batch's, at each of its rows. -/
theorem shifts (c : Dev nD) (t : Fin cfg0.N) (r : Fin 128) (i : Fin 1024) :
    (iblk m c 1 t : Vec Ideal S1x128x1024 .f32) (ix3 0 r i)
      = (m ((c : Thread nD τ).loc main_arg1) : FVec Ideal S32x1x1024 .f32) (ix3 (group r) 0 i) := by
  have e : ((cfg0.win 1).blk t).view.emb (ix3 0 r i) = ix3 0 r i := by blk_ext [idx t]
  show V m c main_v1 (((cfg0.win 1).blk t).view.emb (ix3 0 r i)) = _
  rw [e]
  entry_read
  unfold group
  pointwise

/-- The modulation's scale, as the kernel finds it: a batch's, at each of its rows. -/
theorem scales (c : Dev nD) (t : Fin cfg0.N) (r : Fin 128) (i : Fin 1024) :
    (iblk m c 2 t : Vec Ideal S1x128x1024 .f32) (ix3 0 r i)
      = (m ((c : Thread nD τ).loc main_arg2) : FVec Ideal S32x1x1024 .f32) (ix3 (group r) 0 i) := by
  have e : ((cfg0.win 2).blk t).view.emb (ix3 0 r i) = ix3 0 r i := by blk_ext [idx t]
  show V m c main_v3 (((cfg0.win 2).blk t).view.emb (ix3 0 r i)) = _
  rw [e]
  entry_read
  unfold group
  pointwise

/-- The gate, as the kernel finds it: a batch's, at each of its rows. -/
theorem gates (c : Dev nD) (t : Fin cfg0.N) (r : Fin 128) (i : Fin 1024) :
    (iblk m c 3 t : Vec Ideal S1x128x1024 .f32) (ix3 0 r i)
      = (m ((c : Thread nD τ).loc main_arg3) : FVec Ideal S32x1x1024 .f32) (ix3 (group r) 0 i) := by
  have e : ((cfg0.win 3).blk t).view.emb (ix3 0 r i) = ix3 0 r i := by blk_ext [idx t]
  show V m c main_v5 (((cfg0.win 3).blk t).view.emb (ix3 0 r i)) = _
  rw [e]
  entry_read
  unfold group
  pointwise

/-- The first weights, as the kernel finds them: column `c * 256 + j` of the matrix in chunk `c`. -/
theorem up1 (c : Dev nD) (t : Fin cfg0.N) (k : Fin 11) (i : Fin 1024) (j : Fin 256) :
    (iblk m c 4 t : Vec Ideal S11x1024x256 .bf16) (ix3 k i j)
      = (m ((c : Thread nD τ).loc main_arg4) : FVec Ideal S1024x2816 .f32) (ix2 i ⟨k.val * 256 + j.val, by omega⟩) := by
  have e : ((cfg0.win 4).blk t).view.emb (ix3 k i j) = ix3 k i j := by blk_ext [idx t]
  show V m c main_v9 (((cfg0.win 4).blk t).view.emb (ix3 k i j)) = _
  rw [e]
  entry_read
  pointwise

/-- The gate product's weights likewise. -/
theorem up3 (c : Dev nD) (t : Fin cfg0.N) (k : Fin 11) (i : Fin 1024) (j : Fin 256) :
    (iblk m c 5 t : Vec Ideal S11x1024x256 .bf16) (ix3 k i j)
      = (m ((c : Thread nD τ).loc main_arg5) : FVec Ideal S1024x2816 .f32) (ix2 i ⟨k.val * 256 + j.val, by omega⟩) := by
  have e : ((cfg0.win 5).blk t).view.emb (ix3 k i j) = ix3 k i j := by blk_ext [idx t]
  show V m c main_v12 (((cfg0.win 5).blk t).view.emb (ix3 k i j)) = _
  rw [e]
  entry_read
  pointwise

/-- The second product's weights: row `c * 256 + j` of the matrix in chunk `c`. -/
theorem down2 (c : Dev nD) (t : Fin cfg0.N) (k : Fin 11) (j : Fin 256) (l : Fin 1024) :
    (iblk m c 6 t : Vec Ideal S11x256x1024 .bf16) (ix3 k j l)
      = (m ((c : Thread nD τ).loc main_arg6) : FVec Ideal S2816x1024 .f32) (ix2 ⟨k.val * 256 + j.val, by omega⟩ l) := by
  have e : ((cfg0.win 6).blk t).view.emb (ix3 k j l) = ix3 k j l := by blk_ext [idx t]
  show V m c main_v14 (((cfg0.win 6).blk t).view.emb (ix3 k j l)) = _
  rw [e]
  entry_read
  pointwise

/-- The normalisation's scale, as the kernel finds it. -/
theorem scale (c : Dev nD) (t : Fin cfg0.N) (i : Fin 1024) :
    (iblk m c 7 t : Vec Ideal S1x1024 .f32) (ix2 0 i)
      = (m ((c : Thread nD τ).loc main_arg7) : FVec Ideal S1024 .f32) (ix1 i) := by
  have e : ((cfg0.win 7).blk t).view.emb (ix2 0 i) = ix2 0 i := by blk_ext [idx t]
  show V m c main_v15 (((cfg0.win 7).blk t).view.emb (ix2 0 i)) = _
  rw [e]
  entry_read
  pointwise

/-- The normalisation's shift, as the kernel finds it. -/
theorem offset (c : Dev nD) (t : Fin cfg0.N) (i : Fin 1024) :
    (iblk m c 8 t : Vec Ideal S1x1024 .f32) (ix2 0 i)
      = (m ((c : Thread nD τ).loc main_arg8) : FVec Ideal S1024 .f32) (ix1 i) := by
  have e : ((cfg0.win 8).blk t).view.emb (ix2 0 i) = ix2 0 i := by blk_ext [idx t]
  show V m c main_v16 (((cfg0.win 8).blk t).view.emb (ix2 0 i)) = _
  rw [e]
  entry_read
  pointwise

/-- The array that the run must leave, from the launched arguments. -/
abbrev goal (c : Dev nD) : FVec Ideal S1x128x1024 .f32 :=
  sublayerArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the body writes at one place of one grid point's block is the sublayer at that place of the array. -/
theorem point (c : Dev nD) (t : Fin cfg0.N) (r : Fin 128) (l : Fin 1024) :
    k0_pay1 (k0_pay23 (k0_pay22 (k0_pay2 (iblk m c 0 t))) (iblk m c 3 t)
        (acc (k0_pay3 (iblk m c 0 t) (iblk m c 2 t) (iblk m c 1 t)) (iblk m c 4 t) (iblk m c 5 t) (iblk m c 6 t) 11)
        (iblk m c 7 t) (iblk m c 8 t)) (ix3 0 r l)
      = goal m c (((cfg0.win 9).blk t).view.emb (ix3 0 r l)) := by
  refine (block_apply (iblk m c 0 t) (iblk m c 1 t) (iblk m c 2 t) (iblk m c 3 t) (iblk m c 4 t) (iblk m c 5 t) (iblk m c 6 t)
    (iblk m c 7 t) (iblk m c 8 t)
    (fun i f => (m ((c : Thread nD τ).loc main_arg4) : FVec Ideal S1024x2816 .f32) (ix2 i f))
    (fun i f => (m ((c : Thread nD τ).loc main_arg5) : FVec Ideal S1024x2816 .f32) (ix2 i f))
    (fun f l => (m ((c : Thread nD τ).loc main_arg6) : FVec Ideal S2816x1024 .f32) (ix2 f l))
    (up1 m c t) (up3 m c t) (down2 m c t) r l).trans ?_
  have hr : (((cfg0.win 9).blk t).view.emb (ix3 0 r l)) = ix3 0 r l := by blk_ext [idx t]
  rw [hr]
  simp only [rows, shifts, scales, gates, scale, offset]
  rfl

/-- The result array after the run is the sublayer of the launched arguments. -/
theorem final (c : Dev nD) : (dats m 0 c).arrAt 9 cfg0.N = goal m c := by
  refine (dats m 0 c).arrAt_eq_of_covers 9 _ (by decide +kernel) fun t _ y => ?_
  blk_simp
  rw [after0_9]
  unfold outsAt0
  rw [out_eq]
  have hy : y = ix3 (⟨0, by decide⟩ : Fin 1) (⟨(y 1).val, (y 1).isLt⟩ : Fin 128) (⟨(y 2).val, (y 2).isLt⟩ : Fin 1024) := by
    blk_ext
  rw [hy]
  exact point m c t _ _

end Cert.Proof.FfnSample

end
-- ==== Proof.FfnSampleReference.lean ====
/-
  The feed-forward reference of the sample: its result is the sublayer of its arguments.
-/
module

public import proofs.«01_k».proof.Proof.FfnSampleKernelArray
public import proofs.«01_k».proof.Proof.Gen.FfnSampleReferenceIdeal.Run
public import proofs.«01_k».proof.Proof.Gen.FfnSampleReferenceIdeal.Read
public import Idealize.ShloMosaic.Lib.Pipeline.ValueKit

@[expose] public section

set_option maxRecDepth 16384

noncomputable section

namespace Cert.Proof.FfnSample

open Idealize.ShloMosaic Idealize.SL.Sem Cert.FfnSampleReferenceIdeal Cert.FfnSampleReferenceIdeal.Gen Cert.FfnSampleReferenceIdeal.Read
open Cert.Proof.Ffn (modulated against feature mixed stream mean normed sublayer sum_chunks)

variable (x : FVec Ideal S32x4x1024 .f32) (sh sc gt : FVec Ideal S32x1x1024 .f32) (w1 w3 : FVec Ideal S1024x2816 .f32)
    (w2 : FVec Ideal S2816x1024 .f32) (g b : FVec Ideal S1024 .f32)

/-- The modulated rows. -/
theorem ref_rows (p : Fin 32) (q : Fin 4) (k : Fin 1024) : val_main_v5 (F := Ideal) x sh sc (ix3 p q k)
    = modulated (fun k => x (ix3 p q k)) (fun k => sh (ix3 p 0 k)) (fun k => sc (ix3 p 0 k)) k := by
  unfold modulated
  pointwise [val_main_v5, val_main_v4, val_main_v3, val_main_v2, val_main_v1, val_main_v0, val_main_cst]

/-- The hidden features, from the modulated rows. -/
theorem ref_feature (p : Fin 32) (q : Fin 4) (f : Fin 2816) : val_main_v13 (F := Ideal) x sh sc w1 w3 (ix3 p q f)
    = feature (fun k => val_main_v5 (F := Ideal) x sh sc (ix3 p q k)) (fun i f => w1 (ix2 i f)) (fun i f => w3 (ix2 i f)) f := by
  unfold feature against Ideal.logistic
  pointwise [val_main_v13, val_main_v12, val_main_v11, val_main_v10, val_main_call0_v0, val_main_call0_v1, val_main_call0_v2,
    val_main_call0_v3, val_main_call0_v4, val_main_call0_v5, val_main_call0_cst, val_main_call0_cst_0]

/-- The second product, from the features. -/
theorem ref_mixed (p : Fin 32) (q : Fin 4) (l : Fin 1024) : val_main_v14 (F := Ideal) x sh sc w1 w3 w2 (ix3 p q l)
    = ∑ f : Fin 2816, val_main_v13 (F := Ideal) x sh sc w1 w3 (ix3 p q f) * w2 (ix2 f l) := by
  pointwise [val_main_v14]

/-- The residual stream, from the second product. -/
theorem ref_stream (p : Fin 32) (q : Fin 4) (l : Fin 1024) : val_main_v19 (F := Ideal) x sh sc gt w1 w3 w2 (ix3 p q l)
    = stream (fun k => x (ix3 p q k)) (fun k => gt (ix3 p 0 k)) (fun k => val_main_v14 (F := Ideal) x sh sc w1 w3 w2 (ix3 p q k)) l := by
  unfold stream
  pointwise [val_main_v19, val_main_v18, val_main_v17, val_main_v16, val_main_v15, val_main_v9, val_main_v8, val_main_v7, val_main_v6, val_main_cst_0, val_main_cst_1, val_main_cst_2]

/-- The normalisation, from the residual stream. -/
theorem ref_normed (p : Fin 32) (q : Fin 4) (l : Fin 1024) : val_main_v43 (F := Ideal) x sh sc gt w1 w3 w2 g b (ix3 p q l)
    = normed (fun k => val_main_v19 (F := Ideal) x sh sc gt w1 w3 w2 (ix3 p q k)) (fun k => g (ix1 k)) (fun k => b (ix1 k)) l := by
  unfold normed mean
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_3, val_main_cst_4, val_main_cst_5, val_main_cst_6, val_main_cst_7]

/-- The rows of the reference's result before they are laid in one batch. -/
theorem ref_row (p : Fin 32) (q : Fin 4) (l : Fin 1024) : val_main_v43 (F := Ideal) x sh sc gt w1 w3 w2 g b (ix3 p q l)
    = row x sh sc gt w1 w3 w2 g b p q l := by
  rw [ref_normed]
  simp only [ref_stream, ref_mixed, ref_feature, ref_rows]
  rfl

/-- The reference's result is the sublayer of its arguments. -/
theorem ref_eq : val_main_v44 (F := Ideal) x sh sc gt w1 w3 w2 g b = sublayerArray x sh sc gt w1 w3 w2 g b := by
  funext j
  have hj : j = ix3 (⟨0, by decide⟩ : Fin 1) (⟨(j 1).val, (j 1).isLt⟩ : Fin 128) (⟨(j 2).val, (j 2).isLt⟩ : Fin 1024) := by
    blk_ext
  rw [hj]
  refine Eq.trans ?_ (ref_row x sh sc gt w1 w3 w2 g b (group (j 1)) (step (j 1)) (j 2))
  unfold group step
  pointwise [val_main_v44]

end Cert.Proof.FfnSample

end
-- ==== Proof.FfnSampleEquation.lean ====
/-
  The feed-forward kernel of the sample against its reference: from equal arguments both end with equal results.
-/
module

public import proofs.«01_k».proof.Defs
public import proofs.«01_k».proof.Proof.FfnSampleKernelArray
public import proofs.«01_k».proof.Proof.FfnSampleReference

@[expose] public section

noncomputable section

namespace Cert.Proof.FfnSample

open Idealize.ShloMosaic Idealize.SL.Sem

/-- From arguments that agree, the reference's result array is the one that the kernel must leave. -/
theorem results_eq (m : (ℓ : Loc Cert.FfnSampleIdeal.nD Cert.FfnSampleIdeal.τ Cert.FfnSampleIdeal.sig) → Buf (Elt Ideal) ℓ)
    (m' : (ℓ : Loc Cert.FfnSampleReferenceIdeal.nD Cert.FfnSampleReferenceIdeal.τ Cert.FfnSampleReferenceIdeal.sig) → Buf (Elt Ideal) ℓ)
    (c : Dev Cert.FfnSampleIdeal.nD)
    (h : m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)) :
    Cert.FfnSampleReferenceIdeal.Value.res_main_v44 m' c = goal m c := by
  obtain ⟨h0, h1, h2, h3, h4, h5, h6, h7, h8⟩ := h
  rw [Cert.FfnSampleReferenceIdeal.Read.val_main_v44_eq, h0, h1, h2, h3, h4, h5, h6, h7, h8]
  exact ref_eq _ _ _ _ _ _ _ _ _

/-- The two programs, over the ideal numbers, end with the same result array and leave their arguments as they were. -/
theorem algebraic : Cert.algebraic_FfnSampleIdeal_FfnSampleReferenceIdeal
    (hFfnSampleIdeal := Cert.FfnSampleIdeal.Gen.facts) (hFfnSampleReferenceIdeal := Cert.FfnSampleReferenceIdeal.Gen.facts) := by
  intro m g m' g' _ hagree
  refine ⟨fun c => goal m c, ?_, ?_⟩
  · exact (θ_run _ _ _).mono (fun r h c => ⟨(h c).1.trans (final m c), (h c).2⟩) (Cert.FfnSampleIdeal.Value.run_blocks m g)
  · exact (θ_run _ _ _).mono (fun r h c => ⟨(h c).1.trans (results_eq m m' c (hagree c)), (h c).2⟩)
      (Cert.FfnSampleReferenceIdeal.Value.run m' g')

end Cert.Proof.FfnSample

end
-- ==== Proof.FrameSsdSampleReference.lean ====
/-
  The recurrent mixer's projection of the sample reference runs, ends with its argument arrays unchanged, and leaves every counter at zero.
-/
module

public import proofs.«01_k».proof.Proof.Gen.SsdSampleReferenceIdeal.Run
public import Idealize.ShloMosaic.Lib.Claim
public import Idealize.ShloMosaic.Lib.Quiescent

@[expose] public section

noncomputable section

namespace Cert.Proof.SsdSampleReferenceIdeal

open Idealize.ShloMosaic Idealize.SL.Sem Cert.SsdSampleReferenceIdeal Cert.SsdSampleReferenceIdeal.Value
open Cert.SsdSampleReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Proof.SsdSampleReferenceIdeal

end
-- ==== Proof.SsdSampleKernel.lean ====
/-
  The recurrent mixer's projection of the sample: its formula, and that the kernel's three result arrays hold it after the run.
-/
module

public import proofs.«01_k».proof.Proof.FfnValue
public import proofs.«01_k».proof.Proof.Gen.SsdSampleIdeal.Frame
public import proofs.«01_k».proof.Proof.Gen.SsdSampleIdeal.Value
public import Idealize.ShloMosaic.Lib.Pipeline.ValueKit
public import Idealize.ShloMosaic.Lib.Pointwise

@[expose] public section

set_option maxRecDepth 16384

noncomputable section

namespace Cert.Proof.SsdSample

open Idealize.ShloMosaic Idealize.ShloMosaic.TcCoe Idealize.SL.Sem Cert.SsdSampleIdeal Cert.SsdSampleIdeal.Gen
open Cert.Proof.Ffn (modulated)

/-- One modulated row against one column of the projection's weights. -/
def column (x sh sc : Fin 1024 → EReal) (w : Fin 1024 → EReal) : EReal := ∑ i, modulated x sh sc i * w i

variable (x : FVec Ideal S32x4x1024 .f32) (sh sc : FVec Ideal S32x1x1024 .f32) (w : FVec Ideal S1024x5152 .f32)

/-- Column `n` of the projection of row `q` of batch `p`. -/
def entry (p : Fin 32) (q : Fin 4) (n : Fin 5152) : EReal :=
  column (fun i => x (ix3 p q i)) (fun i => sh (ix3 p 0 i)) (fun i => sc (ix3 p 0 i)) (fun i => w (ix2 i n))

/-- The batch that row `r` of the 128 is in. -/
def group (r : Fin 128) : Fin 32 := ⟨r.val / 4, by omega⟩

/-- The step within the batch that row `r` of the 128 is. -/
def step (r : Fin 128) : Fin 4 := ⟨r.val % 4, by omega⟩

/-- The first 2048 columns, the rows of the 32 batches one after the other. -/
def gateArray : FVec Ideal S1x128x2048 .f32 := fun j =>
  entry x sh sc w (group (j 1)) (step (j 1)) ⟨(j 2).val, (show (j 2).val < 2048 from (j 2).isLt).trans (by decide)⟩

/-- The next 3072 columns. -/
def convArray : FVec Ideal S1x128x3072 .f32 := fun j =>
  entry x sh sc w (group (j 1)) (step (j 1)) ⟨2048 + (j 2).val, by have : (j 2).val < 3072 := (j 2).isLt; omega⟩

/-- The last 32 columns, followed by zeros. -/
def stepArray : FVec Ideal S1x128x128 .f32 := fun j =>
  if h : (j 2).val < 32 then entry x sh sc w (group (j 1)) (step (j 1)) ⟨5120 + (j 2).val, by omega⟩ else 0

/-- The weights with columns of zeros after them. -/
def padded (i : Fin 1024) (n : Fin 5248) : EReal := if h : n.val < 5152 then w (ix2 i ⟨n.val, h⟩) else 0

theorem gate_apply (x0 : Vec Ideal S1x128x1024 .f32) (x1 x2 : Vec Ideal S1x128x1024 .f32) (x3 : Vec Ideal S1024x2048 .bf16)
    (r : Fin 128) (l : Fin 2048) :
    k0_pay3 x0 x2 x1 x3 (ix3 0 r l)
      = column (fun i => x0 (ix3 0 r i)) (fun i => x1 (ix3 0 r i)) (fun i => x2 (ix3 0 r i)) (fun i => x3 (ix2 i l)) := by
  unfold column modulated
  pointwise [k0_pay3, k0_pay2]

theorem conv_apply (x0 : Vec Ideal S1x128x1024 .f32) (x1 x2 : Vec Ideal S1x128x1024 .f32) (x3 : Vec Ideal S1024x3072 .bf16)
    (r : Fin 128) (l : Fin 3072) :
    k0_pay4 x0 x2 x1 x3 (ix3 0 r l)
      = column (fun i => x0 (ix3 0 r i)) (fun i => x1 (ix3 0 r i)) (fun i => x2 (ix3 0 r i)) (fun i => x3 (ix2 i l)) := by
  unfold column modulated
  pointwise [k0_pay4, k0_pay2]

theorem step_apply (x0 : Vec Ideal S1x128x1024 .f32) (x1 x2 : Vec Ideal S1x128x1024 .f32) (x3 : Vec Ideal S1024x128 .bf16)
    (r : Fin 128) (l : Fin 128) :
    k0_pay1 (k0_pay5 x0 x2 x1 x3) (ix3 0 r l)
      = column (fun i => x0 (ix3 0 r i)) (fun i => x1 (ix3 0 r i)) (fun i => x2 (ix3 0 r i)) (fun i => x3 (ix2 i l)) := by
  unfold column modulated
  pointwise [k0_pay1, k0_pay5, k0_pay2]

variable (m : (ℓ : Loc nD τ sig) → Buf (Elt Ideal) ℓ)

/-- Every window's block index at every grid point. -/
theorem idx : ∀ t : Fin cfg0.N,
    win0_0.index t = ![0, 0, 0]
    ∧ win0_1.index t = ![0, 0, 0] ∧ win0_2.index t = ![0, 0, 0]
    ∧ win0_3.index t = ![0, 0]
    ∧ win0_4.index t = ![0, 0, 0]
    ∧ win0_5.index t = ![0, 0, 0]
    ∧ win0_6.index t = ![0, 0, 0] :=
  (by decide +kernel : ∀ t : Fin grid0.N, _)

/-- What the host code before the kernel leaves for the weights: the rounded matrix with 96 columns of zeros after it. -/
theorem prepared (c : Dev nD) : @Eq (FVec Ideal S1024x5248 .bf16) (V m c main_v6)
    (truncf .bf16 (pad S1024x5248 ![0, 0] ![0, 96] ![0, 0] (m ((c : Thread nD τ).loc main_arg3) : FVec Ideal S1024x5152 .f32)
        (sitofp .f32 (constantI S_ 32 0#32)) pads_S1024x5152_S1024x5248_000_0960 h_S_) bitsLt_bf16_f32) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

/-- Row `r` of the one batch is a row of the 32. -/
theorem laid (v : FVec Ideal S32x4x1024 .f32) (r : Fin 128) (i : Fin 1024) :
    shapeCast S1x128x1024 v shapeCasts_S32x4x1024_S1x128x1024 (ix3 0 r i) = v (ix3 (group r) (step r) i) := by
  unfold group step
  pointwise

/-- A batch's modulation is the same at each of its rows. -/
theorem repeated (v : FVec Ideal S32x1x1024 .f32) (p : Fin 32) (q : Fin 4) (i : Fin 1024) :
    broadcastInDim S32x4x1024 ![0, 1, 2] bcast_S32x1x1024_S32x4x1024_0_1_2 v (ix3 p q i) = v (ix3 p 0 i) := by
  pointwise

/-- The rows, laid in one batch. -/
theorem prepared_rows (c : Dev nD) : @Eq (FVec Ideal S1x128x1024 .f32) (V m c main_v0)
    (shapeCast S1x128x1024 (m ((c : Thread nD τ).loc main_arg0) : FVec Ideal S32x4x1024 .f32)
      shapeCasts_S32x4x1024_S1x128x1024) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  rfl

/-- The modulation's shift, repeated for each row of its batch and laid in one batch. -/
theorem prepared_shifts (c : Dev nD) : @Eq (FVec Ideal S1x128x1024 .f32) (V m c main_v2)
    (shapeCast S1x128x1024 (broadcastInDim S32x4x1024 ![0, 1, 2] bcast_S32x1x1024_S32x4x1024_0_1_2
      (m ((c : Thread nD τ).loc main_arg1) : FVec Ideal S32x1x1024 .f32)) shapeCasts_S32x4x1024_S1x128x1024) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  rfl

/-- The modulation's scale, repeated for each row of its batch and laid in one batch. -/
theorem prepared_scales (c : Dev nD) : @Eq (FVec Ideal S1x128x1024 .f32) (V m c main_v4)
    (shapeCast S1x128x1024 (broadcastInDim S32x4x1024 ![0, 1, 2] bcast_S32x1x1024_S32x4x1024_0_1_2
      (m ((c : Thread nD τ).loc main_arg2) : FVec Ideal S32x1x1024 .f32)) shapeCasts_S32x4x1024_S1x128x1024) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  rfl

/-- The rows, as the kernel finds them. -/
theorem rows (c : Dev nD) (t : Fin cfg0.N) (r : Fin 128) (i : Fin 1024) :
    (iblk m c 0 t : Vec Ideal S1x128x1024 .f32) (ix3 0 r i)
      = (m ((c : Thread nD τ).loc main_arg0) : FVec Ideal S32x4x1024 .f32) (ix3 (group r) (step r) i) := by
  have e : ((cfg0.win 0).blk t).view.emb (ix3 0 r i) = ix3 0 r i := by blk_ext [idx t]
  show V m c main_v0 (((cfg0.win 0).blk t).view.emb (ix3 0 r i)) = _
  rw [e]
  refine (congrFun (prepared_rows m c) _).trans (laid _ r i)

/-- The modulation's shift, as the kernel finds it: a batch's, at each of its rows. -/
theorem shifts (c : Dev nD) (t : Fin cfg0.N) (r : Fin 128) (i : Fin 1024) :
    (iblk m c 1 t : Vec Ideal S1x128x1024 .f32) (ix3 0 r i)
      = (m ((c : Thread nD τ).loc main_arg1) : FVec Ideal S32x1x1024 .f32) (ix3 (group r) 0 i) := by
  have e : ((cfg0.win 1).blk t).view.emb (ix3 0 r i) = ix3 0 r i := by blk_ext [idx t]
  show V m c main_v2 (((cfg0.win 1).blk t).view.emb (ix3 0 r i)) = _
  rw [e]
  refine (congrFun (prepared_shifts m c) _).trans ((laid _ r i).trans (repeated _ _ _ i))

/-- The modulation's scale, as the kernel finds it: a batch's, at each of its rows. -/
theorem scales (c : Dev nD) (t : Fin cfg0.N) (r : Fin 128) (i : Fin 1024) :
    (iblk m c 2 t : Vec Ideal S1x128x1024 .f32) (ix3 0 r i)
      = (m ((c : Thread nD τ).loc main_arg2) : FVec Ideal S32x1x1024 .f32) (ix3 (group r) 0 i) := by
  have e : ((cfg0.win 2).blk t).view.emb (ix3 0 r i) = ix3 0 r i := by blk_ext [idx t]
  show V m c main_v4 (((cfg0.win 2).blk t).view.emb (ix3 0 r i)) = _
  rw [e]
  refine (congrFun (prepared_scales m c) _).trans ((laid _ r i).trans (repeated _ _ _ i))

/-- The integer zero, as a float. -/
theorem word_zero : (FloatOps.sitofp FTy.f32 0#32 : Ideal FTy.f32) = 0 := by
  show (((0#32 : BitVec 32).toInt : ℝ) : EReal) = 0
  simp

/-- The weights, as the kernel finds them: the matrix, with columns of zeros after it. -/
theorem weight (c : Dev nD) (t : Fin cfg0.N) (i : Fin 1024) (n : Fin 5248) :
    (iblk m c 3 t : Vec Ideal S1024x5248 .bf16) (ix2 i n) = padded (m ((c : Thread nD τ).loc main_arg3)) i n := by
  have e : ((cfg0.win 3).blk t).view.emb (ix2 i n) = ix2 i n := by blk_ext [idx t]
  show V m c main_v6 (((cfg0.win 3).blk t).view.emb (ix2 i n)) = _
  rw [e]
  refine (congrFun (prepared m c) _).trans ?_
  unfold padded
  pointwise
  by_cases h : n.val < 5152
  · rw [dif_pos h, dif_pos]
    intro a
    match a with
    | ⟨0, _⟩ => exact ⟨Nat.zero_le _, Nat.mod_one _, (Nat.div_one _).trans_lt i.isLt⟩
    | ⟨1, _⟩ => exact ⟨Nat.zero_le _, Nat.mod_one _, (Nat.div_one _).trans_lt h⟩
  · rw [dif_neg h, dif_neg, word_zero]
    intro q
    exact h ((Nat.div_one _).symm.trans_lt (q (1 : Fin 2)).2.2)

/-- The columns that the first product reads. -/
theorem gate_weight (c : Dev nD) (t : Fin cfg0.N) (i : Fin 1024) (l : Fin 2048) :
    View.ld (iblk m c 3 t : Vec Ideal S1024x5248 .bf16) r0_1 (ix2 i l)
      = (m ((c : Thread nD τ).loc main_arg3) : FVec Ideal S1024x5152 .f32) (ix2 i ⟨l.val, by omega⟩) := by
  have e : r0_1.idx (ix2 i l) = ix2 i (⟨l.val, by omega⟩ : Fin 5248) := funext fun a => Fin.ext <| by
    match a with
    | ⟨0, _⟩ => show 0 + 1 * i.val = i.val; omega
    | ⟨1, _⟩ => show 0 + 1 * l.val = l.val; omega
  show (iblk m c 3 t : Vec Ideal S1024x5248 .bf16) (r0_1.idx (ix2 i l)) = _
  rw [e, weight, padded, dif_pos (show l.val < 5152 by omega)]

/-- The columns that the second product reads. -/
theorem conv_weight (c : Dev nD) (t : Fin cfg0.N) (i : Fin 1024) (l : Fin 3072) :
    View.ld (iblk m c 3 t : Vec Ideal S1024x5248 .bf16) r0_3 (ix2 i l)
      = (m ((c : Thread nD τ).loc main_arg3) : FVec Ideal S1024x5152 .f32) (ix2 i ⟨2048 + l.val, by omega⟩) := by
  have e : r0_3.idx (ix2 i l) = ix2 i (⟨2048 + l.val, by omega⟩ : Fin 5248) := funext fun a => Fin.ext <| by
    match a with
    | ⟨0, _⟩ => show 0 + 1 * i.val = i.val; omega
    | ⟨1, _⟩ => show 2048 + 1 * l.val = 2048 + l.val; omega
  show (iblk m c 3 t : Vec Ideal S1024x5248 .bf16) (r0_3.idx (ix2 i l)) = _
  rw [e, weight, padded, dif_pos (show 2048 + l.val < 5152 by omega)]

/-- The columns that the third product reads: the last 32, then zeros. -/
theorem step_weight (c : Dev nD) (t : Fin cfg0.N) (i : Fin 1024) (l : Fin 128) :
    View.ld (iblk m c 3 t : Vec Ideal S1024x5248 .bf16) r0_5 (ix2 i l)
      = padded (m ((c : Thread nD τ).loc main_arg3)) i ⟨5120 + l.val, by omega⟩ := by
  have e : r0_5.idx (ix2 i l) = ix2 i (⟨5120 + l.val, by omega⟩ : Fin 5248) := funext fun a => Fin.ext <| by
    match a with
    | ⟨0, _⟩ => show 0 + 1 * i.val = i.val; omega
    | ⟨1, _⟩ => show 5120 + 1 * l.val = 5120 + l.val; omega
  show (iblk m c 3 t : Vec Ideal S1024x5248 .bf16) (r0_5.idx (ix2 i l)) = _
  rw [e, weight]

end Cert.Proof.SsdSample

end
-- ==== Proof.SsdSampleArray.lean ====
/-
  The recurrent mixer's projection of the sample: what the kernel's three result arrays hold after the run.
-/
module

public import proofs.«01_k».proof.Proof.SsdSampleKernel

@[expose] public section

set_option maxRecDepth 16384

noncomputable section

namespace Cert.Proof.SsdSample

open Idealize.ShloMosaic Idealize.ShloMosaic.TcCoe Idealize.SL.Sem Cert.SsdSampleIdeal Cert.SsdSampleIdeal.Gen
open Idealize.ShloMosaic.Pipeline (Dat)

variable (m : (ℓ : Loc nD τ sig) → Buf (Elt Ideal) ℓ)

/-- The first array that the run must leave, from the launched arguments. -/
abbrev gateGoal (c : Dev nD) : FVec Ideal S1x128x2048 .f32 :=
  gateArray (m ((c : Thread nD τ).loc main_arg0)) (m ((c : Thread nD τ).loc main_arg1)) (m ((c : Thread nD τ).loc main_arg2))
    (m ((c : Thread nD τ).loc main_arg3))

/-- The second. -/
abbrev convGoal (c : Dev nD) : FVec Ideal S1x128x3072 .f32 :=
  convArray (m ((c : Thread nD τ).loc main_arg0)) (m ((c : Thread nD τ).loc main_arg1)) (m ((c : Thread nD τ).loc main_arg2))
    (m ((c : Thread nD τ).loc main_arg3))

/-- The third. -/
abbrev stepGoal (c : Dev nD) : FVec Ideal S1x128x128 .f32 :=
  stepArray (m ((c : Thread nD τ).loc main_arg0)) (m ((c : Thread nD τ).loc main_arg1)) (m ((c : Thread nD τ).loc main_arg2))
    (m ((c : Thread nD τ).loc main_arg3))

theorem gate_point (c : Dev nD) (t : Fin cfg0.N) (r : Fin 128) (l : Fin 2048) :
    k0_pay3 (iblk m c 0 t) (iblk m c 2 t) (iblk m c 1 t) (View.ld (iblk m c 3 t) r0_1) (ix3 0 r l)
      = gateGoal m c (((cfg0.win 4).blk t).view.emb (ix3 0 r l)) := by
  refine (gate_apply (iblk m c 0 t) (iblk m c 1 t) (iblk m c 2 t) (View.ld (iblk m c 3 t) r0_1) r l).trans ?_
  have hj : (((cfg0.win 4).blk t).view.emb (ix3 0 r l)) = ix3 0 r l := by blk_ext [idx t]
  rw [hj]
  simp only [rows, shifts, scales, gate_weight]
  rfl

theorem conv_point (c : Dev nD) (t : Fin cfg0.N) (r : Fin 128) (l : Fin 3072) :
    k0_pay4 (iblk m c 0 t) (iblk m c 2 t) (iblk m c 1 t) (View.ld (iblk m c 3 t) r0_3) (ix3 0 r l)
      = convGoal m c (((cfg0.win 5).blk t).view.emb (ix3 0 r l)) := by
  refine (conv_apply (iblk m c 0 t) (iblk m c 1 t) (iblk m c 2 t) (View.ld (iblk m c 3 t) r0_3) r l).trans ?_
  have hj : (((cfg0.win 5).blk t).view.emb (ix3 0 r l)) = ix3 0 r l := by blk_ext [idx t]
  rw [hj]
  simp only [rows, shifts, scales, conv_weight]
  rfl

theorem step_point (c : Dev nD) (t : Fin cfg0.N) (r : Fin 128) (l : Fin 128) :
    k0_pay1 (k0_pay5 (iblk m c 0 t) (iblk m c 2 t) (iblk m c 1 t) (View.ld (iblk m c 3 t) r0_5)) (ix3 0 r l)
      = stepGoal m c (((cfg0.win 6).blk t).view.emb (ix3 0 r l)) := by
  refine (step_apply (iblk m c 0 t) (iblk m c 1 t) (iblk m c 2 t) (View.ld (iblk m c 3 t) r0_5) r l).trans ?_
  have hj : (((cfg0.win 6).blk t).view.emb (ix3 0 r l)) = ix3 0 r l := by blk_ext [idx t]
  rw [hj]
  simp only [rows, shifts, scales, step_weight]
  by_cases h : l.val < 32
  · refine Eq.trans ?_ (dif_pos h).symm
    unfold entry
    congr 1
    funext i
    rw [padded, dif_pos (show 5120 + l.val < 5152 by omega)]
    rfl
  · refine Eq.trans ?_ (dif_neg h).symm
    unfold column
    refine Finset.sum_eq_zero fun i _ => ?_
    beta_reduce
    rw [padded, dif_neg (show ¬ 5120 + l.val < 5152 by omega)]
    exact mul_zero _

/-- The first result array after the run. -/
theorem gate_final (c : Dev nD) : (dats m 0 c).arrAt 4 cfg0.N = gateGoal m c := by
  refine (dats m 0 c).arrAt_eq_of_covers 4 _ (by decide +kernel) fun t _ y => ?_
  blk_simp
  rw [after0_4]
  frame_out
  have hy : y = ix3 (⟨0, by decide⟩ : Fin 1) (⟨(y 1).val, (y 1).isLt⟩ : Fin 128) (⟨(y 2).val, (y 2).isLt⟩ : Fin 2048) := by
    blk_ext
  rw [hy]
  exact gate_point m c t _ _

/-- The second. -/
theorem conv_final (c : Dev nD) : (dats m 0 c).arrAt 5 cfg0.N = convGoal m c := by
  refine (dats m 0 c).arrAt_eq_of_covers 5 _ (by decide +kernel) fun t _ y => ?_
  blk_simp
  rw [after0_5]
  frame_out
  have hy : y = ix3 (⟨0, by decide⟩ : Fin 1) (⟨(y 1).val, (y 1).isLt⟩ : Fin 128) (⟨(y 2).val, (y 2).isLt⟩ : Fin 3072) := by
    blk_ext
  rw [hy]
  exact conv_point m c t _ _

/-- The third. -/
theorem step_final (c : Dev nD) : (dats m 0 c).arrAt 6 cfg0.N = stepGoal m c := by
  refine (dats m 0 c).arrAt_eq_of_covers 6 _ (by decide +kernel) fun t _ y => ?_
  blk_simp
  rw [after0_6]
  frame_out
  have hy : y = ix3 (⟨0, by decide⟩ : Fin 1) (⟨(y 1).val, (y 1).isLt⟩ : Fin 128) (⟨(y 2).val, (y 2).isLt⟩ : Fin 128) := by
    blk_ext
  rw [hy]
  exact step_point m c t _ _

end Cert.Proof.SsdSample

end
-- ==== Proof.SsdSampleEquation.lean ====
/-
  The recurrent mixer's projection of the sample: the reference computes the formula, so both programs end with equal results.
-/
module

public import proofs.«01_k».proof.Defs
public import proofs.«01_k».proof.Proof.SsdSampleArray
public import proofs.«01_k».proof.Proof.Gen.SsdSampleReferenceIdeal.Run
public import proofs.«01_k».proof.Proof.Gen.SsdSampleReferenceIdeal.Read

@[expose] public section

set_option maxRecDepth 16384

noncomputable section

namespace Cert.Proof.SsdSample

open Idealize.ShloMosaic Idealize.SL.Sem
open Cert.Proof.Ffn (modulated)

section Reference

open Cert.SsdSampleReferenceIdeal Cert.SsdSampleReferenceIdeal.Gen Cert.SsdSampleReferenceIdeal.Read

variable (x : FVec Ideal S32x4x1024 .f32) (sh sc : FVec Ideal S32x1x1024 .f32) (w : FVec Ideal S1024x5152 .f32)

/-- The whole projection. -/
theorem ref_entry (p : Fin 32) (q : Fin 4) (n : Fin 5152) : val_main_v6 (F := Ideal) x sh sc w (ix3 p q n)
    = entry x sh sc w p q n := by
  unfold entry column modulated
  pointwise [val_main_v6, val_main_v5, val_main_v4, val_main_v3, val_main_v2, val_main_v1, val_main_v0, val_main_cst]

theorem ref_gate : val_main_v11 (F := Ideal) x sh sc w = gateArray x sh sc w := by
  funext j
  have hj : j = ix3 (⟨0, by decide⟩ : Fin 1) (⟨(j 1).val, (j 1).isLt⟩ : Fin 128) (⟨(j 2).val, (j 2).isLt⟩ : Fin 2048) := by
    blk_ext
  rw [hj]
  refine Eq.trans ?_ (ref_entry x sh sc w (group (j 1)) (step (j 1)) ⟨(j 2).val, (show (j 2).val < 2048 from (j 2).isLt).trans (by decide)⟩)
  unfold group step
  pointwise [val_main_v11, val_main_v9]

theorem ref_conv : val_main_v12 (F := Ideal) x sh sc w = convArray x sh sc w := by
  funext j
  have hj : j = ix3 (⟨0, by decide⟩ : Fin 1) (⟨(j 1).val, (j 1).isLt⟩ : Fin 128) (⟨(j 2).val, (j 2).isLt⟩ : Fin 3072) := by
    blk_ext
  rw [hj]
  refine Eq.trans ?_ (ref_entry x sh sc w (group (j 1)) (step (j 1))
    ⟨2048 + (j 2).val, by have : (j 2).val < 3072 := (j 2).isLt; omega⟩)
  unfold group step
  pointwise [val_main_v12, val_main_v10]

/-- The padded columns, before the rows are laid in one batch. -/
theorem ref_padded (p : Fin 32) (q : Fin 4) (l : Fin 128) : val_main_v8 (F := Ideal) x sh sc w (ix3 p q l)
    = if h : l.val < 32 then entry x sh sc w p q ⟨5120 + l.val, by omega⟩ else 0 := by
  pointwise [val_main_v8, val_main_v7, val_main_call0_v0, val_main_c]
  by_cases h : l.val < 32
  · rw [dif_pos h, dif_pos h]
    exact ref_entry x sh sc w p q _
  · rw [dif_neg h, dif_neg h]
    exact word_zero

theorem ref_step : val_main_v13 (F := Ideal) x sh sc w = stepArray x sh sc w := by
  funext j
  have hj : j = ix3 (⟨0, by decide⟩ : Fin 1) (⟨(j 1).val, (j 1).isLt⟩ : Fin 128) (⟨(j 2).val, (j 2).isLt⟩ : Fin 128) := by
    blk_ext
  rw [hj]
  refine Eq.trans ?_ (ref_padded x sh sc w (group (j 1)) (step (j 1)) (j 2))
  unfold group step
  pointwise [val_main_v13]

end Reference

/-- The two programs, over the ideal numbers, end with the same result arrays and leave their arguments as they were. -/
theorem algebraic : Cert.algebraic_SsdSampleIdeal_SsdSampleReferenceIdeal
    (hSsdSampleIdeal := Cert.SsdSampleIdeal.Gen.facts) (hSsdSampleReferenceIdeal := Cert.SsdSampleReferenceIdeal.Gen.facts) := by
  intro m g m' g' _ hagree
  refine ⟨fun c => gateGoal m c, fun c => convGoal m c, fun c => stepGoal m c, ?_, ?_⟩
  · exact (θ_run _ _ _).mono (fun r h c => ⟨(h c).1.trans (gate_final m c), (h c).2.1.trans (conv_final m c),
      (h c).2.2.1.trans (step_final m c), (h c).2.2.2⟩) (Cert.SsdSampleIdeal.Value.run_blocks m g)
  · refine (θ_run _ _ _).mono (fun r h c => ⟨(h c).1.trans ?_, (h c).2.1.trans ?_, (h c).2.2.1.trans ?_, (h c).2.2.2⟩)
      (Cert.SsdSampleReferenceIdeal.Value.run m' g')
    all_goals obtain ⟨h0, h1, h2, h3⟩ := hagree c
    · rw [Cert.SsdSampleReferenceIdeal.Read.val_main_v11_eq, h0, h1, h2, h3]
      exact ref_gate _ _ _ _
    · rw [Cert.SsdSampleReferenceIdeal.Read.val_main_v12_eq, h0, h1, h2, h3]
      exact ref_conv _ _ _ _
    · rw [Cert.SsdSampleReferenceIdeal.Read.val_main_v13_eq, h0, h1, h2, h3]
      exact ref_step _ _ _ _

end Cert.Proof.SsdSample

end
-- ==== Proof.FrameNsaProjectReference.lean ====
/-
  The reference of the projection before the attention runs, ends with its argument arrays unchanged, and leaves every counter at zero.
-/
module

public import proofs.«01_k».proof.Proof.Gen.NsaProjectReferenceIdeal.Run
public import Idealize.ShloMosaic.Lib.Claim
public import Idealize.ShloMosaic.Lib.Quiescent

@[expose] public section

noncomputable section

namespace Cert.Proof.NsaProjectReferenceIdeal

open Idealize.ShloMosaic Idealize.SL.Sem Cert.NsaProjectReferenceIdeal Cert.NsaProjectReferenceIdeal.Value
open Cert.NsaProjectReferenceIdeal.Gen

variable {F : FTy → Type} [FloatOps F]
variable (m : (ℓ : Loc nD τ sig) → Buf (Elt F) ℓ) (ρ : Dev nD → PrngReg)

/-- The reference terminates without a fault, its argument arrays end as they began, and, declaring no
    semaphore, it ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2.2, sem_eq_zero_of_no_sems rfl r.2⟩) (run m ρ)

end Cert.Proof.NsaProjectReferenceIdeal

end
-- ==== Proof.NsaProjectFormula.lean ====
/-
  The projection before the attention, as formulas: the columns of one matrix product, some of them rotated by an angle
  that grows with the row's position.
-/
module

public import proofs.«01_k».proof.Proof.SsdProjectKernel

@[expose] public section

noncomputable section

namespace Cert.Proof.NsaProject

open Idealize.ShloMosaic
open Cert.Proof.SsdProject (column)

/-- The angle of frequency `k` at position `q`: `q · 10000 ^ (-k / 32)`. -/
def angle (q k : ℕ) : EReal :=
  ((q : ℝ) : EReal) * Ideal.pow (Ideal.ofBits FTy.f32 1176256512#32) (Ideal.div (-((k : ℝ) : EReal)) (Ideal.ofBits FTy.f32 1107296256#32))

/-- One head's 64 channels, each pair `(k, k + 32)` turned by the angle of frequency `k`. -/
def turned (P : ℕ → EReal) (q l : ℕ) : EReal :=
  if l < 32 then P l * Ideal.cos (angle q l) - P (l + 32) * Ideal.sin (angle q l)
  else P l * Ideal.cos (angle q (l - 32)) + P (l - 32) * Ideal.sin (angle q (l - 32))

/-- Column `m` turned within the head that it belongs to. -/
def rotated (P : ℕ → EReal) (q m : ℕ) : EReal := turned (fun l => P (m / 64 * 64 + l)) q (m % 64)

/-- Column `n` of the weights, zero behind the last. -/
def col (w : Shape.Idx ⟨2, ![1024, 2608]⟩ → EReal) (n : ℕ) (i : Fin 1024) : EReal :=
  if h : n < 2608 then w (ix2 i ⟨n, h⟩) else 0

/-- The entry that entry `m` of a row meets in the rotation, with its sign. -/
def partner (W : ℕ → EReal) (m : ℕ) : EReal := if m % 64 < 32 then -W (m + 32) else W (m - 32)

/-- The factor of the queries, an eighth. -/
def eighth : EReal := Ideal.ofBits FTy.f32 1040187392#32

/-- The scaled row of weights that makes the queries. -/
def small (w : Shape.Idx ⟨2, ![1024, 2608]⟩ → EReal) (i : Fin 1024) (n : ℕ) : EReal := col w n i * eighth

/-- A row of the prepared weights: each rotated part is followed by the entries that it meets in the rotation. -/
def laid (w : Shape.Idx ⟨2, ![1024, 2608]⟩ → EReal) (i : Fin 1024) (n : ℕ) : EReal :=
  if n < 1024 then small w i n
  else if n < 2048 then partner (small w i) (n - 1024)
  else if n < 2816 then col w (n - 1024) i
  else if n < 3072 then partner (fun k => col w (1536 + k) i) (n - 2816)
  else if n < 3584 then col w (n - 1280) i
  else if n < 3840 then partner (fun k => col w (2048 + k) i) (n - 3584)
  else col w (n - 1536) i

/-- An index as a float is the index. -/
theorem word (n : ℕ) (h : n < 2147483648) : (FloatOps.sitofp FTy.f32 (BitVec.ofNat 32 n) : Ideal FTy.f32) = ((n : ℝ) : EReal) := by
  have e : (BitVec.ofNat 32 n).toInt = (n : ℤ) := by
    rw [BitVec.toInt_eq_toNat_of_lt] <;> simp [BitVec.toNat_ofNat] <;> omega
  show ((((BitVec.ofNat 32 n).toInt : ℤ) : ℝ) : EReal) = _
  rw [e]
  simp

/-- The lower half of a head, by its bit of the column. -/
theorem half (n : ℕ) : n / 32 % 2 < 1 ↔ n % 64 < 32 := by
  have h : n / 32 % 2 = n % 64 / 32 := by
    rw [show 64 = 32 * 2 from rfl, Nat.mod_mul_right_div_self]
  rw [h]
  constructor
  · intro q
    exact (Nat.div_lt_iff_lt_mul (by decide)).mp q
  · intro q
    exact (Nat.div_lt_iff_lt_mul (by decide)).mpr q

theorem low (W : ℕ → EReal) (n : ℕ) (h : n / 32 % 2 < 1) : partner W n = -W (n / 64 * 64 + 32 + n % 32) := by
  have q := (half n).mp h
  clear h
  unfold partner
  have e : n / 64 * 64 + 32 + n % 32 = n + 32 := by omega
  rw [if_pos q, e]

theorem high (W : ℕ → EReal) (n : ℕ) (h : ¬n / 32 % 2 < 1) : partner W n = W (n / 64 * 64 + n % 32) := by
  have q := mt (half n).mpr h
  clear h
  unfold partner
  have e : n / 64 * 64 + n % 32 = n - 32 := by omega
  rw [if_neg q, e]
theorem col_lt (w : Shape.Idx ⟨2, ![1024, 2608]⟩ → EReal) (i : Fin 1024) (n : ℕ) (h : n < 2608) : col w n i = w (ix2 i ⟨n, h⟩) :=
  dif_pos h

end Cert.Proof.NsaProject

end
-- ==== Proof.NsaProjectWeights.lean ====
/-
  The weights that the host prepares: the scaled queries, the other columns, and beside each rotated part its partners.
-/
module
public import proofs.«01_k».proof.Proof.NsaProjectFormula
public import proofs.«01_k».proof.Proof.Gen.NsaProjectIdeal.Frame
public import proofs.«01_k».proof.Proof.Gen.NsaProjectIdeal.Value
public import Idealize.ShloMosaic.Lib.Pipeline.ValueKit
public import Idealize.ShloMosaic.Lib.Pointwise
public import Idealize.ShloMosaic.Lib.StableHlo.RunRead
@[expose] public section
set_option maxRecDepth 16384
noncomputable section
namespace Cert.Proof.NsaProject
open Idealize.ShloMosaic Idealize.ShloMosaic.TcCoe Idealize.SL.Sem Cert.NsaProjectIdeal Cert.NsaProjectIdeal.Gen
open Cert.Proof.SsdProject (column)
open Cert.Proof.Ffn (modulated)

variable (m : (ℓ : Loc nD τ sig) → Buf (Elt Ideal) ℓ)

theorem after_append (l k : List (HloOp τ sig (Elt Ideal))) (X : Valuation τ sig (Elt Ideal)) :
    StableHlo.after (l ++ k) X = StableHlo.after k (StableHlo.after l X) := by
  induction l generalizing X with
  | nil => rfl
  | cons op l ih => exact ih _

/-- The last two operations before the kernel: the columns joined, and rounded. -/
abbrev joining {F : FTy → Type} [FloatOps F] : List (HloOp τ sig (Elt F)) := [
    StableHlo.nary ![main_v20, main_v38, main_v21, main_v22, main_v23, main_v48, main_v24, main_v25, main_v58, main_v26, main_v28] main_v59 (fun u => (concatenate S1024x4224 1 [⟨S1024x1024, (u 0 : (⟨S1024x1024, .f32⟩ : BufTy).Contents (Elt F))⟩, ⟨S1024x1024, (u 1 : (⟨S1024x1024, .f32⟩ : BufTy).Contents (Elt F))⟩, ⟨S1024x256, (u 2 : (⟨S1024x256, .f32⟩ : BufTy).Contents (Elt F))⟩, ⟨S1024x256, (u 3 : (⟨S1024x256, .f32⟩ : BufTy).Contents (Elt F))⟩, ⟨S1024x256, (u 4 : (⟨S1024x256, .f32⟩ : BufTy).Contents (Elt F))⟩, ⟨S1024x256, (u 5 : (⟨S1024x256, .f32⟩ : BufTy).Contents (Elt F))⟩, ⟨S1024x256, (u 6 : (⟨S1024x256, .f32⟩ : BufTy).Contents (Elt F))⟩, ⟨S1024x256, (u 7 : (⟨S1024x256, .f32⟩ : BufTy).Contents (Elt F))⟩, ⟨S1024x256, (u 8 : (⟨S1024x256, .f32⟩ : BufTy).Contents (Elt F))⟩, ⟨S1024x256, (u 9 : (⟨S1024x256, .f32⟩ : BufTy).Contents (Elt F))⟩, ⟨S1024x128, (u 10 : (⟨S1024x128, .f32⟩ : BufTy).Contents (Elt F))⟩] concatenates_S1024x1024_S1024x1024_S1024x256_S1024x256_S1024x256_S1024x256_S1024x256_S1024x256_S1024x256_S1024x256_S1024x128_S1024x4224_d1 : (⟨S1024x4224, .f32⟩ : BufTy).Contents (Elt F))),
    StableHlo.unary main_v59 main_v60 ((truncf .bf16 · bitsLt_bf16_f32) : (⟨S1024x4224, .f32⟩ : BufTy).Contents (Elt F) → (⟨S1024x4224, .bf16⟩ : BufTy).Contents (Elt F)) ]

/-- What the operations before those two leave. -/
def before (c : Dev nD) : Valuation τ sig (Elt Ideal) :=
  StableHlo.after (List.take 64 (List.flatten [hostOps0, hostOps0_1, hostOps0_2])) fun b => m (c, b)

theorem split (c : Dev nD) (b : Ref sig .tc) : V m c b = StableHlo.after joining (before m c) (Proc.devRef .tc b) := by
  unfold before
  rw [← after_append]
  rfl

theorem joined (c : Dev nD) : @Eq (FVec Ideal S1024x4224 .bf16) (V m c main_v60)
    (truncf .bf16 (concatenate S1024x4224 1 [⟨S1024x1024, (before m c (Proc.devRef .tc main_v20) : FVec Ideal S1024x1024 .f32)⟩,
        ⟨S1024x1024, (before m c (Proc.devRef .tc main_v38) : FVec Ideal S1024x1024 .f32)⟩,
        ⟨S1024x256, (before m c (Proc.devRef .tc main_v21) : FVec Ideal S1024x256 .f32)⟩,
        ⟨S1024x256, (before m c (Proc.devRef .tc main_v22) : FVec Ideal S1024x256 .f32)⟩,
        ⟨S1024x256, (before m c (Proc.devRef .tc main_v23) : FVec Ideal S1024x256 .f32)⟩,
        ⟨S1024x256, (before m c (Proc.devRef .tc main_v48) : FVec Ideal S1024x256 .f32)⟩,
        ⟨S1024x256, (before m c (Proc.devRef .tc main_v24) : FVec Ideal S1024x256 .f32)⟩,
        ⟨S1024x256, (before m c (Proc.devRef .tc main_v25) : FVec Ideal S1024x256 .f32)⟩,
        ⟨S1024x256, (before m c (Proc.devRef .tc main_v58) : FVec Ideal S1024x256 .f32)⟩,
        ⟨S1024x256, (before m c (Proc.devRef .tc main_v26) : FVec Ideal S1024x256 .f32)⟩,
        ⟨S1024x128, (before m c (Proc.devRef .tc main_v28) : FVec Ideal S1024x128 .f32)⟩]
      concatenates_S1024x1024_S1024x1024_S1024x256_S1024x256_S1024x256_S1024x256_S1024x256_S1024x256_S1024x256_S1024x256_S1024x128_S1024x4224_d1) bitsLt_bf16_f32) := by
  refine (split m c main_v60).trans ?_
  generalize before m c = X
  after_results
  rfl

theorem behind (w : Shape.Idx ⟨2, ![1024, 2608]⟩ → EReal) (i : Fin 1024) (n : Fin 128) (h₁ : n.val < 48 → 2560 + n.val < 2608) :
    (if h : n.val < 48 then w (ix2 i ⟨2560 + n.val, h₁ h⟩) else (FloatOps.sitofp FTy.f32 (0#32) : Ideal FTy.f32)) = col w (2560 + n.val) i := by
  unfold col
  by_cases h : n.val < 48
  · rw [dif_pos h, dif_pos (by omega)]
  · rw [dif_neg h, dif_neg (by omega)]
    exact (word 0 (by omega)).trans (by simp)

/-- The weights as they arrive. -/
abbrev given (c : Dev nD) : FVec Ideal S1024x2608 .f32 := m ((c : Thread nD τ).loc main_arg3)

theorem met_small (w : Shape.Idx ⟨2, ![1024, 2608]⟩ → EReal) (i : Fin 1024) (n : ℕ)
    (h₁ : n / 64 * 64 + 32 + n % 32 < 2608) (h₂ : n / 64 * 64 + n % 32 < 2608) :
    (if h : n / 32 % 2 < 1 then -(w (ix2 i ⟨n / 64 * 64 + 32 + n % 32, h₁⟩) * Ideal.ofBits FTy.f32 1040187392#32)
      else w (ix2 i ⟨n / 64 * 64 + n % 32, h₂⟩) * Ideal.ofBits FTy.f32 1040187392#32) = partner (small w i) n := by
  by_cases h : n / 32 % 2 < 1
  · rw [dif_pos h, low _ _ h]
    unfold small eighth
    rw [col_lt _ _ _ h₁]
  · rw [dif_neg h, high _ _ h]
    unfold small eighth
    rw [col_lt _ _ _ h₂]

theorem met_plain (w : Shape.Idx ⟨2, ![1024, 2608]⟩ → EReal) (i : Fin 1024) (n o : ℕ)
    (h₁ : o + (n / 64 * 64 + 32 + n % 32) < 2608) (h₂ : o + (n / 64 * 64 + n % 32) < 2608) :
    (if h : n / 32 % 2 < 1 then -w (ix2 i ⟨o + (n / 64 * 64 + 32 + n % 32), h₁⟩)
      else w (ix2 i ⟨o + (n / 64 * 64 + n % 32), h₂⟩)) = partner (fun k => col w (o + k) i) n := by
  by_cases h : n / 32 % 2 < 1
  · rw [dif_pos h, low _ _ h, col_lt _ _ _ h₁]
  · rw [dif_neg h, high _ _ h, col_lt _ _ _ h₂]

theorem part20 (c : Dev nD) (i n : Fin 1024) :
    (before m c (Proc.devRef .tc main_v20) : FVec Ideal S1024x1024 .f32) (ix2 i n) = small (given m c) i n.val := by
  unfold small col eighth
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part38 (c : Dev nD) (i n : Fin 1024) :
    (before m c (Proc.devRef .tc main_v38) : FVec Ideal S1024x1024 .f32) (ix2 i n) = partner (small (given m c) i) n.val := by
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise
  refine Eq.trans ?_ (met_small (m (c, Proc.tc.devRef main_arg3)) i n.val (by omega) (by omega))
  by_cases h : n.val / 32 % 2 < 1
  · simp only [dif_pos h]
  · simp only [dif_neg h]

theorem part21 (c : Dev nD) (i : Fin 1024) (n : Fin 256) :
    (before m c (Proc.devRef .tc main_v21) : FVec Ideal S1024x256 .f32) (ix2 i n) = col (given m c) (1024 + n.val) i := by
  unfold col
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part22 (c : Dev nD) (i : Fin 1024) (n : Fin 256) :
    (before m c (Proc.devRef .tc main_v22) : FVec Ideal S1024x256 .f32) (ix2 i n) = col (given m c) (1280 + n.val) i := by
  unfold col
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part23 (c : Dev nD) (i : Fin 1024) (n : Fin 256) :
    (before m c (Proc.devRef .tc main_v23) : FVec Ideal S1024x256 .f32) (ix2 i n) = col (given m c) (1536 + n.val) i := by
  unfold col
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part24 (c : Dev nD) (i : Fin 1024) (n : Fin 256) :
    (before m c (Proc.devRef .tc main_v24) : FVec Ideal S1024x256 .f32) (ix2 i n) = col (given m c) (1792 + n.val) i := by
  unfold col
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part25 (c : Dev nD) (i : Fin 1024) (n : Fin 256) :
    (before m c (Proc.devRef .tc main_v25) : FVec Ideal S1024x256 .f32) (ix2 i n) = col (given m c) (2048 + n.val) i := by
  unfold col
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part26 (c : Dev nD) (i : Fin 1024) (n : Fin 256) :
    (before m c (Proc.devRef .tc main_v26) : FVec Ideal S1024x256 .f32) (ix2 i n) = col (given m c) (2304 + n.val) i := by
  unfold col
  rw [dif_pos (by omega)]
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise

theorem part48 (c : Dev nD) (i : Fin 1024) (n : Fin 256) :
    (before m c (Proc.devRef .tc main_v48) : FVec Ideal S1024x256 .f32) (ix2 i n)
      = partner (fun k => col (given m c) (1536 + k) i) n.val := by
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise
  refine Eq.trans ?_ (met_plain (m (c, Proc.tc.devRef main_arg3)) i n.val 1536 (by omega) (by omega))
  by_cases h : n.val / 32 % 2 < 1
  · simp only [dif_pos h]
  · simp only [dif_neg h]

theorem part58 (c : Dev nD) (i : Fin 1024) (n : Fin 256) :
    (before m c (Proc.devRef .tc main_v58) : FVec Ideal S1024x256 .f32) (ix2 i n)
      = partner (fun k => col (given m c) (2048 + k) i) n.val := by
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise
  refine Eq.trans ?_ (met_plain (m (c, Proc.tc.devRef main_arg3)) i n.val 2048 (by omega) (by omega))
  by_cases h : n.val / 32 % 2 < 1
  · simp only [dif_pos h]
  · simp only [dif_neg h]

theorem part28 (c : Dev nD) (i : Fin 1024) (n : Fin 128) :
    (before m c (Proc.devRef .tc main_v28) : FVec Ideal S1024x128 .f32) (ix2 i n) = col (given m c) (2560 + n.val) i := by
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise
  refine Eq.trans ?_ (behind (m (c, Proc.tc.devRef main_arg3)) i n (by omega))
  by_cases h : n.val < 48
  · simp only [dif_pos h]
  · simp only [dif_neg h]

theorem idx : ∀ t : Fin cfg0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0]
    ∧ win0_4.index t = ![(grid0.coords t 1).val, 0] ∧ win0_5.index t = ![(grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0] :=
  (by decide +kernel : ∀ t : Fin grid0.N, _)

theorem joined_cases (S C K L : ℕ → EReal) (n : ℕ) :
    (if _ : n < 1024 then S n else if _ : n - 1024 < 1024 then partner S (n - 1024) else if _ : n - 2048 < 256 then C (1024 + (n - 2048)) else if _ : n - 2304 < 256 then C (1280 + (n - 2304)) else if _ : n - 2560 < 256 then C (1536 + (n - 2560)) else if _ : n - 2816 < 256 then partner K (n - 2816) else if _ : n - 3072 < 256 then C (1792 + (n - 3072)) else if _ : n - 3328 < 256 then C (2048 + (n - 3328)) else if _ : n - 3584 < 256 then partner L (n - 3584) else if _ : n - 3840 < 256 then C (2304 + (n - 3840)) else C (2560 + (n - 4096)) : EReal) =
    if n < 1024 then S n else if n < 2048 then partner S (n - 1024) else if n < 2816 then C (n - 1024)
    else if n < 3072 then partner K (n - 2816) else if n < 3584 then C (n - 1280)
    else if n < 3840 then partner L (n - 3584) else C (n - 1536) := by
  by_cases c0 : n < 1024
  · rw [dif_pos (show n < 1024 by omega), if_pos (show n < 1024 by omega)]
  by_cases c1 : n < 2048
  · rw [dif_neg (show ¬n < 1024 by omega), dif_pos (show n - 1024 < 1024 by omega), if_neg (show ¬n < 1024 by omega), if_pos (show n < 2048 by omega)]
  by_cases c2 : n < 2304
  · rw [dif_neg (show ¬n < 1024 by omega), dif_neg (show ¬n - 1024 < 1024 by omega), dif_pos (show n - 2048 < 256 by omega), if_neg (show ¬n < 1024 by omega), if_neg (show ¬n < 2048 by omega), if_pos (show n < 2816 by omega)]
    refine congrArg C ?_
    omega
  by_cases c3 : n < 2560
  · rw [dif_neg (show ¬n < 1024 by omega), dif_neg (show ¬n - 1024 < 1024 by omega), dif_neg (show ¬n - 2048 < 256 by omega), dif_pos (show n - 2304 < 256 by omega), if_neg (show ¬n < 1024 by omega), if_neg (show ¬n < 2048 by omega), if_pos (show n < 2816 by omega)]
    refine congrArg C ?_
    omega
  by_cases c4 : n < 2816
  · rw [dif_neg (show ¬n < 1024 by omega), dif_neg (show ¬n - 1024 < 1024 by omega), dif_neg (show ¬n - 2048 < 256 by omega), dif_neg (show ¬n - 2304 < 256 by omega), dif_pos (show n - 2560 < 256 by omega), if_neg (show ¬n < 1024 by omega), if_neg (show ¬n < 2048 by omega), if_pos (show n < 2816 by omega)]
    refine congrArg C ?_
    omega
  by_cases c5 : n < 3072
  · rw [dif_neg (show ¬n < 1024 by omega), dif_neg (show ¬n - 1024 < 1024 by omega), dif_neg (show ¬n - 2048 < 256 by omega), dif_neg (show ¬n - 2304 < 256 by omega), dif_neg (show ¬n - 2560 < 256 by omega), dif_pos (show n - 2816 < 256 by omega), if_neg (show ¬n < 1024 by omega), if_neg (show ¬n < 2048 by omega), if_neg (show ¬n < 2816 by omega), if_pos (show n < 3072 by omega)]
  by_cases c6 : n < 3328
  · rw [dif_neg (show ¬n < 1024 by omega), dif_neg (show ¬n - 1024 < 1024 by omega), dif_neg (show ¬n - 2048 < 256 by omega), dif_neg (show ¬n - 2304 < 256 by omega), dif_neg (show ¬n - 2560 < 256 by omega), dif_neg (show ¬n - 2816 < 256 by omega), dif_pos (show n - 3072 < 256 by omega), if_neg (show ¬n < 1024 by omega), if_neg (show ¬n < 2048 by omega), if_neg (show ¬n < 2816 by omega), if_neg (show ¬n < 3072 by omega), if_pos (show n < 3584 by omega)]
    refine congrArg C ?_
    omega
  by_cases c7 : n < 3584
  · rw [dif_neg (show ¬n < 1024 by omega), dif_neg (show ¬n - 1024 < 1024 by omega), dif_neg (show ¬n - 2048 < 256 by omega), dif_neg (show ¬n - 2304 < 256 by omega), dif_neg (show ¬n - 2560 < 256 by omega), dif_neg (show ¬n - 2816 < 256 by omega), dif_neg (show ¬n - 3072 < 256 by omega), dif_pos (show n - 3328 < 256 by omega), if_neg (show ¬n < 1024 by omega), if_neg (show ¬n < 2048 by omega), if_neg (show ¬n < 2816 by omega), if_neg (show ¬n < 3072 by omega), if_pos (show n < 3584 by omega)]
    refine congrArg C ?_
    omega
  by_cases c8 : n < 3840
  · rw [dif_neg (show ¬n < 1024 by omega), dif_neg (show ¬n - 1024 < 1024 by omega), dif_neg (show ¬n - 2048 < 256 by omega), dif_neg (show ¬n - 2304 < 256 by omega), dif_neg (show ¬n - 2560 < 256 by omega), dif_neg (show ¬n - 2816 < 256 by omega), dif_neg (show ¬n - 3072 < 256 by omega), dif_neg (show ¬n - 3328 < 256 by omega), dif_pos (show n - 3584 < 256 by omega), if_neg (show ¬n < 1024 by omega), if_neg (show ¬n < 2048 by omega), if_neg (show ¬n < 2816 by omega), if_neg (show ¬n < 3072 by omega), if_neg (show ¬n < 3584 by omega), if_pos (show n < 3840 by omega)]
  by_cases c9 : n < 4096
  · rw [dif_neg (show ¬n < 1024 by omega), dif_neg (show ¬n - 1024 < 1024 by omega), dif_neg (show ¬n - 2048 < 256 by omega), dif_neg (show ¬n - 2304 < 256 by omega), dif_neg (show ¬n - 2560 < 256 by omega), dif_neg (show ¬n - 2816 < 256 by omega), dif_neg (show ¬n - 3072 < 256 by omega), dif_neg (show ¬n - 3328 < 256 by omega), dif_neg (show ¬n - 3584 < 256 by omega), dif_pos (show n - 3840 < 256 by omega), if_neg (show ¬n < 1024 by omega), if_neg (show ¬n < 2048 by omega), if_neg (show ¬n < 2816 by omega), if_neg (show ¬n < 3072 by omega), if_neg (show ¬n < 3584 by omega), if_neg (show ¬n < 3840 by omega)]
    refine congrArg C ?_
    omega
  rw [dif_neg (show ¬n < 1024 by omega), dif_neg (show ¬n - 1024 < 1024 by omega), dif_neg (show ¬n - 2048 < 256 by omega), dif_neg (show ¬n - 2304 < 256 by omega), dif_neg (show ¬n - 2560 < 256 by omega), dif_neg (show ¬n - 2816 < 256 by omega), dif_neg (show ¬n - 3072 < 256 by omega), dif_neg (show ¬n - 3328 < 256 by omega), dif_neg (show ¬n - 3584 < 256 by omega), dif_neg (show ¬n - 3840 < 256 by omega), if_neg (show ¬n < 1024 by omega), if_neg (show ¬n < 2048 by omega), if_neg (show ¬n < 2816 by omega), if_neg (show ¬n < 3072 by omega), if_neg (show ¬n < 3584 by omega), if_neg (show ¬n < 3840 by omega)]
  refine congrArg C ?_
  omega

theorem laid_apply (w : Shape.Idx ⟨2, ![1024, 2608]⟩ → EReal) (i : Fin 1024) (n : Fin 4224)
    (A0 : FVec Ideal S1024x1024 .f32)
    (A1 : FVec Ideal S1024x1024 .f32)
    (A2 : FVec Ideal S1024x256 .f32)
    (A3 : FVec Ideal S1024x256 .f32)
    (A4 : FVec Ideal S1024x256 .f32)
    (A5 : FVec Ideal S1024x256 .f32)
    (A6 : FVec Ideal S1024x256 .f32)
    (A7 : FVec Ideal S1024x256 .f32)
    (A8 : FVec Ideal S1024x256 .f32)
    (A9 : FVec Ideal S1024x256 .f32)
    (A10 : FVec Ideal S1024x128 .f32)
    (h0 : ∀ k : Fin 1024, A0 (ix2 i k) = small w i k.val)
    (h1 : ∀ k : Fin 1024, A1 (ix2 i k) = partner (small w i) k.val)
    (h2 : ∀ k : Fin 256, A2 (ix2 i k) = col w (1024 + k.val) i)
    (h3 : ∀ k : Fin 256, A3 (ix2 i k) = col w (1280 + k.val) i)
    (h4 : ∀ k : Fin 256, A4 (ix2 i k) = col w (1536 + k.val) i)
    (h5 : ∀ k : Fin 256, A5 (ix2 i k) = partner (fun k => col w (1536 + k) i) k.val)
    (h6 : ∀ k : Fin 256, A6 (ix2 i k) = col w (1792 + k.val) i)
    (h7 : ∀ k : Fin 256, A7 (ix2 i k) = col w (2048 + k.val) i)
    (h8 : ∀ k : Fin 256, A8 (ix2 i k) = partner (fun k => col w (2048 + k) i) k.val)
    (h9 : ∀ k : Fin 256, A9 (ix2 i k) = col w (2304 + k.val) i)
    (h10 : ∀ k : Fin 128, A10 (ix2 i k) = col w (2560 + k.val) i) :
    (truncf .bf16 (concatenate S1024x4224 1 [⟨S1024x1024, A0⟩, ⟨S1024x1024, A1⟩, ⟨S1024x256, A2⟩, ⟨S1024x256, A3⟩, ⟨S1024x256, A4⟩, ⟨S1024x256, A5⟩, ⟨S1024x256, A6⟩, ⟨S1024x256, A7⟩, ⟨S1024x256, A8⟩, ⟨S1024x256, A9⟩, ⟨S1024x128, A10⟩] concatenates_S1024x1024_S1024x1024_S1024x256_S1024x256_S1024x256_S1024x256_S1024x256_S1024x256_S1024x256_S1024x256_S1024x128_S1024x4224_d1) bitsLt_bf16_f32 : FVec Ideal S1024x4224 .bf16) (ix2 i n) = laid w i n.val := by
  pointwise
  simp only [h0, h1, h2, h3, h4, h5, h6, h7, h8, h9, h10]
  simp only [Nat.sub_sub, Nat.reduceAdd]
  exact joined_cases (small w i) (fun k => col w k i) (fun k => col w (1536 + k) i) (fun k => col w (2048 + k) i) n.val

theorem weight (c : Dev nD) (t : Fin cfg0.N) (i : Fin 1024) (n : Fin 4224) :
    (iblk m c 3 t : Vec Ideal S1024x4224 .bf16) (ix2 i n) = laid (given m c) i n.val := by
  have e : ((cfg0.win 3).blk t).view.emb (ix2 i n) = ix2 i n := by blk_ext [idx t]
  show V m c main_v60 (((cfg0.win 3).blk t).view.emb (ix2 i n)) = _
  rw [e]
  refine (congrFun (joined m c) _).trans ?_
  exact laid_apply (given m c) i n _ _ _ _ _ _ _ _ _ _ _ (part20 m c i) (part38 m c i) (part21 m c i) (part22 m c i) (part23 m c i) (part48 m c i) (part24 m c i) (part25 m c i) (part58 m c i) (part26 m c i) (part28 m c i)

end Cert.Proof.NsaProject

end
-- ==== Proof.NsaProjectTables.lean ====
/-
  The tables of cosines and sines that the host prepares: lane `n` holds the angle of frequency `n % 32`.
-/
module

public import proofs.«01_k».proof.Proof.NsaProjectWeights

@[expose] public section
set_option maxRecDepth 16384
noncomputable section
namespace Cert.Proof.NsaProject
open Idealize.ShloMosaic Idealize.ShloMosaic.TcCoe Idealize.SL.Sem Cert.NsaProjectIdeal Cert.NsaProjectIdeal.Gen
open Cert.Proof.SsdProject (column)
open Cert.Proof.Ffn (modulated)

variable (m : (ℓ : Loc nD τ sig) → Buf (Elt Ideal) ℓ)

theorem cos_before (c : Dev nD) (q : Fin 8192) (l : Fin 128) :
    (before m c (Proc.devRef .tc main_v16) : FVec Ideal S8192x128 .f32) (ix2 q l) = Ideal.cos (angle q.val (l.val % 32)) := by
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise
  unfold angle
  rw [← word q.val (by omega), ← word (l.val % 32) (by omega)]

theorem cos_split (c : Dev nD) : (V m c main_v16 : FVec Ideal S8192x128 .f32) = before m c (Proc.devRef .tc main_v16) := by
  refine (split m c main_v16).trans ?_
  generalize before m c = X
  after_results

theorem cos_table (c : Dev nD) (t : Fin cfg0.N) (r : Fin 512) (l : Fin 128) :
    (iblk m c 4 t : Vec Ideal S512x128 .f32) (ix2 r l) = Ideal.cos (angle ((grid0.coords t 1).val * 512 + r.val) (l.val % 32)) := by
  have b : (grid0.coords t 1).val < 16 := (grid0.coords t 1).isLt
  have e : ((cfg0.win 4).blk t).view.emb (ix2 r l) = ix2 (⟨(grid0.coords t 1).val * 512 + r.val, by omega⟩ : Fin 8192) l := by
    blk_ext [idx t]
  show V m c main_v16 (((cfg0.win 4).blk t).view.emb (ix2 r l)) = _
  rw [e]
  exact (congrFun (cos_split m c) _).trans (cos_before m c _ l)

theorem sin_before (c : Dev nD) (q : Fin 8192) (l : Fin 128) :
    (before m c (Proc.devRef .tc main_v17) : FVec Ideal S8192x128 .f32) (ix2 q l) = Ideal.sin (angle q.val (l.val % 32)) := by
  unfold before
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq, List.take_succ_cons, List.take_zero]
  after_results
  pointwise
  unfold angle
  rw [← word q.val (by omega), ← word (l.val % 32) (by omega)]

theorem sin_split (c : Dev nD) : (V m c main_v17 : FVec Ideal S8192x128 .f32) = before m c (Proc.devRef .tc main_v17) := by
  refine (split m c main_v17).trans ?_
  generalize before m c = X
  after_results

theorem sin_table (c : Dev nD) (t : Fin cfg0.N) (r : Fin 512) (l : Fin 128) :
    (iblk m c 5 t : Vec Ideal S512x128 .f32) (ix2 r l) = Ideal.sin (angle ((grid0.coords t 1).val * 512 + r.val) (l.val % 32)) := by
  have b : (grid0.coords t 1).val < 16 := (grid0.coords t 1).isLt
  have e : ((cfg0.win 5).blk t).view.emb (ix2 r l) = ix2 (⟨(grid0.coords t 1).val * 512 + r.val, by omega⟩ : Fin 8192) l := by
    blk_ext [idx t]
  show V m c main_v17 (((cfg0.win 5).blk t).view.emb (ix2 r l)) = _
  rw [e]
  exact (congrFun (sin_split m c) _).trans (sin_before m c _ l)

end Cert.Proof.NsaProject

end
-- ==== Proof.NsaProjectTiles.lean ====
/-
  What the projection before the attention stores, entry by entry, from its blocks: each stored tile takes its entries from
  the matrix products.
-/
module

public import proofs.«01_k».proof.Proof.NsaProjectTables

@[expose] public section

set_option maxRecDepth 16384

noncomputable section

namespace Cert.Proof.NsaProject

open Idealize.ShloMosaic Idealize.ShloMosaic.TcCoe Idealize.SL.Sem Cert.NsaProjectIdeal Cert.NsaProjectIdeal.Gen
open Cert.Proof.SsdProject (column)
open Cert.Proof.Ffn (modulated)

section Products

variable (x0 : Vec Ideal S1x512x1024 .f32) (x1 x2 : Vec Ideal S1x1x1024 .f32) (r : Fin 512)

/-- One row of the block times one column. -/
abbrev along (v : Fin 1024 → EReal) : EReal :=
  column (fun i => x0 (ix3 0 r i)) (fun i => x1 (ix3 0 0 i)) (fun i => x2 (ix3 0 0 i)) v

theorem pay5_at (W : Vec Ideal S1024x1024 .bf16) (l : Fin 1024) :
    k0_pay5 x0 x2 x1 W (ix2 r l) = along x0 x1 x2 r fun i => W (ix2 i l) := by
  unfold along column modulated
  pointwise [k0_pay5, k0_pay2]

theorem pay6_at (W : Vec Ideal S1024x1024 .bf16) (l : Fin 1024) :
    k0_pay6 x0 x2 x1 W (ix2 r l) = along x0 x1 x2 r fun i => W (ix2 i l) := by
  unfold along column modulated
  pointwise [k0_pay6, k0_pay2]

theorem pay18_at (W : Vec Ideal S1024x768 .bf16) (l : Fin 768) :
    k0_pay18 (k0_pay2 x0 x2 x1) W (ix2 r l) = along x0 x1 x2 r fun i => W (ix2 i l) := by
  unfold along column modulated
  pointwise [k0_pay18, k0_pay2]

theorem pay19_at (W : Vec Ideal S1024x768 .bf16) (l : Fin 768) :
    k0_pay19 (k0_pay2 x0 x2 x1) W (ix2 r l) = along x0 x1 x2 r fun i => W (ix2 i l) := by
  unfold along column modulated
  pointwise [k0_pay19, k0_pay2]

theorem pay17_at (W : Vec Ideal S1024x512 .bf16) (l : Fin 512) :
    k0_pay17 (k0_pay2 x0 x2 x1) W (ix3 0 r l) = along x0 x1 x2 r fun i => W (ix2 i l) := by
  unfold along column modulated
  pointwise [k0_pay17, k0_pay2]

theorem pay1_at (W : Vec Ideal S1024x128 .bf16) (l : Fin 128) :
    k0_pay1 (k0_pay2 x0 x2 x1) (k0_pay38 W) (ix3 0 r l) = Ideal.logistic (along x0 x1 x2 r fun i => W (ix2 i l)) := by
  unfold along column modulated
  pointwise [k0_pay1, k0_pay38, k0_pay2]

end Products

section Tiles

variable (c s : Vec Ideal S512x128 .f32) (r : Fin 512)

theorem pay3_at (l : Fin 128) : k0_pay3 c (ix2 r l) = c (ix2 r l) := by pointwise [k0_pay3]

theorem pay4_at (l : Fin 128) : k0_pay4 c (ix2 r l) = c (ix2 r l) := by pointwise [k0_pay4]

theorem tile0_at (x0 : Vec Ideal S1x512x1024 .f32) (x1 x2 : Vec Ideal S1x1x1024 .f32) (W U : Vec Ideal S1024x1024 .bf16) (l : Fin 128) :
    k0_pay7 x0 x2 x1 c s W U (ix3 0 r l) = k0_pay5 x0 x2 x1 W (ix2 r ⟨0 + l.val, by omega⟩) * c (ix2 r l) + k0_pay6 x0 x2 x1 U (ix2 r ⟨0 + l.val, by omega⟩) * s (ix2 r l) := by
  simp only [Nat.zero_add]
  pointwise [k0_pay7, k0_pay3, k0_pay4]

theorem tile1_at (x0 : Vec Ideal S1x512x1024 .f32) (x1 x2 : Vec Ideal S1x1x1024 .f32) (W : Vec Ideal S1024x1024 .bf16)
    (B : FVec Ideal S512x1024 .f32) (l : Fin 128) :
    k0_pay9 (k0_pay4 s) B (k0_pay8 x0 x2 x1 c W) (ix3 0 r l) = k0_pay5 x0 x2 x1 W (ix2 r ⟨128 + l.val, by omega⟩) * c (ix2 r l) + B (ix2 r ⟨128 + l.val, by omega⟩) * s (ix2 r l) := by
  pointwise [k0_pay9, k0_pay8, k0_pay3, k0_pay4]

theorem tile2_at (A B : FVec Ideal S512x1024 .f32) (l : Fin 128) :
    k0_pay10 (k0_pay3 c) (k0_pay4 s) A B (ix3 0 r l) = A (ix2 r ⟨256 + l.val, by omega⟩) * c (ix2 r l) + B (ix2 r ⟨256 + l.val, by omega⟩) * s (ix2 r l) := by
  pointwise [k0_pay10, k0_pay3, k0_pay4]

theorem tile3_at (A B : FVec Ideal S512x1024 .f32) (l : Fin 128) :
    k0_pay11 (k0_pay3 c) (k0_pay4 s) A B (ix3 0 r l) = A (ix2 r ⟨384 + l.val, by omega⟩) * c (ix2 r l) + B (ix2 r ⟨384 + l.val, by omega⟩) * s (ix2 r l) := by
  pointwise [k0_pay11, k0_pay3, k0_pay4]

theorem tile4_at (A B : FVec Ideal S512x1024 .f32) (l : Fin 128) :
    k0_pay12 (k0_pay3 c) (k0_pay4 s) A B (ix3 0 r l) = A (ix2 r ⟨512 + l.val, by omega⟩) * c (ix2 r l) + B (ix2 r ⟨512 + l.val, by omega⟩) * s (ix2 r l) := by
  pointwise [k0_pay12, k0_pay3, k0_pay4]

theorem tile5_at (A B : FVec Ideal S512x1024 .f32) (l : Fin 128) :
    k0_pay14 (k0_pay13 (k0_pay3 c) (k0_pay4 s) A B) (ix3 0 r l) = A (ix2 r ⟨640 + l.val, by omega⟩) * c (ix2 r l) + B (ix2 r ⟨640 + l.val, by omega⟩) * s (ix2 r l) := by
  pointwise [k0_pay14, k0_pay13, k0_pay3, k0_pay4]

theorem tile6_at (A B : FVec Ideal S512x1024 .f32) (l : Fin 128) :
    k0_pay15 (k0_pay3 c) (k0_pay4 s) A B (ix3 0 r l) = A (ix2 r ⟨768 + l.val, by omega⟩) * c (ix2 r l) + B (ix2 r ⟨768 + l.val, by omega⟩) * s (ix2 r l) := by
  pointwise [k0_pay15, k0_pay3, k0_pay4]

theorem tile7_at (A B : FVec Ideal S512x1024 .f32) (l : Fin 128) :
    k0_pay16 (k0_pay3 c) (k0_pay4 s) A B (ix3 0 r l) = A (ix2 r ⟨896 + l.val, by omega⟩) * c (ix2 r l) + B (ix2 r ⟨896 + l.val, by omega⟩) * s (ix2 r l) := by
  pointwise [k0_pay16, k0_pay3, k0_pay4]

theorem sel1_at (A : FVec Ideal S512x768 .f32) (l : Fin 128) :
    k0_pay30 (k0_pay3 c) (k0_pay4 s) A (ix3 0 r l) = A (ix2 r ⟨128 + l.val, by omega⟩) * c (ix2 r l) + A (ix2 r ⟨256 + (128 + l.val), by omega⟩) * s (ix2 r l) := by
  pointwise [k0_pay30, k0_pay3, k0_pay4, k0_pay28]

theorem sel1_copy_at (A : FVec Ideal S512x768 .f32) (l : Fin 128) :
    k0_pay32 (k0_pay28 (k0_pay3 c) (k0_pay4 s) A) (ix3 0 r l) = A (ix2 r ⟨128 + l.val, by omega⟩) * c (ix2 r l) + A (ix2 r ⟨256 + (128 + l.val), by omega⟩) * s (ix2 r l) := by
  pointwise [k0_pay32, k0_pay28, k0_pay3, k0_pay4]

theorem win0_at (A : FVec Ideal S512x768 .f32) (l : Fin 128) :
    k0_pay25 (k0_pay3 c) (k0_pay4 s) A (ix3 0 r l) = A (ix2 r ⟨0 + l.val, by omega⟩) * c (ix2 r l) + A (ix2 r ⟨256 + l.val, by omega⟩) * s (ix2 r l) := by
  simp only [Nat.zero_add]
  pointwise [k0_pay25, k0_pay3, k0_pay4, k0_pay23]

theorem win1_at (A : FVec Ideal S512x768 .f32) (l : Fin 128) :
    k0_pay31 (k0_pay29 (k0_pay3 c) (k0_pay4 s) A) (ix3 0 r l) = A (ix2 r ⟨128 + l.val, by omega⟩) * c (ix2 r l) + A (ix2 r ⟨256 + (128 + l.val), by omega⟩) * s (ix2 r l) := by
  pointwise [k0_pay31, k0_pay29, k0_pay3, k0_pay4]

theorem win0_copy_at (A : FVec Ideal S512x768 .f32) (l : Fin 128) :
    k0_pay27 (k0_pay3 c) (k0_pay4 s) A (ix3 0 r l) = A (ix2 r ⟨0 + l.val, by omega⟩) * c (ix2 r l) + A (ix2 r ⟨256 + l.val, by omega⟩) * s (ix2 r l) := by
  simp only [Nat.zero_add]
  pointwise [k0_pay27, k0_pay3, k0_pay4, k0_pay23]

theorem win1_copy_at (A : FVec Ideal S512x768 .f32) (l : Fin 128) :
    k0_pay33 (k0_pay29 (k0_pay3 c) (k0_pay4 s) A) (ix3 0 r l) = A (ix2 r ⟨128 + l.val, by omega⟩) * c (ix2 r l) + A (ix2 r ⟨256 + (128 + l.val), by omega⟩) * s (ix2 r l) := by
  pointwise [k0_pay33, k0_pay29, k0_pay3, k0_pay4]

theorem sel0_at (H : FVec Ideal S512x1024 .bf16) (W : Vec Ideal S1024x768 .bf16) (l : Fin 128) :
    k0_pay24 (k0_pay20 H (k0_pay3 c) W) (k0_pay21 H (k0_pay4 s) W) (ix3 0 r l) = k0_pay18 H W (ix2 r ⟨0 + l.val, by omega⟩) * c (ix2 r l) + k0_pay18 H W (ix2 r ⟨256 + l.val, by omega⟩) * s (ix2 r l) := by
  simp only [Nat.zero_add]
  pointwise [k0_pay24, k0_pay22, k0_pay20, k0_pay21, k0_pay3, k0_pay4]

theorem sel0_copy_at (H : FVec Ideal S512x1024 .bf16) (W : Vec Ideal S1024x768 .bf16) (l : Fin 128) :
    k0_pay26 (k0_pay20 H (k0_pay3 c) W) (k0_pay21 H (k0_pay4 s) W) (ix3 0 r l) = k0_pay18 H W (ix2 r ⟨0 + l.val, by omega⟩) * c (ix2 r l) + k0_pay18 H W (ix2 r ⟨256 + l.val, by omega⟩) * s (ix2 r l) := by
  simp only [Nat.zero_add]
  pointwise [k0_pay26, k0_pay22, k0_pay20, k0_pay21, k0_pay3, k0_pay4]

theorem pay34_at (A : FVec Ideal S512x768 .f32) (l : Fin 256) :
    k0_pay34 A (ix3 0 r l) = A (ix2 r ⟨512 + l.val, by omega⟩) := by
  pointwise [k0_pay34]

theorem pay35_at (A : FVec Ideal S512x768 .f32) (l : Fin 256) :
    k0_pay35 A (ix3 0 r l) = A (ix2 r ⟨512 + l.val, by omega⟩) := by
  pointwise [k0_pay35]

theorem pay36_at (A : FVec Ideal S512x768 .f32) (l : Fin 256) :
    k0_pay36 A (ix3 0 r l) = A (ix2 r ⟨512 + l.val, by omega⟩) := by
  pointwise [k0_pay36]

theorem pay37_at (A : FVec Ideal S512x768 .f32) (l : Fin 256) :
    k0_pay37 A (ix3 0 r l) = A (ix2 r ⟨512 + l.val, by omega⟩) := by
  pointwise [k0_pay37]

end Tiles

end Cert.Proof.NsaProject

end
-- ==== Proof.NsaProjectArray.lean ====
/-
  The arrays that the projection before the attention leaves, entry by entry, and the tiles of one grid point in terms of them.
-/
module
public import proofs.«01_k».proof.Proof.NsaProjectTiles
@[expose] public section
set_option maxRecDepth 16384
noncomputable section
namespace Cert.Proof.NsaProject
open Idealize.ShloMosaic Idealize.ShloMosaic.TcCoe Idealize.SL.Sem Cert.NsaProjectIdeal Cert.NsaProjectIdeal.Gen
open Idealize.ShloMosaic.Pipeline (Dat)
open Cert.Proof.SsdProject (column)
open Cert.Proof.Ffn (modulated)

section Arrays

variable (x : FVec Ideal S2x8192x1024 .f32) (sh sc : FVec Ideal S2x1x1024 .f32) (w : FVec Ideal S1024x2608 .f32)

/-- Row `q` of batch `p` times column `n` of the prepared weights. -/
def product (p : Fin 2) (q : Fin 8192) (n : ℕ) : EReal :=
  column (fun i => x (ix3 p q i)) (fun i => sh (ix3 p 0 i)) (fun i => sc (ix3 p 0 i)) (fun i => laid w i n)

/-- Column `a` times the cosine plus column `b` times the sine, at frequency `k`. -/
def mixed (p : Fin 2) (q : Fin 8192) (a b k : ℕ) : EReal :=
  product x sh sc w p q a * Ideal.cos (angle q.val (k % 32)) + product x sh sc w p q b * Ideal.sin (angle q.val (k % 32))

def queryAt (p : Fin 2) (q : Fin 8192) (n : ℕ) : EReal := mixed x sh sc w p q n (1024 + n) n

def rowAt (p : Fin 2) (q : Fin 8192) (n : ℕ) : EReal :=
  if n < 512 then product x sh sc w p q (2048 + n)
  else if n < 768 then mixed x sh sc w p q (2048 + n) (2304 + n) n else product x sh sc w p q (2304 + n)

def windowAt (p : Fin 2) (q : Fin 8192) (n : ℕ) : EReal :=
  if n < 256 then mixed x sh sc w p q (3328 + n) (3584 + n) n else product x sh sc w p q (3584 + n)

def gateAt (p : Fin 2) (q : Fin 8192) (n : ℕ) : EReal := Ideal.logistic (product x sh sc w p q (4096 + n))

def copyAt (p : Fin 2) (q : Fin 8192) (n : ℕ) : EReal :=
  if n < 512 then rowAt x sh sc w p q (512 + n) else windowAt x sh sc w p q (n - 512)

def queryArray : FVec Ideal S2x8192x1024 .bf16 := fun j => queryAt x sh sc w (j 0) (j 1) (j 2).val
def rowArray : FVec Ideal S2x8192x1024 .f32 := fun j => rowAt x sh sc w (j 0) (j 1) (j 2).val
def windowArray : FVec Ideal S2x8192x512 .f32 := fun j => windowAt x sh sc w (j 0) (j 1) (j 2).val
def gateArray : FVec Ideal S2x8192x128 .f32 := fun j => gateAt x sh sc w (j 0) (j 1) (j 2).val
def copyArray : FVec Ideal S2x8192x1024 .bf16 := fun j => copyAt x sh sc w (j 0) (j 1) (j 2).val

end Arrays

variable (m : (ℓ : Loc nD τ sig) → Buf (Elt Ideal) ℓ)

abbrev arg0 (c : Dev nD) : FVec Ideal S2x8192x1024 .f32 := m ((c : Thread nD τ).loc main_arg0)
abbrev arg1 (c : Dev nD) : FVec Ideal S2x1x1024 .f32 := m ((c : Thread nD τ).loc main_arg1)
abbrev arg2 (c : Dev nD) : FVec Ideal S2x1x1024 .f32 := m ((c : Thread nD τ).loc main_arg2)

abbrev queryGoal (c : Dev nD) : FVec Ideal S2x8192x1024 .bf16 := queryArray (arg0 m c) (arg1 m c) (arg2 m c) (given m c)
abbrev rowGoal (c : Dev nD) : FVec Ideal S2x8192x1024 .f32 := rowArray (arg0 m c) (arg1 m c) (arg2 m c) (given m c)
abbrev windowGoal (c : Dev nD) : FVec Ideal S2x8192x512 .f32 := windowArray (arg0 m c) (arg1 m c) (arg2 m c) (given m c)
abbrev gateGoal (c : Dev nD) : FVec Ideal S2x8192x128 .f32 := gateArray (arg0 m c) (arg1 m c) (arg2 m c) (given m c)
abbrev copyGoal (c : Dev nD) : FVec Ideal S2x8192x1024 .bf16 := copyArray (arg0 m c) (arg1 m c) (arg2 m c) (given m c)

/-- The batch of a grid point. -/
def batch (t : Fin cfg0.N) : Fin 2 := ⟨(grid0.coords t 0).val, (grid0.coords t 0).isLt⟩

/-- The position of row `r` of the block of a grid point. -/
def place (t : Fin cfg0.N) (r : Fin 512) : Fin 8192 :=
  ⟨(grid0.coords t 1).val * 512 + r.val, by have b : (grid0.coords t 1).val < 16 := (grid0.coords t 1).isLt; omega⟩

section Point

variable (c : Dev nD) (t : Fin cfg0.N) (r : Fin 512)

theorem ld_at (o N : ℕ) (ho : o + N ≤ 4224) (h : ∀ a, (![0, o] : Fin 2 → Nat) a + (![1024, N] : Fin 2 → Nat) a ≤ S1024x4224.size a) (i : Fin 1024) (l : Fin N) :
    View.ld (iblk m c 3 t : Vec Ideal S1024x4224 .bf16) (Rect.unit ![0, o] ![1024, N] h) (ix2 i l) = laid (given m c) i (o + l.val) := by
  have e : (Rect.unit (s := S1024x4224) ![0, o] ![1024, N] h).idx (ix2 i l) = ix2 i (⟨o + l.val, by omega⟩ : Fin 4224) := funext fun a => Fin.ext <| by
    match a with
    | ⟨0, _⟩ => show 0 + 1 * i.val = i.val; omega
    | ⟨1, _⟩ => show o + 1 * l.val = o + l.val; omega
  show (iblk m c 3 t : Vec Ideal S1024x4224 .bf16) ((Rect.unit (s := S1024x4224) ![0, o] ![1024, N] h).idx (ix2 i l)) = _
  rw [e, weight]

theorem block0 (i : Fin 1024) : (iblk m c 0 t : Vec Ideal S1x512x1024 .f32) (ix3 0 r i) = arg0 m c (ix3 (batch t) (place t r) i) := by
  have e : ((cfg0.win 0).blk t).view.emb (ix3 0 r i) = ix3 (batch t) (place t r) i := by
    unfold batch place
    blk_ext [idx t]
  show V m c main_arg0 (((cfg0.win 0).blk t).view.emb (ix3 0 r i)) = _
  rw [e]
  exact congrFun (V_main_arg0 m c) _

theorem block1 (i : Fin 1024) : (iblk m c 1 t : Vec Ideal S1x1x1024 .f32) (ix3 0 0 i) = arg1 m c (ix3 (batch t) 0 i) := by
  have e : ((cfg0.win 1).blk t).view.emb (ix3 0 0 i) = ix3 (batch t) 0 i := by
    unfold batch
    blk_ext [idx t]
  show V m c main_arg1 (((cfg0.win 1).blk t).view.emb (ix3 0 0 i)) = _
  rw [e]
  exact congrFun (V_main_arg1 m c) _

theorem block2 (i : Fin 1024) : (iblk m c 2 t : Vec Ideal S1x1x1024 .f32) (ix3 0 0 i) = arg2 m c (ix3 (batch t) 0 i) := by
  have e : ((cfg0.win 2).blk t).view.emb (ix3 0 0 i) = ix3 (batch t) 0 i := by
    unfold batch
    blk_ext [idx t]
  show V m c main_arg2 (((cfg0.win 2).blk t).view.emb (ix3 0 0 i)) = _
  rw [e]
  exact congrFun (V_main_arg2 m c) _

theorem along_at (v : Fin 1024 → EReal) (n : ℕ) (hv : ∀ i, v i = laid (given m c) i n) :
    along (iblk m c 0 t) (iblk m c 1 t) (iblk m c 2 t) r v
      = product (arg0 m c) (arg1 m c) (arg2 m c) (given m c) (batch t) (place t r) n := by
  unfold along product
  rw [funext (block0 m c t r), funext (block1 m c t), funext (block2 m c t), funext hv]

theorem q5_at (l : Fin 1024) (n : ℕ) (hn : n = 0 + l.val) :
    k0_pay5 (iblk m c 0 t) (iblk m c 2 t) (iblk m c 1 t) (View.ld (iblk m c 3 t) (Rect.unit ![0, 0] ![1024, 1024] inb_S1024x4224_S1024x1024_0_0)) (ix2 r l) = product (arg0 m c) (arg1 m c) (arg2 m c) (given m c) (batch t) (place t r) n := by
  refine (pay5_at (iblk m c 0 t) (iblk m c 1 t) (iblk m c 2 t) r (View.ld (iblk m c 3 t) (Rect.unit ![0, 0] ![1024, 1024] inb_S1024x4224_S1024x1024_0_0)) l).trans ?_
  exact along_at m c t r _ n fun i => (ld_at m c t 0 1024 (by decide) _ i l).trans (by rw [hn])

theorem q6_at (l : Fin 1024) (n : ℕ) (hn : n = 1024 + l.val) :
    k0_pay6 (iblk m c 0 t) (iblk m c 2 t) (iblk m c 1 t) (View.ld (iblk m c 3 t) (Rect.unit ![0, 1024] ![1024, 1024] inb_S1024x4224_S1024x1024_0_1024)) (ix2 r l) = product (arg0 m c) (arg1 m c) (arg2 m c) (given m c) (batch t) (place t r) n := by
  refine (pay6_at (iblk m c 0 t) (iblk m c 1 t) (iblk m c 2 t) r (View.ld (iblk m c 3 t) (Rect.unit ![0, 1024] ![1024, 1024] inb_S1024x4224_S1024x1024_0_1024)) l).trans ?_
  exact along_at m c t r _ n fun i => (ld_at m c t 1024 1024 (by decide) _ i l).trans (by rw [hn])

theorem cmp_at (l : Fin 512) (n : ℕ) (hn : n = 2048 + l.val) :
    k0_pay17 (k0_pay2 (iblk m c 0 t) (iblk m c 2 t) (iblk m c 1 t)) (View.ld (iblk m c 3 t) (Rect.unit ![0, 2048] ![1024, 512] inb_S1024x4224_S1024x512_0_2048)) (ix3 0 r l) = product (arg0 m c) (arg1 m c) (arg2 m c) (given m c) (batch t) (place t r) n := by
  refine (pay17_at (iblk m c 0 t) (iblk m c 1 t) (iblk m c 2 t) r (View.ld (iblk m c 3 t) (Rect.unit ![0, 2048] ![1024, 512] inb_S1024x4224_S1024x512_0_2048)) l).trans ?_
  exact along_at m c t r _ n fun i => (ld_at m c t 2048 512 (by decide) _ i l).trans (by rw [hn])

theorem sel_at (l : Fin 768) (n : ℕ) (hn : n = 2560 + l.val) :
    k0_pay18 (k0_pay2 (iblk m c 0 t) (iblk m c 2 t) (iblk m c 1 t)) (View.ld (iblk m c 3 t) (Rect.unit ![0, 2560] ![1024, 768] inb_S1024x4224_S1024x768_0_2560)) (ix2 r l) = product (arg0 m c) (arg1 m c) (arg2 m c) (given m c) (batch t) (place t r) n := by
  refine (pay18_at (iblk m c 0 t) (iblk m c 1 t) (iblk m c 2 t) r (View.ld (iblk m c 3 t) (Rect.unit ![0, 2560] ![1024, 768] inb_S1024x4224_S1024x768_0_2560)) l).trans ?_
  exact along_at m c t r _ n fun i => (ld_at m c t 2560 768 (by decide) _ i l).trans (by rw [hn])

theorem win_at (l : Fin 768) (n : ℕ) (hn : n = 3328 + l.val) :
    k0_pay19 (k0_pay2 (iblk m c 0 t) (iblk m c 2 t) (iblk m c 1 t)) (View.ld (iblk m c 3 t) (Rect.unit ![0, 3328] ![1024, 768] inb_S1024x4224_S1024x768_0_3328)) (ix2 r l) = product (arg0 m c) (arg1 m c) (arg2 m c) (given m c) (batch t) (place t r) n := by
  refine (pay19_at (iblk m c 0 t) (iblk m c 1 t) (iblk m c 2 t) r (View.ld (iblk m c 3 t) (Rect.unit ![0, 3328] ![1024, 768] inb_S1024x4224_S1024x768_0_3328)) l).trans ?_
  exact along_at m c t r _ n fun i => (ld_at m c t 3328 768 (by decide) _ i l).trans (by rw [hn])

theorem gates_at (l : Fin 128) :
    k0_pay1 (k0_pay2 (iblk m c 0 t) (iblk m c 2 t) (iblk m c 1 t)) (k0_pay38 (View.ld (iblk m c 3 t) (Rect.unit ![0, 4096] ![1024, 128] inb_S1024x4224_S1024x128_0_4096))) (ix3 0 r l)
      = gateAt (arg0 m c) (arg1 m c) (arg2 m c) (given m c) (batch t) (place t r) l.val := by
  refine (pay1_at (iblk m c 0 t) (iblk m c 1 t) (iblk m c 2 t) r (View.ld (iblk m c 3 t) (Rect.unit ![0, 4096] ![1024, 128] inb_S1024x4224_S1024x128_0_4096)) l).trans ?_
  exact congrArg Ideal.logistic (along_at m c t r _ _ fun i => ld_at m c t 4096 128 (by decide) _ i l)

theorem mixed_at (l : Fin 128) (na nb k : ℕ) (a b : EReal) (ha : a = product (arg0 m c) (arg1 m c) (arg2 m c) (given m c) (batch t) (place t r) na)
    (hb : b = product (arg0 m c) (arg1 m c) (arg2 m c) (given m c) (batch t) (place t r) nb) (hk : k % 32 = l.val % 32) :
    a * (iblk m c 4 t : Vec Ideal S512x128 .f32) (ix2 r l) + b * (iblk m c 5 t : Vec Ideal S512x128 .f32) (ix2 r l)
      = mixed (arg0 m c) (arg1 m c) (arg2 m c) (given m c) (batch t) (place t r) na nb k := by
  rw [cos_table, sin_table, ha, hb]
  unfold mixed
  rw [hk]
  rfl

end Point

end Cert.Proof.NsaProject

end
-- ==== Proof.NsaProjectAlgebra.lean ====
/-
  The projection before the attention, over finite numbers: a product with the columns that meet in the rotation, times the
  sine, adds what the rotation adds; so the kernel's tiles hold the rotated columns.
-/
module

public import proofs.«01_k».proof.Proof.NsaProjectArray

@[expose] public section

set_option maxRecDepth 16384

noncomputable section

namespace Cert.Proof.NsaProject

open Idealize.ShloMosaic Cert.NsaProjectIdeal
open Cert.Proof.SsdProject (column)
open Cert.Proof.Ffn (modulated)

/-- A number that is neither infinity. -/
def IsReal (a : EReal) : Prop := ∃ r : ℝ, a = (r : EReal)

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

section Column

variable (x sh sc : Fin 1024 → EReal) (hm : ∀ i, IsReal (modulated x sh sc i))

include hm

theorem column_neg (v : Fin 1024 → EReal) (hv : ∀ i, IsReal (v i)) :
    column x sh sc (fun i => -v i) = -column x sh sc v := by
  choose h hh using hm
  choose u hu using hv
  unfold column
  simp only [hh, hu, ← EReal.coe_neg, ← EReal.coe_mul, sum_coe]
  simp only [mul_neg, Finset.sum_neg_distrib]

theorem column_scale (v : Fin 1024 → EReal) (hv : ∀ i, IsReal (v i)) (e : EReal) (he : IsReal e) :
    column x sh sc (fun i => v i * e) = column x sh sc v * e := by
  choose h hh using hm
  choose u hu using hv
  obtain ⟨f, rfl⟩ := he
  unfold column
  simp only [hh, hu, ← EReal.coe_mul, sum_coe]
  rw [Finset.sum_mul]
  simp only [mul_assoc]

theorem column_real (v : Fin 1024 → EReal) (hv : ∀ i, IsReal (v i)) : IsReal (column x sh sc v) := by
  choose h hh using hm
  choose u hu using hv
  unfold column
  simp only [hh, hu, ← EReal.coe_mul, sum_coe]
  exact ⟨_, rfl⟩

theorem column_partner (V : ℕ → Fin 1024 → EReal) (hV : ∀ k i, IsReal (V k i)) (n : ℕ) :
    column x sh sc (fun i => partner (fun k => V k i) n) = partner (fun k => column x sh sc (V k)) n := by
  unfold partner
  by_cases h : n % 64 < 32
  · simp only [if_pos h]
    exact column_neg x sh sc hm _ (hV _)
  · simp only [if_neg h]

end Column

theorem real_mul (a b : EReal) (ha : IsReal a) (hb : IsReal b) : IsReal (a * b) := by
  obtain ⟨r, rfl⟩ := ha
  obtain ⟨s, rfl⟩ := hb
  exact ⟨r * s, (EReal.coe_mul r s).symm⟩

theorem real_add (a b : EReal) (ha : IsReal a) (hb : IsReal b) : IsReal (a + b) := by
  obtain ⟨r, rfl⟩ := ha
  obtain ⟨s, rfl⟩ := hb
  exact ⟨r + s, (EReal.coe_add r s).symm⟩

theorem real_modulated (x sh sc : Fin 1024 → EReal) (hx : ∀ i, IsReal (x i)) (hs : ∀ i, IsReal (sh i)) (hc : ∀ i, IsReal (sc i))
    (i : Fin 1024) : IsReal (modulated x sh sc i) :=
  real_add _ _ (real_mul _ _ (hx i) (real_add _ _ ⟨1, EReal.coe_one.symm⟩ (hc i))) (hs i)

theorem mix_turn (Q : ℕ → EReal) (q n : ℕ) :
    Q n * Ideal.cos (angle q (n % 32)) + partner Q n * Ideal.sin (angle q (n % 32)) = rotated Q q n := by
  unfold rotated turned partner
  by_cases h : n % 64 < 32
  · have e₁ : n / 64 * 64 + n % 64 = n := by omega
    have e₂ : n / 64 * 64 + (n % 64 + 32) = n + 32 := by omega
    have e₃ : n % 32 = n % 64 := by omega
    simp only [if_pos h, e₁, e₂, e₃, EReal.neg_mul, sub_eq_add_neg]
  · have e₁ : n / 64 * 64 + n % 64 = n := by omega
    have e₂ : n / 64 * 64 + (n % 64 - 32) = n - 32 := by omega
    have e₃ : n % 32 = n % 64 - 32 := by omega
    simp only [if_neg h, e₁, e₂, e₃]

theorem real_cos (a : EReal) (h : IsReal a) : IsReal (Ideal.cos a) := by
  obtain ⟨r, rfl⟩ := h
  exact ⟨Real.cos r, rfl⟩

theorem real_sin (a : EReal) (h : IsReal a) : IsReal (Ideal.sin a) := by
  obtain ⟨r, rfl⟩ := h
  exact ⟨Real.sin r, rfl⟩

theorem real_eighth : IsReal eighth := by
  unfold eighth
  exact ⟨_, rfl⟩

theorem thirty_two : Ideal.ofBits FTy.f32 1107296256#32 = ((32 : ℝ) : EReal) := by
  simp [Ideal.ofBits, Ideal.ieee, -EReal.coe_mul]
  norm_num

theorem real_angle (q k : ℕ) : IsReal (angle q k) := by
  have hb : IsReal (Ideal.ofBits FTy.f32 1176256512#32) := ⟨_, rfl⟩
  obtain ⟨b, hb⟩ := hb
  unfold angle
  rw [hb, thirty_two, Ideal.div, if_neg (by norm_num)]
  rw [← EReal.coe_inv, ← EReal.coe_neg, ← EReal.coe_mul]
  exact real_mul _ _ ⟨_, rfl⟩ ⟨_, rfl⟩

theorem rotated_scale (Q : ℕ → EReal) (hQ : ∀ n, IsReal (Q n)) (q n : ℕ) :
    rotated (fun k => Q k * eighth) q n = rotated Q q n * eighth := by
  obtain ⟨e, he⟩ := real_eighth
  choose P hP using hQ
  unfold rotated turned
  simp only [hP, he]
  split
  · obtain ⟨c, hc⟩ := real_cos _ (real_angle q (n % 64))
    obtain ⟨s, hs⟩ := real_sin _ (real_angle q (n % 64))
    rw [hc, hs]
    simp only [← EReal.coe_mul, ← EReal.coe_sub]
    congr 1
    ring
  · obtain ⟨c, hc⟩ := real_cos _ (real_angle q (n % 64 - 32))
    obtain ⟨s, hs⟩ := real_sin _ (real_angle q (n % 64 - 32))
    rw [hc, hs]
    simp only [← EReal.coe_mul, ← EReal.coe_add]
    congr 1
    ring

section Formulas

variable (x : FVec Ideal S2x8192x1024 .f32) (sh sc : FVec Ideal S2x1x1024 .f32) (w : FVec Ideal S1024x2608 .f32)

/-- Row `q` of batch `p` times column `n` of the weights. -/
def entry (p : Fin 2) (q : Fin 8192) (n : ℕ) : EReal :=
  column (fun i => x (ix3 p q i)) (fun i => sh (ix3 p 0 i)) (fun i => sc (ix3 p 0 i)) (fun i => col w n i)

/-- A query: the rotated column, scaled. -/
def queryForm (p : Fin 2) (q : Fin 8192) (n : ℕ) : EReal := rotated (entry x sh sc w p q) q.val n * eighth

/-- A row of the cache: two plain parts, the rotated keys, a plain part. -/
def rowForm (p : Fin 2) (q : Fin 8192) (n : ℕ) : EReal :=
  if n < 512 then entry x sh sc w p q (1024 + n)
  else if n < 768 then rotated (fun k => entry x sh sc w p q (1536 + k)) q.val (n - 512) else entry x sh sc w p q (1024 + n)

/-- A row of the window: the rotated keys and the values. -/
def windowForm (p : Fin 2) (q : Fin 8192) (n : ℕ) : EReal :=
  if n < 256 then rotated (fun k => entry x sh sc w p q (2048 + k)) q.val n else entry x sh sc w p q (2048 + n)

/-- A gate. -/
def gateForm (p : Fin 2) (q : Fin 8192) (n : ℕ) : EReal := Ideal.logistic (entry x sh sc w p q (2560 + n))

/-- A row of the copy: the back half of the cache's row, then the window's row. -/
def copyForm (p : Fin 2) (q : Fin 8192) (n : ℕ) : EReal :=
  if n < 512 then rowForm x sh sc w p q (512 + n) else windowForm x sh sc w p q (n - 512)

variable (hx : ∀ j, IsReal (x j)) (hs : ∀ j, IsReal (sh j)) (hc : ∀ j, IsReal (sc j)) (hw : ∀ j, IsReal (w j))

include hw in
theorem real_col (n : ℕ) (i : Fin 1024) : IsReal (col w n i) := by
  unfold col
  split
  · exact hw _
  · exact ⟨0, EReal.coe_zero.symm⟩

theorem product_plain (p : Fin 2) (q : Fin 8192) (n k : ℕ) (h : ∀ i, laid w i n = col w k i) :
    product x sh sc w p q n = entry x sh sc w p q k := by
  unfold product entry
  simp only [h]

include hx hs hc hw

theorem real_entry (p : Fin 2) (q : Fin 8192) (n : ℕ) : IsReal (entry x sh sc w p q n) :=
  column_real _ _ _ (real_modulated _ _ _ (fun _ => hx _) (fun _ => hs _) (fun _ => hc _)) _ (real_col w hw n)

theorem product_partner (p : Fin 2) (q : Fin 8192) (n b k : ℕ) (h : ∀ i, laid w i n = partner (fun k => col w (b + k) i) k) :
    product x sh sc w p q n = partner (fun k => entry x sh sc w p q (b + k)) k := by
  unfold product
  simp only [h]
  exact column_partner _ _ _ (real_modulated _ _ _ (fun _ => hx _) (fun _ => hs _) (fun _ => hc _))
    (fun k => col w (b + k)) (fun _ => real_col w hw _) k

theorem product_small (p : Fin 2) (q : Fin 8192) (n : ℕ) (h : n < 1024) :
    product x sh sc w p q n = entry x sh sc w p q n * eighth := by
  have e : ∀ i, laid w i n = small w i n := fun i => by
    unfold laid
    rw [if_pos h]
  unfold product
  simp only [e]
  exact column_scale _ _ _ (real_modulated _ _ _ (fun _ => hx _) (fun _ => hs _) (fun _ => hc _))
    (col w n) (real_col w hw n) eighth real_eighth

theorem product_small_partner (p : Fin 2) (q : Fin 8192) (n : ℕ) (h : n < 1024) :
    product x sh sc w p q (1024 + n) = partner (fun k => entry x sh sc w p q k * eighth) n := by
  have hm := real_modulated (fun i => x (ix3 p q i)) (fun i => sh (ix3 p 0 i)) (fun i => sc (ix3 p 0 i)) (fun _ => hx _) (fun _ => hs _)
    (fun _ => hc _)
  have e : ∀ i, laid w i (1024 + n) = partner (small w i) n := fun i => by
    unfold laid
    rw [if_neg (by omega), if_pos (by omega), Nat.add_sub_cancel_left]
  unfold product
  simp only [e]
  refine (column_partner _ _ _ hm (fun k i => small w i k) (fun k i => real_mul _ _ (real_col w hw k i) real_eighth) n).trans ?_
  refine congrArg (fun f => partner f n) (funext fun k => ?_)
  exact column_scale _ _ _ hm (col w k) (real_col w hw k) eighth real_eighth

theorem query_form (p : Fin 2) (q : Fin 8192) (n : ℕ) (h : n < 1024) : queryAt x sh sc w p q n = queryForm x sh sc w p q n := by
  unfold queryAt mixed queryForm
  rw [product_small x sh sc w hx hs hc hw p q n h, product_small_partner x sh sc w hx hs hc hw p q n h]
  rw [← rotated_scale _ (real_entry x sh sc w hx hs hc hw p q), ← mix_turn]

theorem row_form (p : Fin 2) (q : Fin 8192) (n : ℕ) (h : n < 1024) : rowAt x sh sc w p q n = rowForm x sh sc w p q n := by
  unfold rowAt rowForm
  by_cases h₁ : n < 512
  · rw [if_pos h₁, if_pos h₁]
    exact product_plain x sh sc w p q _ _ fun i => by
      unfold laid
      rw [if_neg (by omega), if_neg (by omega), if_pos (by omega)]
      exact congrArg (fun k => col w k i) (by omega)
  · rw [if_neg h₁, if_neg h₁]
    by_cases h₂ : n < 768
    · rw [if_pos h₂, if_pos h₂, ← mix_turn]
      have e : n % 32 = (n - 512) % 32 := by omega
      unfold mixed
      rw [e]
      rw [product_plain x sh sc w p q (2048 + n) (1536 + (n - 512)) fun i => by
        unfold laid
        rw [if_neg (by omega), if_neg (by omega), if_pos (by omega)]
        exact congrArg (fun k => col w k i) (by omega)]
      rw [product_partner x sh sc w hx hs hc hw p q (2304 + n) 1536 (n - 512) fun i => by
        have e : 2304 + n - 2816 = n - 512 := by omega
        unfold laid
        rw [if_neg (by omega), if_neg (by omega), if_neg (by omega), if_pos (by omega), e]]
    · rw [if_neg h₂, if_neg h₂]
      exact product_plain x sh sc w p q _ _ fun i => by
        unfold laid
        rw [if_neg (by omega), if_neg (by omega), if_neg (by omega), if_neg (by omega), if_pos (by omega)]
        exact congrArg (fun k => col w k i) (by omega)

theorem window_form (p : Fin 2) (q : Fin 8192) (n : ℕ) (h : n < 512) : windowAt x sh sc w p q n = windowForm x sh sc w p q n := by
  unfold windowAt windowForm
  by_cases h₁ : n < 256
  · rw [if_pos h₁, if_pos h₁, ← mix_turn]
    unfold mixed
    rw [product_plain x sh sc w p q (3328 + n) (2048 + n) fun i => by
      unfold laid
      rw [if_neg (by omega), if_neg (by omega), if_neg (by omega), if_neg (by omega), if_pos (by omega)]
      exact congrArg (fun k => col w k i) (by omega)]
    rw [product_partner x sh sc w hx hs hc hw p q (3584 + n) 2048 n fun i => by
      have e : 3584 + n - 3584 = n := by omega
      unfold laid
      rw [if_neg (by omega), if_neg (by omega), if_neg (by omega), if_neg (by omega), if_neg (by omega), if_pos (by omega), e]]
  · rw [if_neg h₁, if_neg h₁]
    exact product_plain x sh sc w p q _ _ fun i => by
      unfold laid
      rw [if_neg (by omega), if_neg (by omega), if_neg (by omega), if_neg (by omega), if_neg (by omega), if_neg (by omega)]
      exact congrArg (fun k => col w k i) (by omega)

theorem gate_form (p : Fin 2) (q : Fin 8192) (n : ℕ) : gateAt x sh sc w p q n = gateForm x sh sc w p q n := by
  unfold gateAt gateForm
  rw [product_plain x sh sc w p q (4096 + n) (2560 + n) fun i => by
    unfold laid
    rw [if_neg (by omega), if_neg (by omega), if_neg (by omega), if_neg (by omega), if_neg (by omega), if_neg (by omega)]
    exact congrArg (fun k => col w k i) (by omega)]

theorem copy_form (p : Fin 2) (q : Fin 8192) (n : ℕ) (h : n < 1024) : copyAt x sh sc w p q n = copyForm x sh sc w p q n := by
  unfold copyAt copyForm
  by_cases h₁ : n < 512
  · rw [if_pos h₁, if_pos h₁, row_form x sh sc w hx hs hc hw p q _ (by omega)]
  · rw [if_neg h₁, if_neg h₁, window_form x sh sc w hx hs hc hw p q _ (by omega)]

end Formulas

end Cert.Proof.NsaProject

end
-- ==== Proof.NsaProjectFinite.lean ====
/-
  The precondition `finite`: its side conditions, each by computation, and what it says of every entry.
-/
module

public import proofs.«01_k».proof.Pre_finite
public import proofs.«01_k».proof.Proof.NsaProjectAlgebra
public import Idealize.ShloMosaic.Lib.ReduceAll

@[expose] public section

set_option maxRecDepth 16384

noncomputable section

namespace Cert.Proof

open Idealize.ShloMosaic

/-- The shape relations the predicate `finite` states hold. -/
theorem facts_finite : Cert.Pre_finite.Facts := by
  constructor <;> decide

namespace NsaProject

/-- A number whose absolute value lies below infinity is real. -/
theorem real_below (a : Ideal .f32) (h : FloatOps.cmpf CmpFPredicate.olt (FloatOps.hostAbsf a) (FloatOps.ofBits .f32 0x7F800000#32) = 1#1) :
    IsReal a := by
  have e : (FloatOps.ofBits .f32 0x7F800000#32 : Ideal .f32) = (⊤ : EReal) := by
    show Ideal.ofBits .f32 0x7F800000#32 = ⊤
    simp [Ideal.ofBits, Ideal.ieee]
  rw [e] at h
  induction a using EReal.rec with
  | bot =>
    exfalso
    revert h
    show ¬ (if max (⊥ : EReal) (-⊥) < ⊤ then 1#1 else 0#1) = 1#1
    simp
  | top =>
    exfalso
    revert h
    show ¬ (if max (⊤ : EReal) (-⊤) < ⊤ then 1#1 else 0#1) = 1#1
    simp
  | coe r => exact ⟨r, rfl⟩

variable [Cert.Pre_finite.Facts]
open Cert.Pre_finite Cert.Pre_finite.Facts

theorem finite_four (a b c d : IVec S_ 1) (h : Cert.Pre_finite.fn_part1 (F := Ideal) a b c d = (fun _ => 1#1)) :
    a ix0 = 1#1 ∧ b ix0 = 1#1 ∧ c ix0 = 1#1 ∧ d ix0 = 1#1 := by
  have e := congrFun h ix0
  unfold Cert.Pre_finite.fn_part1 at e
  dsimp only at e
  have all := fun k => Host.reduce_andi_all _ _ _ _ _ e k
  clear e h
  refine ⟨(congrArg a (Subsingleton.elim _ _)).trans (all (ix1 0)), (congrArg b (Subsingleton.elim _ _)).trans (all (ix1 1)),
    (congrArg c (Subsingleton.elim _ _)).trans (all (ix1 2)), (congrArg d (Subsingleton.elim _ _)).trans (all (ix1 3))⟩

theorem finite_parts (x : FVec Ideal S2x8192x1024 .f32) (sh sc : FVec Ideal S2x1x1024 .f32) (w : FVec Ideal S1024x2608 .f32)
    (h : Cert.Pre_finite.fn (F := Ideal) x sh sc w = (fun _ => 1#1)) :
    (∀ j, IsReal (x j)) ∧ (∀ j, IsReal (sh j)) ∧ (∀ j, IsReal (sc j)) ∧ (∀ j, IsReal (w j)) := by
  unfold Cert.Pre_finite.fn at h
  dsimp only at h
  obtain ⟨a0, a1, a2, a3⟩ := finite_four _ _ _ _ h
  clear h
  refine ⟨fun j => real_below _ ?_, fun j => real_below _ ?_, fun j => real_below _ ?_, fun j => real_below _ ?_⟩
  · have e := Host.reduce_andi_all _ _ _ _ _ a0 j
    exact e
  · have e := Host.reduce_andi_all _ _ _ _ _ a1 j
    exact e
  · have e := Host.reduce_andi_all _ _ _ _ _ a2 j
    exact e
  · have e := Host.reduce_andi_all _ _ _ _ _ a3 j
    exact e

end NsaProject

end Cert.Proof

end
-- ==== Proof.NsaProjectFinal.lean ====
/-
  Which of the pieces that a grid point writes holds a given column.
-/
module

public import proofs.«01_k».proof.Proof.NsaProjectArray

@[expose] public section
set_option maxRecDepth 16384
noncomputable section
namespace Cert.Proof.NsaProject
open Idealize.ShloMosaic Idealize.ShloMosaic.TcCoe Idealize.SL.Sem Cert.NsaProjectIdeal Cert.NsaProjectIdeal.Gen
open Idealize.ShloMosaic.Pipeline (Dat)
open Cert.Proof.SsdProject (column)
open Cert.Proof.Ffn (modulated)

variable (m : (ℓ : Loc nD τ sig) → Buf (Elt Ideal) ℓ)

theorem parts128 (z : S1x512x128.Idx) : ∃ (r : Fin 512) (l : Fin 128), z = ix3 0 r l ∧ (z 1).val = r.val ∧ (z 2).val = l.val :=
  ⟨⟨(z 1).val, (z 1).isLt⟩, ⟨(z 2).val, (z 2).isLt⟩, by blk_ext, rfl, rfl⟩

theorem parts256 (z : S1x512x256.Idx) : ∃ (r : Fin 512) (l : Fin 256), z = ix3 0 r l ∧ (z 1).val = r.val ∧ (z 2).val = l.val :=
  ⟨⟨(z 1).val, (z 1).isLt⟩, ⟨(z 2).val, (z 2).isLt⟩, by blk_ext, rfl, rfl⟩

theorem parts512 (z : S1x512x512.Idx) : ∃ (r : Fin 512) (l : Fin 512), z = ix3 0 r l ∧ (z 1).val = r.val ∧ (z 2).val = l.val :=
  ⟨⟨(z 1).val, (z 1).isLt⟩, ⟨(z 2).val, (z 2).isLt⟩, by blk_ext, rfl, rfl⟩

theorem query_end (c : Dev nD) (t : Fin cfg0.N) (y : S1x512x1024.Idx) (r : Fin 512) (n : ℕ) (h1 : (y 1).val = r.val) (h2 : (y 2).val = n) :
    queryAt (arg0 m c) (arg1 m c) (arg2 m c) (given m c) (batch t) (place t r) n = queryGoal m c (((cfg0.win 6).blk t).view.emb y) := by
  have hn : n < 1024 := h2 ▸ (y 2).isLt
  have h0 : (y 0).val = 0 := Nat.lt_one_iff.mp (y 0).isLt
  have e : ((cfg0.win 6).blk t).view.emb y = ix3 (batch t) (place t r) ⟨n, hn⟩ := by
    unfold batch place
    blk_ext [idx t]
  rw [e]
  rfl

theorem row_end (c : Dev nD) (t : Fin cfg0.N) (y : S1x512x1024.Idx) (r : Fin 512) (n : ℕ) (h1 : (y 1).val = r.val) (h2 : (y 2).val = n) :
    rowAt (arg0 m c) (arg1 m c) (arg2 m c) (given m c) (batch t) (place t r) n = rowGoal m c (((cfg0.win 7).blk t).view.emb y) := by
  have hn : n < 1024 := h2 ▸ (y 2).isLt
  have h0 : (y 0).val = 0 := Nat.lt_one_iff.mp (y 0).isLt
  have e : ((cfg0.win 7).blk t).view.emb y = ix3 (batch t) (place t r) ⟨n, hn⟩ := by
    unfold batch place
    blk_ext [idx t]
  rw [e]
  rfl

theorem window_end (c : Dev nD) (t : Fin cfg0.N) (y : S1x512x512.Idx) (r : Fin 512) (n : ℕ) (h1 : (y 1).val = r.val) (h2 : (y 2).val = n) :
    windowAt (arg0 m c) (arg1 m c) (arg2 m c) (given m c) (batch t) (place t r) n = windowGoal m c (((cfg0.win 8).blk t).view.emb y) := by
  have hn : n < 512 := h2 ▸ (y 2).isLt
  have h0 : (y 0).val = 0 := Nat.lt_one_iff.mp (y 0).isLt
  have e : ((cfg0.win 8).blk t).view.emb y = ix3 (batch t) (place t r) ⟨n, hn⟩ := by
    unfold batch place
    blk_ext [idx t]
  rw [e]
  rfl

theorem gate_end (c : Dev nD) (t : Fin cfg0.N) (y : S1x512x128.Idx) (r : Fin 512) (n : ℕ) (h1 : (y 1).val = r.val) (h2 : (y 2).val = n) :
    gateAt (arg0 m c) (arg1 m c) (arg2 m c) (given m c) (batch t) (place t r) n = gateGoal m c (((cfg0.win 9).blk t).view.emb y) := by
  have hn : n < 128 := h2 ▸ (y 2).isLt
  have h0 : (y 0).val = 0 := Nat.lt_one_iff.mp (y 0).isLt
  have e : ((cfg0.win 9).blk t).view.emb y = ix3 (batch t) (place t r) ⟨n, hn⟩ := by
    unfold batch place
    blk_ext [idx t]
  rw [e]
  rfl

theorem copy_end (c : Dev nD) (t : Fin cfg0.N) (y : S1x512x1024.Idx) (r : Fin 512) (n : ℕ) (h1 : (y 1).val = r.val) (h2 : (y 2).val = n) :
    copyAt (arg0 m c) (arg1 m c) (arg2 m c) (given m c) (batch t) (place t r) n = copyGoal m c (((cfg0.win 10).blk t).view.emb y) := by
  have hn : n < 1024 := h2 ▸ (y 2).isLt
  have h0 : (y 0).val = 0 := Nat.lt_one_iff.mp (y 0).isLt
  have e : ((cfg0.win 10).blk t).view.emb y = ix3 (batch t) (place t r) ⟨n, hn⟩ := by
    unfold batch place
    blk_ext [idx t]
  rw [e]
  rfl

end Cert.Proof.NsaProject

end
-- ==== Proof.NsaProjectFinalQuery.lean ====
/-
  The queries that the grid leaves are the array of rotated, scaled columns.
-/
module

public import proofs.«01_k».proof.Proof.NsaProjectFinal

@[expose] public section
set_option maxRecDepth 16384
noncomputable section
namespace Cert.Proof.NsaProject
open Idealize.ShloMosaic Idealize.ShloMosaic.TcCoe Idealize.SL.Sem Cert.NsaProjectIdeal Cert.NsaProjectIdeal.Gen
open Idealize.ShloMosaic.Pipeline (Dat)
open Cert.Proof.SsdProject (column)
open Cert.Proof.Ffn (modulated)

variable (m : (ℓ : Loc nD τ sig) → Buf (Elt Ideal) ℓ)

theorem query_final (c : Dev nD) : (dats m 0 c).arrAt 6 cfg0.N = queryGoal m c := by
  refine (dats m 0 c).arrAt_eq_of_covers 6 _ (by decide +kernel) fun t _ y => ?_
  blk_simp
  rw [after0_6]
  unfold outsAt0
  dsimp only
  frame_out
  canon_tiles z h
  case piece0 =>
    obtain ⟨r, l, hz, e1, e2⟩ := parts128 z
    rw [e1] at h1
    rw [e2] at h2
    rw [hz]
    refine (tile7_at (iblk m c 4 t) (iblk m c 5 t) r _ _ l).trans ?_
    refine (mixed_at m c t r l (896 + l.val) (1024 + (896 + l.val)) (896 + l.val) _ _ (q5_at m c t r _ _ (by first | rfl | (dsimp only; omega))) (q6_at m c t r _ _ (by first | rfl | (dsimp only; omega))) (by omega)).trans ?_
    exact query_end m c t y r _ h1 h2
  case piece1 =>
    obtain ⟨r, l, hz, e1, e2⟩ := parts128 z
    rw [e1] at h1
    rw [e2] at h2
    rw [hz]
    refine (tile6_at (iblk m c 4 t) (iblk m c 5 t) r _ _ l).trans ?_
    refine (mixed_at m c t r l (768 + l.val) (1024 + (768 + l.val)) (768 + l.val) _ _ (q5_at m c t r _ _ (by first | rfl | (dsimp only; omega))) (q6_at m c t r _ _ (by first | rfl | (dsimp only; omega))) (by omega)).trans ?_
    exact query_end m c t y r _ h1 h2
  case piece2 =>
    obtain ⟨r, l, hz, e1, e2⟩ := parts128 z
    rw [e1] at h1
    rw [e2] at h2
    rw [hz]
    refine (tile5_at (iblk m c 4 t) (iblk m c 5 t) r _ _ l).trans ?_
    refine (mixed_at m c t r l (640 + l.val) (1024 + (640 + l.val)) (640 + l.val) _ _ (q5_at m c t r _ _ (by first | rfl | (dsimp only; omega))) (q6_at m c t r _ _ (by first | rfl | (dsimp only; omega))) (by omega)).trans ?_
    exact query_end m c t y r _ h1 h2
  case piece3 =>
    obtain ⟨r, l, hz, e1, e2⟩ := parts128 z
    rw [e1] at h1
    rw [e2] at h2
    rw [hz]
    refine (tile4_at (iblk m c 4 t) (iblk m c 5 t) r _ _ l).trans ?_
    refine (mixed_at m c t r l (512 + l.val) (1024 + (512 + l.val)) (512 + l.val) _ _ (q5_at m c t r _ _ (by first | rfl | (dsimp only; omega))) (q6_at m c t r _ _ (by first | rfl | (dsimp only; omega))) (by omega)).trans ?_
    exact query_end m c t y r _ h1 h2
  case piece4 =>
    obtain ⟨r, l, hz, e1, e2⟩ := parts128 z
    rw [e1] at h1
    rw [e2] at h2
    rw [hz]
    refine (tile3_at (iblk m c 4 t) (iblk m c 5 t) r _ _ l).trans ?_
    refine (mixed_at m c t r l (384 + l.val) (1024 + (384 + l.val)) (384 + l.val) _ _ (q5_at m c t r _ _ (by first | rfl | (dsimp only; omega))) (q6_at m c t r _ _ (by first | rfl | (dsimp only; omega))) (by omega)).trans ?_
    exact query_end m c t y r _ h1 h2
  case piece5 =>
    obtain ⟨r, l, hz, e1, e2⟩ := parts128 z
    rw [e1] at h1
    rw [e2] at h2
    rw [hz]
    refine (tile2_at (iblk m c 4 t) (iblk m c 5 t) r _ _ l).trans ?_
    refine (mixed_at m c t r l (256 + l.val) (1024 + (256 + l.val)) (256 + l.val) _ _ (q5_at m c t r _ _ (by first | rfl | (dsimp only; omega))) (q6_at m c t r _ _ (by first | rfl | (dsimp only; omega))) (by omega)).trans ?_
    exact query_end m c t y r _ h1 h2
  case piece6 =>
    obtain ⟨r, l, hz, e1, e2⟩ := parts128 z
    rw [e1] at h1
    rw [e2] at h2
    rw [hz]
    refine (tile1_at (iblk m c 4 t) (iblk m c 5 t) r (iblk m c 0 t) (iblk m c 1 t) (iblk m c 2 t) _ _ l).trans ?_
    refine (mixed_at m c t r l (128 + l.val) (1024 + (128 + l.val)) (128 + l.val) _ _ (q5_at m c t r _ _ (by first | rfl | (dsimp only; omega))) (q6_at m c t r _ _ (by first | rfl | (dsimp only; omega))) (by omega)).trans ?_
    exact query_end m c t y r _ h1 h2
  case piece7 =>
    obtain ⟨r, l, hz, e1, e2⟩ := parts128 z
    rw [e1] at h1
    rw [e2] at h2
    rw [hz]
    refine (tile0_at (iblk m c 4 t) (iblk m c 5 t) r (iblk m c 0 t) (iblk m c 1 t) (iblk m c 2 t) _ _ l).trans ?_
    refine (mixed_at m c t r l l.val (1024 + l.val) l.val _ _ (q5_at m c t r _ _ (by first | rfl | (dsimp only; omega))) (q6_at m c t r _ _ (by first | rfl | (dsimp only; omega))) (by omega)).trans ?_
    exact query_end m c t y r _ h1 h2

end Cert.Proof.NsaProject

end
-- ==== Proof.NsaProjectFinalRow.lean ====
/-
  The rows of the cache that the grid leaves, and what one grid point writes of the rows, the window and the copy.
-/
module

public import proofs.«01_k».proof.Proof.NsaProjectFinal

@[expose] public section
set_option maxRecDepth 16384
noncomputable section
namespace Cert.Proof.NsaProject
open Idealize.ShloMosaic Idealize.ShloMosaic.TcCoe Idealize.SL.Sem Cert.NsaProjectIdeal Cert.NsaProjectIdeal.Gen
open Idealize.ShloMosaic.Pipeline (Dat)
open Cert.Proof.SsdProject (column)
open Cert.Proof.Ffn (modulated)

variable (m : (ℓ : Loc nD τ sig) → Buf (Elt Ideal) ℓ)

section Pieces

variable (x : FVec Ideal S2x8192x1024 .f32) (sh sc : FVec Ideal S2x1x1024 .f32) (w : FVec Ideal S1024x2608 .f32)
  (p : Fin 2) (q : Fin 8192) (n : ℕ)

theorem row_low (h : n < 512) : product x sh sc w p q (2048 + n) = rowAt x sh sc w p q n := by
  unfold rowAt
  rw [if_pos h]

theorem row_mid (h₁ : ¬n < 512) (h₂ : n < 768) : mixed x sh sc w p q (2048 + n) (2304 + n) n = rowAt x sh sc w p q n := by
  unfold rowAt
  rw [if_neg h₁, if_pos h₂]

theorem row_high (h : ¬n < 768) : product x sh sc w p q (2304 + n) = rowAt x sh sc w p q n := by
  unfold rowAt
  rw [if_neg (by omega), if_neg h]

theorem window_low (h : n < 256) : mixed x sh sc w p q (3328 + n) (3584 + n) n = windowAt x sh sc w p q n := by
  unfold windowAt
  rw [if_pos h]

theorem window_high (h : ¬n < 256) : product x sh sc w p q (3584 + n) = windowAt x sh sc w p q n := by
  unfold windowAt
  rw [if_neg h]

theorem copy_low (h : n < 512) : rowAt x sh sc w p q (512 + n) = copyAt x sh sc w p q n := by
  unfold copyAt
  rw [if_pos h]

theorem copy_high : windowAt x sh sc w p q n = copyAt x sh sc w p q (512 + n) := by
  unfold copyAt
  rw [if_neg (by omega), Nat.add_sub_cancel_left]

end Pieces

theorem row_final (c : Dev nD) : (dats m 0 c).arrAt 7 cfg0.N = rowGoal m c := by
  refine (dats m 0 c).arrAt_eq_of_covers 7 _ (by decide +kernel) fun t _ y => ?_
  blk_simp
  rw [after0_7]
  unfold outsAt0
  dsimp only
  frame_out
  canon_tiles z h using (View.cover_of_tiledBy _ ![1, 512, 128] (by sl_kernel_rfl) y)
  case piece0 =>
    obtain ⟨r, l, hz, e1, e2⟩ := parts256 z
    rw [e1] at h1
    rw [e2] at h2
    rw [hz]
    refine (pay34_at r _ l).trans ?_
    refine (sel_at m c t r _ (2304 + (768 + l.val)) (by first | rfl | (dsimp only; omega))).trans ?_
    exact (row_high _ _ _ _ _ _ _ (by omega)).trans (row_end m c t y r _ h1 h2)
  case piece1 =>
    obtain ⟨r, l, hz, e1, e2⟩ := parts128 z
    rw [e1] at h1
    rw [e2] at h2
    rw [hz]
    refine (sel1_at (iblk m c 4 t) (iblk m c 5 t) r _ l).trans ?_
    refine (mixed_at m c t r l (2048 + (640 + l.val)) (2304 + (640 + l.val)) (640 + l.val) _ _ (sel_at m c t r _ _ (by first | rfl | (dsimp only; omega))) (sel_at m c t r _ _ (by first | rfl | (dsimp only; omega))) (by omega)).trans ?_
    exact (row_mid _ _ _ _ _ _ _ (by omega) (by omega)).trans (row_end m c t y r _ h1 h2)
  case piece2 =>
    obtain ⟨r, l, hz, e1, e2⟩ := parts128 z
    rw [e1] at h1
    rw [e2] at h2
    rw [hz]
    refine (sel0_at (iblk m c 4 t) (iblk m c 5 t) r _ _ l).trans ?_
    refine (mixed_at m c t r l (2048 + (512 + l.val)) (2304 + (512 + l.val)) (512 + l.val) _ _ (sel_at m c t r _ _ (by first | rfl | (dsimp only; omega))) (sel_at m c t r _ _ (by first | rfl | (dsimp only; omega))) (by omega)).trans ?_
    exact (row_mid _ _ _ _ _ _ _ (by omega) (by omega)).trans (row_end m c t y r _ h1 h2)
  case piece3 =>
    obtain ⟨r, l, hz, e1, e2⟩ := parts512 z
    rw [e1] at h1
    rw [e2] at h2
    rw [hz]
    refine (cmp_at m c t r l (2048 + l.val) rfl).trans ?_
    exact (row_low _ _ _ _ _ _ _ (by omega)).trans (row_end m c t y r _ h1 h2)

end Cert.Proof.NsaProject

end
-- ==== Proof.NsaProjectFinalWindow.lean ====
/-
  The window and the gates that the grid leaves.
-/
module

public import proofs.«01_k».proof.Proof.NsaProjectFinalRow

@[expose] public section
set_option maxRecDepth 16384
noncomputable section
namespace Cert.Proof.NsaProject
open Idealize.ShloMosaic Idealize.ShloMosaic.TcCoe Idealize.SL.Sem Cert.NsaProjectIdeal Cert.NsaProjectIdeal.Gen
open Idealize.ShloMosaic.Pipeline (Dat)
open Cert.Proof.SsdProject (column)
open Cert.Proof.Ffn (modulated)

variable (m : (ℓ : Loc nD τ sig) → Buf (Elt Ideal) ℓ)

theorem window_final (c : Dev nD) : (dats m 0 c).arrAt 8 cfg0.N = windowGoal m c := by
  refine (dats m 0 c).arrAt_eq_of_covers 8 _ (by decide +kernel) fun t _ y => ?_
  blk_simp
  rw [after0_8]
  unfold outsAt0
  dsimp only
  frame_out
  canon_tiles z h using (View.cover_of_tiledBy _ ![1, 512, 128] (by sl_kernel_rfl) y)
  case piece0 =>
    obtain ⟨r, l, hz, e1, e2⟩ := parts256 z
    rw [e1] at h1
    rw [e2] at h2
    rw [hz]
    refine (pay35_at r _ l).trans ?_
    refine (win_at m c t r _ (3584 + (256 + l.val)) (by first | rfl | (dsimp only; omega))).trans ?_
    exact (window_high _ _ _ _ _ _ _ (by omega)).trans (window_end m c t y r _ h1 h2)
  case piece1 =>
    obtain ⟨r, l, hz, e1, e2⟩ := parts128 z
    rw [e1] at h1
    rw [e2] at h2
    rw [hz]
    refine (win1_at (iblk m c 4 t) (iblk m c 5 t) r _ l).trans ?_
    refine (mixed_at m c t r l (3328 + (128 + l.val)) (3584 + (128 + l.val)) (128 + l.val) _ _ (win_at m c t r _ _ (by first | rfl | (dsimp only; omega))) (win_at m c t r _ _ (by first | rfl | (dsimp only; omega))) (by omega)).trans ?_
    exact (window_low _ _ _ _ _ _ _ (by omega)).trans (window_end m c t y r _ h1 h2)
  case piece2 =>
    obtain ⟨r, l, hz, e1, e2⟩ := parts128 z
    rw [e1] at h1
    rw [e2] at h2
    rw [hz]
    refine (win0_at (iblk m c 4 t) (iblk m c 5 t) r _ l).trans ?_
    refine (mixed_at m c t r l (3328 + l.val) (3584 + l.val) l.val _ _ (win_at m c t r _ _ (by first | rfl | (dsimp only; omega))) (win_at m c t r _ _ (by first | rfl | (dsimp only; omega))) (by omega)).trans ?_
    exact (window_low _ _ _ _ _ _ _ (by omega)).trans (window_end m c t y r _ h1 h2)

theorem gate_final (c : Dev nD) : (dats m 0 c).arrAt 9 cfg0.N = gateGoal m c := by
  refine (dats m 0 c).arrAt_eq_of_covers 9 _ (by decide +kernel) fun t _ y => ?_
  blk_simp
  rw [after0_9]
  frame_out
  have hy : y = ix3 (⟨0, by decide⟩ : Fin 1) (⟨(y 1).val, (y 1).isLt⟩ : Fin 512) (⟨(y 2).val, (y 2).isLt⟩ : Fin 128) := by
    blk_ext
  rw [hy]
  refine (gates_at m c t ⟨(y 1).val, (y 1).isLt⟩ ⟨(y 2).val, (y 2).isLt⟩).trans ?_
  exact gate_end m c t _ _ _ rfl rfl

end Cert.Proof.NsaProject

end
-- ==== Proof.NsaProjectFinalCopy.lean ====
/-
  The rounded copy of keys and values that the grid leaves.
-/
module

public import proofs.«01_k».proof.Proof.NsaProjectFinalRow

@[expose] public section
set_option maxRecDepth 16384
noncomputable section
namespace Cert.Proof.NsaProject
open Idealize.ShloMosaic Idealize.ShloMosaic.TcCoe Idealize.SL.Sem Cert.NsaProjectIdeal Cert.NsaProjectIdeal.Gen
open Idealize.ShloMosaic.Pipeline (Dat)
open Cert.Proof.SsdProject (column)
open Cert.Proof.Ffn (modulated)

variable (m : (ℓ : Loc nD τ sig) → Buf (Elt Ideal) ℓ)

theorem copy_final (c : Dev nD) : (dats m 0 c).arrAt 10 cfg0.N = copyGoal m c := by
  refine (dats m 0 c).arrAt_eq_of_covers 10 _ (by decide +kernel) fun t _ y => ?_
  blk_simp
  rw [after0_10]
  unfold outsAt0
  dsimp only
  frame_out
  canon_tiles z h using (View.cover_of_tiledBy _ ![1, 512, 128] (by sl_kernel_rfl) y)
  case piece0 =>
    obtain ⟨r, l, hz, e1, e2⟩ := parts256 z
    rw [e1] at h1
    rw [e2] at h2
    rw [hz]
    refine (pay37_at r _ l).trans ?_
    refine (win_at m c t r _ (3584 + (256 + l.val)) (by first | rfl | (dsimp only; omega))).trans ?_
    refine (window_high _ _ _ _ _ _ _ (by omega)).trans ((copy_high _ _ _ _ _ _ _).trans (copy_end m c t y r _ h1 (by omega)))
  case piece1 =>
    obtain ⟨r, l, hz, e1, e2⟩ := parts256 z
    rw [e1] at h1
    rw [e2] at h2
    rw [hz]
    refine (pay36_at r _ l).trans ?_
    refine (sel_at m c t r _ (2304 + (512 + (256 + l.val))) (by first | rfl | (dsimp only; omega))).trans ?_
    refine (row_high _ _ _ _ _ _ _ (by omega)).trans ((copy_low _ _ _ _ _ _ _ (by omega)).trans (copy_end m c t y r _ h1 h2))
  case piece2 =>
    obtain ⟨r, l, hz, e1, e2⟩ := parts128 z
    rw [e1] at h1
    rw [e2] at h2
    rw [hz]
    refine (win1_copy_at (iblk m c 4 t) (iblk m c 5 t) r _ l).trans ?_
    refine (mixed_at m c t r l (3328 + (128 + l.val)) (3584 + (128 + l.val)) (128 + l.val) _ _ (win_at m c t r _ _ (by first | rfl | (dsimp only; omega))) (win_at m c t r _ _ (by first | rfl | (dsimp only; omega))) (by omega)).trans ?_
    exact (window_low _ _ _ _ _ _ _ (by omega)).trans ((copy_high _ _ _ _ _ _ _).trans (copy_end m c t y r _ h1 (by omega)))
  case piece3 =>
    obtain ⟨r, l, hz, e1, e2⟩ := parts128 z
    rw [e1] at h1
    rw [e2] at h2
    rw [hz]
    refine (sel1_copy_at (iblk m c 4 t) (iblk m c 5 t) r _ l).trans ?_
    refine (mixed_at m c t r l (2048 + (512 + (128 + l.val))) (2304 + (512 + (128 + l.val))) (512 + (128 + l.val)) _ _ (sel_at m c t r _ _ (by first | rfl | (dsimp only; omega))) (sel_at m c t r _ _ (by first | rfl | (dsimp only; omega))) (by omega)).trans ?_
    exact (row_mid _ _ _ _ _ _ _ (by omega) (by omega)).trans ((copy_low _ _ _ _ _ _ _ (by omega)).trans (copy_end m c t y r _ h1 (by omega)))
  case piece4 =>
    obtain ⟨r, l, hz, e1, e2⟩ := parts128 z
    rw [e1] at h1
    rw [e2] at h2
    rw [hz]
    refine (win0_copy_at (iblk m c 4 t) (iblk m c 5 t) r _ l).trans ?_
    refine (mixed_at m c t r l (3328 + l.val) (3584 + l.val) l.val _ _ (win_at m c t r _ _ (by first | rfl | (dsimp only; omega))) (win_at m c t r _ _ (by first | rfl | (dsimp only; omega))) (by omega)).trans ?_
    exact (window_low _ _ _ _ _ _ _ (by omega)).trans ((copy_high _ _ _ _ _ _ _).trans (copy_end m c t y r _ h1 (by omega)))
  case piece5 =>
    obtain ⟨r, l, hz, e1, e2⟩ := parts128 z
    rw [e1] at h1
    rw [e2] at h2
    rw [hz]
    refine (sel0_copy_at (iblk m c 4 t) (iblk m c 5 t) r _ _ l).trans ?_
    refine (mixed_at m c t r l (2048 + (512 + l.val)) (2304 + (512 + l.val)) (512 + l.val) _ _ (sel_at m c t r _ _ (by first | rfl | (dsimp only; omega))) (sel_at m c t r _ _ (by first | rfl | (dsimp only; omega))) (by omega)).trans ?_
    exact (row_mid _ _ _ _ _ _ _ (by omega) (by omega)).trans ((copy_low _ _ _ _ _ _ _ (by omega)).trans (copy_end m c t y r _ h1 (by omega)))

end Cert.Proof.NsaProject

end
-- ==== Proof.NsaProjectReference.lean ====
/-
  The specification of the projection before the attention, read at one entry: its angles, its columns, its heads turned.
-/
module

public import proofs.«01_k».proof.Proof.NsaProjectAlgebra
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

theorem ref_angle (q : Fin 8192) (k : Fin 32) : val_main_v12 (F := Ideal) (ix2 q k) = angle q.val k.val := by
  unfold angle
  rw [← word q.val (by omega), ← word k.val (by omega)]
  pointwise [val_main_v12, val_main_v11, val_main_v10, val_main_v9, val_main_v8, val_main_v7, val_main_v6, val_main_v5, val_main_v4, val_main_v3, val_main_v2, val_main_v1, val_main_v0, val_main_cst, val_main_cst_0]

theorem ref_cos (q : Fin 8192) (k : Fin 32) : val_main_v14 (F := Ideal) (ix3 q 0 k) = Ideal.cos (angle q.val k.val) := by
  rw [← ref_angle]
  pointwise [val_main_v14, val_main_v13]

theorem ref_sin (q : Fin 8192) (k : Fin 32) : val_main_v16 (F := Ideal) (ix3 q 0 k) = Ideal.sin (angle q.val k.val) := by
  rw [← ref_angle]
  pointwise [val_main_v16, val_main_v15]

variable (x : FVec Ideal S2x8192x1024 .f32) (sh sc : FVec Ideal S2x1x1024 .f32) (w : FVec Ideal S1024x2608 .f32)

theorem ref_entry (p : Fin 2) (q : Fin 8192) (n : Fin 2608) :
    val_main_v23 (F := Ideal) x sh sc w (ix3 p q n) = entry x sh sc w p q n.val := by
  unfold entry column modulated
  simp only [col, dif_pos n.isLt]
  pointwise [val_main_v23, val_main_v22, val_main_v21, val_main_v20, val_main_v19, val_main_v18, val_main_v17, val_main_cst_1]

theorem ref_heads (p : Fin 2) (q : Fin 8192) (h : Fin 16) (l : Fin 64) :
    val_main_v25 (F := Ideal) x sh sc w (ix4 p q h l) = entry x sh sc w p q (h.val * 64 + l.val) := by
  rw [← ref_entry x sh sc w p q ⟨h.val * 64 + l.val, by omega⟩]
  pointwise [val_main_v25, val_main_v24]

theorem ref_parts (p : Fin 2) (q : Fin 8192) (a : Fin 6) (h : Fin 4) (l : Fin 64) :
    val_main_v46 (F := Ideal) x sh sc w (ix5 p q a h l) = entry x sh sc w p q (1024 + (a.val * 256 + h.val * 64 + l.val)) := by
  rw [← ref_entry x sh sc w p q ⟨1024 + (a.val * 256 + h.val * 64 + l.val), by omega⟩]
  pointwise [val_main_v46, val_main_v45]

end Cert.Proof.NsaProject.Reference

end
-- ==== Proof.NsaProjectReferenceFlat.lean ====
/-
  The flat results of the specification of the projection in terms of its planes and heads, and its gates.
-/
module

public import proofs.«01_k».proof.Proof.NsaProjectReference
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

variable (x : FVec Ideal S2x8192x1024 .f32) (sh sc : FVec Ideal S2x1x1024 .f32) (w : FVec Ideal S1024x2608 .f32)

theorem flat_v117 (p : Fin 2) (q : Fin 8192) (a : Fin 4) (h : Fin 4) (l : Fin 64) :
    val_main_v117 (F := Ideal) x sh sc w (ix3 p q ⟨a.val * 256 + h.val * 64 + l.val, by omega⟩) = val_main_v97 (F := Ideal) x sh sc w (ix5 p q a h l) := by
  rw [val_main_v117_apply]
  refine congrArg _ (funext fun b => ?_)
  match b with
  | ⟨0, _⟩ => exact Fin.ext (by dsimp; omega)
  | ⟨1, _⟩ => exact Fin.ext (by dsimp; omega)
  | ⟨2, _⟩ => exact Fin.ext (by dsimp; omega)
  | ⟨3, _⟩ => exact Fin.ext (by dsimp; omega)
  | ⟨4, _⟩ => exact Fin.ext (by dsimp; omega)

theorem flat_v118 (p : Fin 2) (q : Fin 8192) (a : Fin 2) (h : Fin 4) (l : Fin 64) :
    val_main_v118 (F := Ideal) x sh sc w (ix3 p q ⟨a.val * 256 + h.val * 64 + l.val, by omega⟩) = val_main_v100 (F := Ideal) x sh sc w (ix5 p q a h l) := by
  rw [val_main_v118_apply]
  refine congrArg _ (funext fun b => ?_)
  match b with
  | ⟨0, _⟩ => exact Fin.ext (by dsimp; omega)
  | ⟨1, _⟩ => exact Fin.ext (by dsimp; omega)
  | ⟨2, _⟩ => exact Fin.ext (by dsimp; omega)
  | ⟨3, _⟩ => exact Fin.ext (by dsimp; omega)
  | ⟨4, _⟩ => exact Fin.ext (by dsimp; omega)

theorem flat_v116 (p : Fin 2) (q : Fin 8192) (h : Fin 16) (l : Fin 64) :
    val_main_v116 (F := Ideal) x sh sc w (ix3 p q ⟨h.val * 64 + l.val, by omega⟩) = val_main_v42 (F := Ideal) x sh sc w (ix4 p q h l) * eighth := by
  unfold eighth
  generalize e : val_main_v42 (F := Ideal) x sh sc w = y
  pointwise [val_main_v116, val_main_v114, val_main_v44, val_main_v43, val_main_cst_2]
  rw [e]

theorem flat_v119 (p : Fin 2) (q : Fin 8192) (a : Fin 4) (h : Fin 4) (l : Fin 64) :
    val_main_v119 (F := Ideal) x sh sc w (ix3 p q ⟨a.val * 256 + h.val * 64 + l.val, by omega⟩) = val_main_v113 (F := Ideal) x sh sc w (ix5 p q a h l) := by
  generalize e : val_main_v113 (F := Ideal) x sh sc w = y
  pointwise [val_main_v119, val_main_v115]
  rw [e]

theorem ref_gate (p : Fin 2) (q : Fin 8192) (n : Fin 128) :
    val_main_v108 (F := Ideal) x sh sc w (ix3 p q n) = gateForm x sh sc w p q n.val := by
  unfold gateForm Ideal.logistic
  pointwise [val_main_v108, val_main_v107, val_main_v106, val_main_v105, val_main_v104, val_main_v103, val_main_v102, val_main_v101, val_main_c, val_main_call0_v0, val_main_cst_3, val_main_cst_4]
  refine congrArg (fun a : EReal => Ideal.div 1 (1 + Ideal.exp (-a))) ?_
  by_cases e : n.val < 48
  · rw [dif_pos e]
    exact ref_entry x sh sc w p q ⟨2560 + n.val, by omega⟩
  · rw [dif_neg e]
    unfold entry column
    have z : ∀ i, col w (2560 + n.val) i = 0 := fun i => by
      unfold col
      rw [dif_neg (by omega)]
    simp only [z, mul_zero, Finset.sum_const_zero]
    exact word 0 (by omega)|>.trans (by norm_num)

end Cert.Proof.NsaProject.Reference

end
-- ==== Proof.NsaProjectReferenceQuery.lean ====
/-
  The specification of the projection before the attention, read at one entry: its angles, its columns, its heads turned.
-/
module

public import proofs.«01_k».proof.Proof.NsaProjectReference
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

variable (x : FVec Ideal S2x8192x1024 .f32) (sh sc : FVec Ideal S2x1x1024 .f32) (w : FVec Ideal S1024x2608 .f32)

theorem ref_query (p : Fin 2) (q : Fin 8192) (h : Fin 16) (l : Fin 64) : val_main_v42 (F := Ideal) x sh sc w (ix4 p q h l)
    = turned (fun l => entry x sh sc w p q (h.val * 64 + l)) q.val l.val := by
  unfold turned
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26]
  by_cases e : l.val < 32
  · have e₁ : 32 + l.val = l.val + 32 := Nat.add_comm _ _
    rw [dif_pos e, if_pos e, ref_heads x sh sc w p q h l, ref_heads x sh sc w p q h ⟨32 + l.val, by omega⟩, ref_cos q ⟨l.val, e⟩,
      ref_sin q ⟨l.val, e⟩]
    dsimp only
    rw [e₁]
  · have e₁ : 32 + (l.val - 32) = l.val := Nat.add_sub_cancel' (Nat.le_of_not_lt e)
    rw [dif_neg e, if_neg e, ref_heads x sh sc w p q h ⟨32 + (l.val - 32), by omega⟩, ref_heads x sh sc w p q h ⟨l.val - 32, by omega⟩,
      ref_cos q ⟨l.val - 32, by omega⟩, ref_sin q ⟨l.val - 32, by omega⟩]
    dsimp only
    rw [e₁]

end Cert.Proof.NsaProject.Reference

end
-- ==== Proof.NsaProjectReferenceParts.lean ====
/-
  The specification of the projection before the attention, read at one entry: its angles, its columns, its heads turned.
-/
module

public import proofs.«01_k».proof.Proof.NsaProjectReference
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

variable (x : FVec Ideal S2x8192x1024 .f32) (sh sc : FVec Ideal S2x1x1024 .f32) (w : FVec Ideal S1024x2608 .f32)

theorem ref_part0 (p : Fin 2) (q : Fin 8192) (h : Fin 4) (l : Fin 64) :
    val_main_v90 (F := Ideal) x sh sc w (ix4 p q h l) = entry x sh sc w p q (1024 + (h.val * 64 + l.val)) := by
  have e : 1024 + (h.val * 64 + l.val) = 1024 + ((0 : Fin 6).val * 256 + h.val * 64 + l.val) := by
    show _ = 1024 + (0 * 256 + h.val * 64 + l.val)
    omega
  rw [e, ← ref_parts x sh sc w p q 0 h l]
  pointwise [val_main_v90, val_main_v89]

theorem ref_part1 (p : Fin 2) (q : Fin 8192) (h : Fin 4) (l : Fin 64) :
    val_main_v92 (F := Ideal) x sh sc w (ix4 p q h l) = entry x sh sc w p q (1280 + (h.val * 64 + l.val)) := by
  have e : 1280 + (h.val * 64 + l.val) = 1024 + ((1 : Fin 6).val * 256 + h.val * 64 + l.val) := by
    show _ = 1024 + (1 * 256 + h.val * 64 + l.val)
    omega
  rw [e, ← ref_parts x sh sc w p q 1 h l]
  pointwise [val_main_v92, val_main_v91]

theorem ref_part2 (p : Fin 2) (q : Fin 8192) (h : Fin 4) (l : Fin 64) :
    val_main_v48 (F := Ideal) x sh sc w (ix4 p q h l) = entry x sh sc w p q (1536 + (h.val * 64 + l.val)) := by
  have e : 1536 + (h.val * 64 + l.val) = 1024 + ((2 : Fin 6).val * 256 + h.val * 64 + l.val) := by
    show _ = 1024 + (2 * 256 + h.val * 64 + l.val)
    omega
  rw [e, ← ref_parts x sh sc w p q 2 h l]
  pointwise [val_main_v48, val_main_v47]

theorem ref_part3 (p : Fin 2) (q : Fin 8192) (h : Fin 4) (l : Fin 64) :
    val_main_v67 (F := Ideal) x sh sc w (ix4 p q h l) = entry x sh sc w p q (1792 + (h.val * 64 + l.val)) := by
  have e : 1792 + (h.val * 64 + l.val) = 1024 + ((3 : Fin 6).val * 256 + h.val * 64 + l.val) := by
    show _ = 1024 + (3 * 256 + h.val * 64 + l.val)
    omega
  rw [e, ← ref_parts x sh sc w p q 3 h l]
  pointwise [val_main_v67, val_main_v66]

theorem ref_part4 (p : Fin 2) (q : Fin 8192) (h : Fin 4) (l : Fin 64) :
    val_main_v69 (F := Ideal) x sh sc w (ix4 p q h l) = entry x sh sc w p q (2048 + (h.val * 64 + l.val)) := by
  have e : 2048 + (h.val * 64 + l.val) = 1024 + ((4 : Fin 6).val * 256 + h.val * 64 + l.val) := by
    show _ = 1024 + (4 * 256 + h.val * 64 + l.val)
    omega
  rw [e, ← ref_parts x sh sc w p q 4 h l]
  pointwise [val_main_v69, val_main_v68]

theorem ref_part5 (p : Fin 2) (q : Fin 8192) (h : Fin 4) (l : Fin 64) :
    val_main_v88 (F := Ideal) x sh sc w (ix4 p q h l) = entry x sh sc w p q (2304 + (h.val * 64 + l.val)) := by
  have e : 2304 + (h.val * 64 + l.val) = 1024 + ((5 : Fin 6).val * 256 + h.val * 64 + l.val) := by
    show _ = 1024 + (5 * 256 + h.val * 64 + l.val)
    omega
  rw [e, ← ref_parts x sh sc w p q 5 h l]
  pointwise [val_main_v88, val_main_v87]

end Cert.Proof.NsaProject.Reference

end
-- ==== Proof.NsaProjectReferenceTurn.lean ====
/-
  The specification of the projection before the attention, read at one entry: its angles, its columns, its heads turned.
-/
module

public import proofs.«01_k».proof.Proof.NsaProjectReferenceParts
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

variable (x : FVec Ideal S2x8192x1024 .f32) (sh sc : FVec Ideal S2x1x1024 .f32) (w : FVec Ideal S1024x2608 .f32)

theorem ref_v49 (p : Fin 2) (q : Fin 8192) (h : Fin 4) (l : Fin 32) :
    val_main_v49 (F := Ideal) x sh sc w (ix4 p q h l) = entry x sh sc w p q (1536 + (h.val * 64 + (l.val))) := by
  rw [← ref_part2 x sh sc w p q h ⟨l.val, by omega⟩, val_main_v49_apply]
  refine congrArg _ (funext fun a => ?_)
  match a with
  | ⟨0, _⟩ => rfl
  | ⟨1, _⟩ => rfl
  | ⟨2, _⟩ => rfl
  | ⟨3, _⟩ => rfl

theorem ref_v50 (p : Fin 2) (q : Fin 8192) (h : Fin 4) (l : Fin 32) :
    val_main_v50 (F := Ideal) x sh sc w (ix4 p q h l) = entry x sh sc w p q (1536 + (h.val * 64 + (32 + l.val))) := by
  rw [← ref_part2 x sh sc w p q h ⟨32 + l.val, by omega⟩, val_main_v50_apply]
  refine congrArg _ (funext fun a => ?_)
  match a with
  | ⟨0, _⟩ => rfl
  | ⟨1, _⟩ => rfl
  | ⟨2, _⟩ => rfl
  | ⟨3, _⟩ => rfl

theorem ref_chosen_front (p : Fin 2) (q : Fin 8192) (h : Fin 4) (l : Fin 32) : val_main_v57 (F := Ideal) x sh sc w (ix4 p q h l)
    = entry x sh sc w p q (1536 + (h.val * 64 + l.val)) * Ideal.cos (angle q.val l.val)
      - entry x sh sc w p q (1536 + (h.val * 64 + (32 + l.val))) * Ideal.sin (angle q.val l.val) := by
  rw [← ref_v49, ← ref_v50, ← ref_cos, ← ref_sin]
  generalize e : val_main_v49 (F := Ideal) x sh sc w = a
  generalize e' : val_main_v50 (F := Ideal) x sh sc w = b
  pointwise [val_main_v57, val_main_v56, val_main_v55, val_main_v54, val_main_v53, val_main_v52, val_main_v51]
  rw [e, e']

theorem ref_chosen_back (p : Fin 2) (q : Fin 8192) (h : Fin 4) (l : Fin 32) : val_main_v64 (F := Ideal) x sh sc w (ix4 p q h l)
    = entry x sh sc w p q (1536 + (h.val * 64 + (32 + l.val))) * Ideal.cos (angle q.val l.val)
      + entry x sh sc w p q (1536 + (h.val * 64 + l.val)) * Ideal.sin (angle q.val l.val) := by
  rw [← ref_v49, ← ref_v50, ← ref_cos, ← ref_sin]
  generalize e : val_main_v49 (F := Ideal) x sh sc w = a
  generalize e' : val_main_v50 (F := Ideal) x sh sc w = b
  pointwise [val_main_v64, val_main_v63, val_main_v62, val_main_v61, val_main_v60, val_main_v59, val_main_v58]
  rw [e, e']

theorem ref_chosen (p : Fin 2) (q : Fin 8192) (h : Fin 4) (l : Fin 64) : val_main_v65 (F := Ideal) x sh sc w (ix4 p q h l)
    = turned (fun l => entry x sh sc w p q (1536 + (h.val * 64 + l))) q.val l.val := by
  unfold turned
  pointwise [val_main_v65]
  by_cases e : l.val < 32
  · have e₁ : 32 + l.val = l.val + 32 := Nat.add_comm _ _
    rw [dif_pos e, if_pos e, ref_chosen_front x sh sc w p q h ⟨l.val, e⟩]
    dsimp only
    rw [e₁]
  · have e₁ : 32 + (l.val - 32) = l.val := Nat.add_sub_cancel' (Nat.le_of_not_lt e)
    rw [dif_neg e, if_neg e, ref_chosen_back x sh sc w p q h ⟨l.val - 32, by omega⟩]
    dsimp only
    rw [e₁]

end Cert.Proof.NsaProject.Reference

end
-- ==== Proof.NsaProjectReferenceNear.lean ====
/-
  The specification of the projection before the attention, read at one entry: its angles, its columns, its heads turned.
-/
module

public import proofs.«01_k».proof.Proof.NsaProjectReferenceParts
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

variable (x : FVec Ideal S2x8192x1024 .f32) (sh sc : FVec Ideal S2x1x1024 .f32) (w : FVec Ideal S1024x2608 .f32)

theorem ref_v70 (p : Fin 2) (q : Fin 8192) (h : Fin 4) (l : Fin 32) :
    val_main_v70 (F := Ideal) x sh sc w (ix4 p q h l) = entry x sh sc w p q (2048 + (h.val * 64 + (l.val))) := by
  rw [← ref_part4 x sh sc w p q h ⟨l.val, by omega⟩, val_main_v70_apply]
  refine congrArg _ (funext fun a => ?_)
  match a with
  | ⟨0, _⟩ => rfl
  | ⟨1, _⟩ => rfl
  | ⟨2, _⟩ => rfl
  | ⟨3, _⟩ => rfl

theorem ref_v71 (p : Fin 2) (q : Fin 8192) (h : Fin 4) (l : Fin 32) :
    val_main_v71 (F := Ideal) x sh sc w (ix4 p q h l) = entry x sh sc w p q (2048 + (h.val * 64 + (32 + l.val))) := by
  rw [← ref_part4 x sh sc w p q h ⟨32 + l.val, by omega⟩, val_main_v71_apply]
  refine congrArg _ (funext fun a => ?_)
  match a with
  | ⟨0, _⟩ => rfl
  | ⟨1, _⟩ => rfl
  | ⟨2, _⟩ => rfl
  | ⟨3, _⟩ => rfl

theorem ref_near_front (p : Fin 2) (q : Fin 8192) (h : Fin 4) (l : Fin 32) : val_main_v78 (F := Ideal) x sh sc w (ix4 p q h l)
    = entry x sh sc w p q (2048 + (h.val * 64 + l.val)) * Ideal.cos (angle q.val l.val)
      - entry x sh sc w p q (2048 + (h.val * 64 + (32 + l.val))) * Ideal.sin (angle q.val l.val) := by
  rw [← ref_v70, ← ref_v71, ← ref_cos, ← ref_sin]
  generalize e : val_main_v70 (F := Ideal) x sh sc w = a
  generalize e' : val_main_v71 (F := Ideal) x sh sc w = b
  pointwise [val_main_v78, val_main_v77, val_main_v76, val_main_v75, val_main_v74, val_main_v73, val_main_v72]
  rw [e, e']

theorem ref_near_back (p : Fin 2) (q : Fin 8192) (h : Fin 4) (l : Fin 32) : val_main_v85 (F := Ideal) x sh sc w (ix4 p q h l)
    = entry x sh sc w p q (2048 + (h.val * 64 + (32 + l.val))) * Ideal.cos (angle q.val l.val)
      + entry x sh sc w p q (2048 + (h.val * 64 + l.val)) * Ideal.sin (angle q.val l.val) := by
  rw [← ref_v70, ← ref_v71, ← ref_cos, ← ref_sin]
  generalize e : val_main_v70 (F := Ideal) x sh sc w = a
  generalize e' : val_main_v71 (F := Ideal) x sh sc w = b
  pointwise [val_main_v85, val_main_v84, val_main_v83, val_main_v82, val_main_v81, val_main_v80, val_main_v79]
  rw [e, e']

theorem ref_near (p : Fin 2) (q : Fin 8192) (h : Fin 4) (l : Fin 64) : val_main_v86 (F := Ideal) x sh sc w (ix4 p q h l)
    = turned (fun l => entry x sh sc w p q (2048 + (h.val * 64 + l))) q.val l.val := by
  unfold turned
  pointwise [val_main_v86]
  by_cases e : l.val < 32
  · have e₁ : 32 + l.val = l.val + 32 := Nat.add_comm _ _
    rw [dif_pos e, if_pos e, ref_near_front x sh sc w p q h ⟨l.val, e⟩]
    dsimp only
    rw [e₁]
  · have e₁ : 32 + (l.val - 32) = l.val := Nat.add_sub_cancel' (Nat.le_of_not_lt e)
    rw [dif_neg e, if_neg e, ref_near_back x sh sc w p q h ⟨l.val - 32, by omega⟩]
    dsimp only
    rw [e₁]

end Cert.Proof.NsaProject.Reference

end
-- ==== Proof.NsaProjectReferenceStack.lean ====
/-
  The stacks of the specification of the projection: which part of the product each plane holds.
-/
module

public import proofs.«01_k».proof.Proof.NsaProjectReferenceParts
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

theorem four_0 (y₀ y₁ y₂ y₃ : FVec Ideal S2x8192x1x4x64 .f32) (c : Shape.Concatenates [S2x8192x1x4x64, S2x8192x1x4x64, S2x8192x1x4x64, S2x8192x1x4x64] S2x8192x4x4x64 2)
    (p : Fin 2) (q : Fin 8192) (h : Fin 4) (l : Fin 64) :
    concatenate S2x8192x4x4x64 2 [⟨S2x8192x1x4x64, y₀⟩, ⟨S2x8192x1x4x64, y₁⟩, ⟨S2x8192x1x4x64, y₂⟩, ⟨S2x8192x1x4x64, y₃⟩] c (ix5 p q 0 h l) = y₀ (ix5 p q 0 h l) := by
  pointwise []

theorem four_1 (y₀ y₁ y₂ y₃ : FVec Ideal S2x8192x1x4x64 .f32) (c : Shape.Concatenates [S2x8192x1x4x64, S2x8192x1x4x64, S2x8192x1x4x64, S2x8192x1x4x64] S2x8192x4x4x64 2)
    (p : Fin 2) (q : Fin 8192) (h : Fin 4) (l : Fin 64) :
    concatenate S2x8192x4x4x64 2 [⟨S2x8192x1x4x64, y₀⟩, ⟨S2x8192x1x4x64, y₁⟩, ⟨S2x8192x1x4x64, y₂⟩, ⟨S2x8192x1x4x64, y₃⟩] c (ix5 p q 1 h l) = y₁ (ix5 p q 0 h l) := by
  pointwise []

theorem four_2 (y₀ y₁ y₂ y₃ : FVec Ideal S2x8192x1x4x64 .f32) (c : Shape.Concatenates [S2x8192x1x4x64, S2x8192x1x4x64, S2x8192x1x4x64, S2x8192x1x4x64] S2x8192x4x4x64 2)
    (p : Fin 2) (q : Fin 8192) (h : Fin 4) (l : Fin 64) :
    concatenate S2x8192x4x4x64 2 [⟨S2x8192x1x4x64, y₀⟩, ⟨S2x8192x1x4x64, y₁⟩, ⟨S2x8192x1x4x64, y₂⟩, ⟨S2x8192x1x4x64, y₃⟩] c (ix5 p q 2 h l) = y₂ (ix5 p q 0 h l) := by
  pointwise []

theorem four_3 (y₀ y₁ y₂ y₃ : FVec Ideal S2x8192x1x4x64 .f32) (c : Shape.Concatenates [S2x8192x1x4x64, S2x8192x1x4x64, S2x8192x1x4x64, S2x8192x1x4x64] S2x8192x4x4x64 2)
    (p : Fin 2) (q : Fin 8192) (h : Fin 4) (l : Fin 64) :
    concatenate S2x8192x4x4x64 2 [⟨S2x8192x1x4x64, y₀⟩, ⟨S2x8192x1x4x64, y₁⟩, ⟨S2x8192x1x4x64, y₂⟩, ⟨S2x8192x1x4x64, y₃⟩] c (ix5 p q 3 h l) = y₃ (ix5 p q 0 h l) := by
  pointwise []

theorem two_0 (y₀ y₁ : FVec Ideal S2x8192x1x4x64 .f32) (c : Shape.Concatenates [S2x8192x1x4x64, S2x8192x1x4x64] S2x8192x2x4x64 2)
    (p : Fin 2) (q : Fin 8192) (h : Fin 4) (l : Fin 64) :
    concatenate S2x8192x2x4x64 2 [⟨S2x8192x1x4x64, y₀⟩, ⟨S2x8192x1x4x64, y₁⟩] c (ix5 p q 0 h l) = y₀ (ix5 p q 0 h l) := by
  pointwise []

theorem two_1 (y₀ y₁ : FVec Ideal S2x8192x1x4x64 .f32) (c : Shape.Concatenates [S2x8192x1x4x64, S2x8192x1x4x64] S2x8192x2x4x64 2)
    (p : Fin 2) (q : Fin 8192) (h : Fin 4) (l : Fin 64) :
    concatenate S2x8192x2x4x64 2 [⟨S2x8192x1x4x64, y₀⟩, ⟨S2x8192x1x4x64, y₁⟩] c (ix5 p q 1 h l) = y₁ (ix5 p q 0 h l) := by
  pointwise []

variable (x : FVec Ideal S2x8192x1024 .f32) (sh sc : FVec Ideal S2x1x1024 .f32) (w : FVec Ideal S1024x2608 .f32)

theorem stack_v97_0 (p : Fin 2) (q : Fin 8192) (h : Fin 4) (l : Fin 64) :
    val_main_v97 (F := Ideal) x sh sc w (ix5 p q 0 h l) = val_main_v90 (F := Ideal) x sh sc w (ix4 p q h l) := by
  unfold val_main_v97
  refine (four_0 _ _ _ _ _ p q h l).trans ?_
  rw [val_main_v93_apply]
  refine congrArg _ (funext fun a => ?_)
  match a with
  | ⟨0, _⟩ => rfl
  | ⟨1, _⟩ => rfl
  | ⟨2, _⟩ => rfl
  | ⟨3, _⟩ => rfl

theorem stack_v97_1 (p : Fin 2) (q : Fin 8192) (h : Fin 4) (l : Fin 64) :
    val_main_v97 (F := Ideal) x sh sc w (ix5 p q 1 h l) = val_main_v92 (F := Ideal) x sh sc w (ix4 p q h l) := by
  unfold val_main_v97
  refine (four_1 _ _ _ _ _ p q h l).trans ?_
  rw [val_main_v94_apply]
  refine congrArg _ (funext fun a => ?_)
  match a with
  | ⟨0, _⟩ => rfl
  | ⟨1, _⟩ => rfl
  | ⟨2, _⟩ => rfl
  | ⟨3, _⟩ => rfl

theorem stack_v97_2 (p : Fin 2) (q : Fin 8192) (h : Fin 4) (l : Fin 64) :
    val_main_v97 (F := Ideal) x sh sc w (ix5 p q 2 h l) = val_main_v65 (F := Ideal) x sh sc w (ix4 p q h l) := by
  unfold val_main_v97
  refine (four_2 _ _ _ _ _ p q h l).trans ?_
  rw [val_main_v95_apply]
  refine congrArg _ (funext fun a => ?_)
  match a with
  | ⟨0, _⟩ => rfl
  | ⟨1, _⟩ => rfl
  | ⟨2, _⟩ => rfl
  | ⟨3, _⟩ => rfl

theorem stack_v97_3 (p : Fin 2) (q : Fin 8192) (h : Fin 4) (l : Fin 64) :
    val_main_v97 (F := Ideal) x sh sc w (ix5 p q 3 h l) = val_main_v67 (F := Ideal) x sh sc w (ix4 p q h l) := by
  unfold val_main_v97
  refine (four_3 _ _ _ _ _ p q h l).trans ?_
  rw [val_main_v96_apply]
  refine congrArg _ (funext fun a => ?_)
  match a with
  | ⟨0, _⟩ => rfl
  | ⟨1, _⟩ => rfl
  | ⟨2, _⟩ => rfl
  | ⟨3, _⟩ => rfl

theorem stack_v100_0 (p : Fin 2) (q : Fin 8192) (h : Fin 4) (l : Fin 64) :
    val_main_v100 (F := Ideal) x sh sc w (ix5 p q 0 h l) = val_main_v86 (F := Ideal) x sh sc w (ix4 p q h l) := by
  unfold val_main_v100
  refine (two_0 _ _ _ p q h l).trans ?_
  rw [val_main_v98_apply]
  refine congrArg _ (funext fun a => ?_)
  match a with
  | ⟨0, _⟩ => rfl
  | ⟨1, _⟩ => rfl
  | ⟨2, _⟩ => rfl
  | ⟨3, _⟩ => rfl

theorem stack_v100_1 (p : Fin 2) (q : Fin 8192) (h : Fin 4) (l : Fin 64) :
    val_main_v100 (F := Ideal) x sh sc w (ix5 p q 1 h l) = val_main_v88 (F := Ideal) x sh sc w (ix4 p q h l) := by
  unfold val_main_v100
  refine (two_1 _ _ _ p q h l).trans ?_
  rw [val_main_v99_apply]
  refine congrArg _ (funext fun a => ?_)
  match a with
  | ⟨0, _⟩ => rfl
  | ⟨1, _⟩ => rfl
  | ⟨2, _⟩ => rfl
  | ⟨3, _⟩ => rfl

theorem stack_v113_0 (p : Fin 2) (q : Fin 8192) (h : Fin 4) (l : Fin 64) :
    val_main_v113 (F := Ideal) x sh sc w (ix5 p q 0 h l) = val_main_v65 (F := Ideal) x sh sc w (ix4 p q h l) := by
  unfold val_main_v113
  refine (four_0 _ _ _ _ _ p q h l).trans ?_
  rw [val_main_v109_apply]
  refine congrArg _ (funext fun a => ?_)
  match a with
  | ⟨0, _⟩ => rfl
  | ⟨1, _⟩ => rfl
  | ⟨2, _⟩ => rfl
  | ⟨3, _⟩ => rfl

theorem stack_v113_1 (p : Fin 2) (q : Fin 8192) (h : Fin 4) (l : Fin 64) :
    val_main_v113 (F := Ideal) x sh sc w (ix5 p q 1 h l) = val_main_v67 (F := Ideal) x sh sc w (ix4 p q h l) := by
  unfold val_main_v113
  refine (four_1 _ _ _ _ _ p q h l).trans ?_
  rw [val_main_v110_apply]
  refine congrArg _ (funext fun a => ?_)
  match a with
  | ⟨0, _⟩ => rfl
  | ⟨1, _⟩ => rfl
  | ⟨2, _⟩ => rfl
  | ⟨3, _⟩ => rfl

theorem stack_v113_2 (p : Fin 2) (q : Fin 8192) (h : Fin 4) (l : Fin 64) :
    val_main_v113 (F := Ideal) x sh sc w (ix5 p q 2 h l) = val_main_v86 (F := Ideal) x sh sc w (ix4 p q h l) := by
  unfold val_main_v113
  refine (four_2 _ _ _ _ _ p q h l).trans ?_
  rw [val_main_v111_apply]
  refine congrArg _ (funext fun a => ?_)
  match a with
  | ⟨0, _⟩ => rfl
  | ⟨1, _⟩ => rfl
  | ⟨2, _⟩ => rfl
  | ⟨3, _⟩ => rfl

theorem stack_v113_3 (p : Fin 2) (q : Fin 8192) (h : Fin 4) (l : Fin 64) :
    val_main_v113 (F := Ideal) x sh sc w (ix5 p q 3 h l) = val_main_v88 (F := Ideal) x sh sc w (ix4 p q h l) := by
  unfold val_main_v113
  refine (four_3 _ _ _ _ _ p q h l).trans ?_
  rw [val_main_v112_apply]
  refine congrArg _ (funext fun a => ?_)
  match a with
  | ⟨0, _⟩ => rfl
  | ⟨1, _⟩ => rfl
  | ⟨2, _⟩ => rfl
  | ⟨3, _⟩ => rfl

end Cert.Proof.NsaProject.Reference

end
-- ==== Proof.NsaProjectReferenceResults.lean ====
/-
  The five results of the specification of the projection, each entry in closed form.
-/
module

public import proofs.«01_k».proof.Proof.NsaProjectReferenceFlat
public import proofs.«01_k».proof.Proof.NsaProjectReferenceQuery
public import proofs.«01_k».proof.Proof.NsaProjectReferenceTurn
public import proofs.«01_k».proof.Proof.NsaProjectReferenceNear
public import proofs.«01_k».proof.Proof.NsaProjectReferenceStack
public import proofs.«01_k».proof.Proof.Gen.NsaProjectReferenceIdeal.Read

@[expose] public section

set_option maxRecDepth 16384

noncomputable section

namespace Cert.Proof.NsaProject.Reference

open Idealize.ShloMosaic Cert.NsaProjectReferenceIdeal Cert.NsaProjectReferenceIdeal.Gen Cert.NsaProjectReferenceIdeal.Read
open Cert.Proof.SsdProject (column)
open Cert.Proof.Ffn (modulated)

/-- A turned head, counted by its channel. -/
theorem rotated_at (P : ℕ → EReal) (q h l : ℕ) (hl : l < 64) : rotated P q (h * 64 + l) = turned (fun k => P (h * 64 + k)) q l := by
  have e₁ : (h * 64 + l) / 64 = h := by omega
  have e₂ : (h * 64 + l) % 64 = l := by omega
  unfold rotated
  rw [e₁, e₂]

variable (x : FVec Ideal S2x8192x1024 .f32) (sh sc : FVec Ideal S2x1x1024 .f32) (w : FVec Ideal S1024x2608 .f32)

theorem result_query (p : Fin 2) (q : Fin 8192) (n : Fin 1024) : val_main_v116 (F := Ideal) x sh sc w (ix3 p q n) = queryForm x sh sc w p q n.val := by
  have e : n = ⟨n.val / 64 * 64 + n.val % 64, by omega⟩ := Fin.ext (by dsimp only; omega)
  refine (congrArg (fun k => val_main_v116 (F := Ideal) x sh sc w (ix3 p q k)) e).trans ?_
  refine (flat_v116 x sh sc w p q ⟨n.val / 64, by omega⟩ ⟨n.val % 64, by omega⟩).trans ?_
  rw [ref_query]
  rfl

theorem rows_0 (p : Fin 2) (q : Fin 8192) (h : Fin 4) (l : Fin 64) :
    val_main_v97 (F := Ideal) x sh sc w (ix5 p q 0 h l) = rowForm x sh sc w p q (0 + (h.val * 64 + l.val)) := by
  rw [stack_v97_0, ref_part0]
  unfold rowForm
  rw [if_pos (by omega)]
  exact congrArg (entry x sh sc w p q) (by omega)

theorem rows_1 (p : Fin 2) (q : Fin 8192) (h : Fin 4) (l : Fin 64) :
    val_main_v97 (F := Ideal) x sh sc w (ix5 p q 1 h l) = rowForm x sh sc w p q (256 + (h.val * 64 + l.val)) := by
  rw [stack_v97_1, ref_part1]
  unfold rowForm
  rw [if_pos (by omega)]
  exact congrArg (entry x sh sc w p q) (by omega)

theorem rows_2 (p : Fin 2) (q : Fin 8192) (h : Fin 4) (l : Fin 64) :
    val_main_v97 (F := Ideal) x sh sc w (ix5 p q 2 h l) = rowForm x sh sc w p q (512 + (h.val * 64 + l.val)) := by
  rw [stack_v97_2, ref_chosen]
  unfold rowForm
  rw [if_neg (by omega), if_pos (by omega)]
  have e : 512 + (h.val * 64 + l.val) - 512 = h.val * 64 + l.val := by omega
  rw [e, rotated_at _ _ _ _ l.isLt]

theorem rows_3 (p : Fin 2) (q : Fin 8192) (h : Fin 4) (l : Fin 64) :
    val_main_v97 (F := Ideal) x sh sc w (ix5 p q 3 h l) = rowForm x sh sc w p q (768 + (h.val * 64 + l.val)) := by
  rw [stack_v97_3, ref_part3]
  unfold rowForm
  rw [if_neg (by omega), if_neg (by omega)]
  exact congrArg (entry x sh sc w p q) (by omega)

theorem window_0 (p : Fin 2) (q : Fin 8192) (h : Fin 4) (l : Fin 64) :
    val_main_v100 (F := Ideal) x sh sc w (ix5 p q 0 h l) = windowForm x sh sc w p q (0 + (h.val * 64 + l.val)) := by
  rw [stack_v100_0, ref_near]
  unfold windowForm
  rw [if_pos (by omega)]
  have e : 0 + (h.val * 64 + l.val) = h.val * 64 + l.val := by omega
  rw [e, rotated_at _ _ _ _ l.isLt]

theorem window_1 (p : Fin 2) (q : Fin 8192) (h : Fin 4) (l : Fin 64) :
    val_main_v100 (F := Ideal) x sh sc w (ix5 p q 1 h l) = windowForm x sh sc w p q (256 + (h.val * 64 + l.val)) := by
  rw [stack_v100_1, ref_part5]
  unfold windowForm
  rw [if_neg (by omega)]
  exact congrArg (entry x sh sc w p q) (by omega)

theorem copies_0 (p : Fin 2) (q : Fin 8192) (h : Fin 4) (l : Fin 64) :
    val_main_v113 (F := Ideal) x sh sc w (ix5 p q 0 h l) = copyForm x sh sc w p q (0 + (h.val * 64 + l.val)) := by
  have e : 512 + (0 + (h.val * 64 + l.val)) = 512 + (h.val * 64 + l.val) := by omega
  rw [stack_v113_0, ← stack_v97_2, rows_2]
  unfold copyForm
  rw [if_pos (by omega), e]

theorem copies_1 (p : Fin 2) (q : Fin 8192) (h : Fin 4) (l : Fin 64) :
    val_main_v113 (F := Ideal) x sh sc w (ix5 p q 1 h l) = copyForm x sh sc w p q (256 + (h.val * 64 + l.val)) := by
  have e : 512 + (256 + (h.val * 64 + l.val)) = 768 + (h.val * 64 + l.val) := by omega
  rw [stack_v113_1, ← stack_v97_3, rows_3]
  unfold copyForm
  rw [if_pos (by omega), e]

theorem copies_2 (p : Fin 2) (q : Fin 8192) (h : Fin 4) (l : Fin 64) :
    val_main_v113 (F := Ideal) x sh sc w (ix5 p q 2 h l) = copyForm x sh sc w p q (512 + (h.val * 64 + l.val)) := by
  have e : 512 + (h.val * 64 + l.val) - 512 = 0 + (h.val * 64 + l.val) := by omega
  rw [stack_v113_2, ← stack_v100_0, window_0]
  unfold copyForm
  rw [if_neg (by omega), e]

theorem copies_3 (p : Fin 2) (q : Fin 8192) (h : Fin 4) (l : Fin 64) :
    val_main_v113 (F := Ideal) x sh sc w (ix5 p q 3 h l) = copyForm x sh sc w p q (768 + (h.val * 64 + l.val)) := by
  have e : 768 + (h.val * 64 + l.val) - 512 = 256 + (h.val * 64 + l.val) := by omega
  rw [stack_v113_3, ← stack_v100_1, window_1]
  unfold copyForm
  rw [if_neg (by omega), e]

theorem rows_all (p : Fin 2) (q : Fin 8192) (a : Fin 4) (h : Fin 4) (l : Fin 64) :
    val_main_v97 (F := Ideal) x sh sc w (ix5 p q a h l) = rowForm x sh sc w p q (a.val * 256 + (h.val * 64 + l.val)) :=
  match a with
  | ⟨0, _⟩ => (rows_0 x sh sc w p q h l).trans
      (congrArg (rowForm x sh sc w p q) (by show 0 + (h.val * 64 + l.val) = 0 * 256 + (h.val * 64 + l.val); omega))
  | ⟨1, _⟩ => (rows_1 x sh sc w p q h l).trans
      (congrArg (rowForm x sh sc w p q) (by show 256 + (h.val * 64 + l.val) = 1 * 256 + (h.val * 64 + l.val); omega))
  | ⟨2, _⟩ => (rows_2 x sh sc w p q h l).trans
      (congrArg (rowForm x sh sc w p q) (by show 512 + (h.val * 64 + l.val) = 2 * 256 + (h.val * 64 + l.val); omega))
  | ⟨3, _⟩ => (rows_3 x sh sc w p q h l).trans
      (congrArg (rowForm x sh sc w p q) (by show 768 + (h.val * 64 + l.val) = 3 * 256 + (h.val * 64 + l.val); omega))

theorem result_rows (p : Fin 2) (q : Fin 8192) (n : Fin 1024) : val_main_v117 (F := Ideal) x sh sc w (ix3 p q n) = rowForm x sh sc w p q n.val := by
  have e : n = ⟨n.val / 256 * 256 + n.val / 64 % 4 * 64 + n.val % 64, by omega⟩ := Fin.ext (by dsimp only; omega)
  refine (congrArg (fun k => val_main_v117 (F := Ideal) x sh sc w (ix3 p q k)) e).trans ?_
  refine (flat_v117 x sh sc w p q ⟨n.val / 256, by omega⟩ ⟨n.val / 64 % 4, by omega⟩ ⟨n.val % 64, by omega⟩).trans ?_
  refine (rows_all x sh sc w p q ⟨n.val / 256, by omega⟩ ⟨n.val / 64 % 4, by omega⟩ ⟨n.val % 64, by omega⟩).trans ?_
  exact congrArg (rowForm x sh sc w p q) (by dsimp only; omega)

theorem window_all (p : Fin 2) (q : Fin 8192) (a : Fin 2) (h : Fin 4) (l : Fin 64) :
    val_main_v100 (F := Ideal) x sh sc w (ix5 p q a h l) = windowForm x sh sc w p q (a.val * 256 + (h.val * 64 + l.val)) :=
  match a with
  | ⟨0, _⟩ => (window_0 x sh sc w p q h l).trans
      (congrArg (windowForm x sh sc w p q) (by show 0 + (h.val * 64 + l.val) = 0 * 256 + (h.val * 64 + l.val); omega))
  | ⟨1, _⟩ => (window_1 x sh sc w p q h l).trans
      (congrArg (windowForm x sh sc w p q) (by show 256 + (h.val * 64 + l.val) = 1 * 256 + (h.val * 64 + l.val); omega))

theorem result_window (p : Fin 2) (q : Fin 8192) (n : Fin 512) : val_main_v118 (F := Ideal) x sh sc w (ix3 p q n) = windowForm x sh sc w p q n.val := by
  have e : n = ⟨n.val / 256 * 256 + n.val / 64 % 4 * 64 + n.val % 64, by omega⟩ := Fin.ext (by dsimp only; omega)
  refine (congrArg (fun k => val_main_v118 (F := Ideal) x sh sc w (ix3 p q k)) e).trans ?_
  refine (flat_v118 x sh sc w p q ⟨n.val / 256, by omega⟩ ⟨n.val / 64 % 4, by omega⟩ ⟨n.val % 64, by omega⟩).trans ?_
  refine (window_all x sh sc w p q ⟨n.val / 256, by omega⟩ ⟨n.val / 64 % 4, by omega⟩ ⟨n.val % 64, by omega⟩).trans ?_
  exact congrArg (windowForm x sh sc w p q) (by dsimp only; omega)

theorem copies_all (p : Fin 2) (q : Fin 8192) (a : Fin 4) (h : Fin 4) (l : Fin 64) :
    val_main_v113 (F := Ideal) x sh sc w (ix5 p q a h l) = copyForm x sh sc w p q (a.val * 256 + (h.val * 64 + l.val)) :=
  match a with
  | ⟨0, _⟩ => (copies_0 x sh sc w p q h l).trans
      (congrArg (copyForm x sh sc w p q) (by show 0 + (h.val * 64 + l.val) = 0 * 256 + (h.val * 64 + l.val); omega))
  | ⟨1, _⟩ => (copies_1 x sh sc w p q h l).trans
      (congrArg (copyForm x sh sc w p q) (by show 256 + (h.val * 64 + l.val) = 1 * 256 + (h.val * 64 + l.val); omega))
  | ⟨2, _⟩ => (copies_2 x sh sc w p q h l).trans
      (congrArg (copyForm x sh sc w p q) (by show 512 + (h.val * 64 + l.val) = 2 * 256 + (h.val * 64 + l.val); omega))
  | ⟨3, _⟩ => (copies_3 x sh sc w p q h l).trans
      (congrArg (copyForm x sh sc w p q) (by show 768 + (h.val * 64 + l.val) = 3 * 256 + (h.val * 64 + l.val); omega))

theorem result_copies (p : Fin 2) (q : Fin 8192) (n : Fin 1024) : val_main_v119 (F := Ideal) x sh sc w (ix3 p q n) = copyForm x sh sc w p q n.val := by
  have e : n = ⟨n.val / 256 * 256 + n.val / 64 % 4 * 64 + n.val % 64, by omega⟩ := Fin.ext (by dsimp only; omega)
  refine (congrArg (fun k => val_main_v119 (F := Ideal) x sh sc w (ix3 p q k)) e).trans ?_
  refine (flat_v119 x sh sc w p q ⟨n.val / 256, by omega⟩ ⟨n.val / 64 % 4, by omega⟩ ⟨n.val % 64, by omega⟩).trans ?_
  refine (copies_all x sh sc w p q ⟨n.val / 256, by omega⟩ ⟨n.val / 64 % 4, by omega⟩ ⟨n.val % 64, by omega⟩).trans ?_
  exact congrArg (copyForm x sh sc w p q) (by dsimp only; omega)

end Cert.Proof.NsaProject.Reference

end
-- ==== Proof.NsaProjectEquation.lean ====
/-
  The projection before the attention and its specification, over finite numbers, end with the same five arrays.
-/
module

public import proofs.«01_k».proof.Defs
public import proofs.«01_k».proof.Proof.NsaProjectFinite
public import proofs.«01_k».proof.Proof.NsaProjectFinalQuery
public import proofs.«01_k».proof.Proof.NsaProjectFinalRow
public import proofs.«01_k».proof.Proof.NsaProjectFinalWindow
public import proofs.«01_k».proof.Proof.NsaProjectFinalCopy
public import proofs.«01_k».proof.Proof.NsaProjectReferenceResults
public import proofs.«01_k».proof.Proof.Gen.NsaProjectIdeal.Value

@[expose] public section

set_option maxRecDepth 16384

noncomputable section

namespace Cert.Proof.NsaProject

open Idealize.ShloMosaic Idealize.ShloMosaic.TcCoe Idealize.SL.Sem

section Arrays

open Cert.NsaProjectReferenceIdeal Cert.NsaProjectReferenceIdeal.Gen Cert.NsaProjectReferenceIdeal.Read Cert.Proof.NsaProject.Reference

variable (x : FVec Ideal S2x8192x1024 .f32) (sh sc : FVec Ideal S2x1x1024 .f32) (w : FVec Ideal S1024x2608 .f32)
variable (hx : ∀ j, IsReal (x j)) (hs : ∀ j, IsReal (sh j)) (hc : ∀ j, IsReal (sc j)) (hw : ∀ j, IsReal (w j))

include hx hs hc hw

theorem ref_queries : val_main_v116 (F := Ideal) x sh sc w = queryArray x sh sc w := by
  funext j
  have hj : j = ix3 (⟨(j 0).val, (j 0).isLt⟩ : Fin 2) (⟨(j 1).val, (j 1).isLt⟩ : Fin 8192) (⟨(j 2).val, (j 2).isLt⟩ : Fin 1024) := by
    blk_ext
  refine (congrArg (val_main_v116 (F := Ideal) x sh sc w) hj).trans ?_
  refine (result_query x sh sc w _ _ _).trans ?_
  exact (query_form x sh sc w hx hs hc hw (j 0) (j 1) (j 2).val (j 2).isLt).symm

theorem ref_rows : val_main_v117 (F := Ideal) x sh sc w = rowArray x sh sc w := by
  funext j
  have hj : j = ix3 (⟨(j 0).val, (j 0).isLt⟩ : Fin 2) (⟨(j 1).val, (j 1).isLt⟩ : Fin 8192) (⟨(j 2).val, (j 2).isLt⟩ : Fin 1024) := by
    blk_ext
  refine (congrArg (val_main_v117 (F := Ideal) x sh sc w) hj).trans ?_
  refine (result_rows x sh sc w _ _ _).trans ?_
  exact (row_form x sh sc w hx hs hc hw (j 0) (j 1) (j 2).val (j 2).isLt).symm

theorem ref_window : val_main_v118 (F := Ideal) x sh sc w = windowArray x sh sc w := by
  funext j
  have hj : j = ix3 (⟨(j 0).val, (j 0).isLt⟩ : Fin 2) (⟨(j 1).val, (j 1).isLt⟩ : Fin 8192) (⟨(j 2).val, (j 2).isLt⟩ : Fin 512) := by
    blk_ext
  refine (congrArg (val_main_v118 (F := Ideal) x sh sc w) hj).trans ?_
  refine (result_window x sh sc w _ _ _).trans ?_
  exact (window_form x sh sc w hx hs hc hw (j 0) (j 1) (j 2).val (j 2).isLt).symm

theorem ref_gates : val_main_v108 (F := Ideal) x sh sc w = gateArray x sh sc w := by
  funext j
  have hj : j = ix3 (⟨(j 0).val, (j 0).isLt⟩ : Fin 2) (⟨(j 1).val, (j 1).isLt⟩ : Fin 8192) (⟨(j 2).val, (j 2).isLt⟩ : Fin 128) := by
    blk_ext
  refine (congrArg (val_main_v108 (F := Ideal) x sh sc w) hj).trans ?_
  refine (ref_gate x sh sc w _ _ _).trans ?_
  exact (gate_form x sh sc w hx hs hc hw (j 0) (j 1) (j 2).val).symm

theorem ref_copies : val_main_v119 (F := Ideal) x sh sc w = copyArray x sh sc w := by
  funext j
  have hj : j = ix3 (⟨(j 0).val, (j 0).isLt⟩ : Fin 2) (⟨(j 1).val, (j 1).isLt⟩ : Fin 8192) (⟨(j 2).val, (j 2).isLt⟩ : Fin 1024) := by
    blk_ext
  refine (congrArg (val_main_v119 (F := Ideal) x sh sc w) hj).trans ?_
  refine (result_copies x sh sc w _ _ _).trans ?_
  exact (copy_form x sh sc w hx hs hc hw (j 0) (j 1) (j 2).val (j 2).isLt).symm

end Arrays

/-- The two programs, over finite numbers, end with the same result arrays and leave their arguments as they were. -/
theorem algebraic : Cert.algebraic_NsaProjectIdeal_NsaProjectReferenceIdeal_pre_finite
    (hNsaProjectIdeal := Cert.NsaProjectIdeal.Gen.facts) (hNsaProjectReferenceIdeal := Cert.NsaProjectReferenceIdeal.Gen.facts)
    (hPre_finite := facts_finite) := by
  intro m g m' g' hpre hagree
  have hf := facts_finite
  refine ⟨fun c => queryGoal m c, fun c => rowGoal m c, fun c => windowGoal m c, fun c => gateGoal m c, fun c => copyGoal m c, ?_, ?_⟩
  · exact (θ_run _ _ _).mono (fun r h c => ⟨(h c).1.trans (query_final m c), (h c).2.1.trans (row_final m c),
      (h c).2.2.1.trans (window_final m c), (h c).2.2.2.1.trans (gate_final m c), (h c).2.2.2.2.1.trans (copy_final m c),
      (h c).2.2.2.2.2⟩) (Cert.NsaProjectIdeal.Value.run_blocks m g)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.NsaProjectReferenceIdeal.Value.run m' g')
    all_goals obtain ⟨h0, h1, h2, h3⟩ := hagree c
    all_goals obtain ⟨hx, hs, hc, hw⟩ := finite_parts _ _ _ _ (hpre c)
    · rw [Cert.NsaProjectReferenceIdeal.Read.val_main_v116_eq, h0, h1, h2, h3]
      exact ref_queries _ _ _ _ hx hs hc hw
    · rw [Cert.NsaProjectReferenceIdeal.Read.val_main_v117_eq, h0, h1, h2, h3]
      exact ref_rows _ _ _ _ hx hs hc hw
    · rw [Cert.NsaProjectReferenceIdeal.Read.val_main_v118_eq, h0, h1, h2, h3]
      exact ref_window _ _ _ _ hx hs hc hw
    · rw [Cert.NsaProjectReferenceIdeal.Read.val_main_v108_eq, h0, h1, h2, h3]
      exact ref_gates _ _ _ _ hx hs hc hw
    · rw [Cert.NsaProjectReferenceIdeal.Read.val_main_v119_eq, h0, h1, h2, h3]
      exact ref_copies _ _ _ _ hx hs hc hw

end Cert.Proof.NsaProject

end
-- ==== Proof.lean ====
/-
  The certificate's claims, assembled from the modules beside it.
-/
module

public import proofs.«01_k».proof.Defs
public import proofs.«01_k».proof.Proof.FrameKernel
public import proofs.«01_k».proof.Proof.FrameKernelIdeal
public import proofs.«01_k».proof.Proof.FrameReference
public import proofs.«01_k».proof.Proof.FrameFfnReference
public import proofs.«01_k».proof.Proof.FfnEquation
public import proofs.«01_k».proof.Proof.Gen.FfnKernel.Frame
public import proofs.«01_k».proof.Proof.FrameSsdProjectReference
public import proofs.«01_k».proof.Proof.SsdProjectEquation
public import proofs.«01_k».proof.Proof.Gen.SsdProject.Frame
public import proofs.«01_k».proof.Proof.FrameSsdOutReference
public import proofs.«01_k».proof.Proof.SsdOutEquation
public import proofs.«01_k».proof.Proof.Gen.SsdOut.Frame
public import proofs.«01_k».proof.Proof.FrameNsaOutReference
public import proofs.«01_k».proof.Proof.NsaOutEquation
public import proofs.«01_k».proof.Proof.Gen.NsaOut.Frame
public import proofs.«01_k».proof.Proof.FrameFfnSampleReference
public import proofs.«01_k».proof.Proof.FfnSampleEquation
public import proofs.«01_k».proof.Proof.Gen.FfnSample.Frame
public import proofs.«01_k».proof.Proof.FrameSsdSampleReference
public import proofs.«01_k».proof.Proof.SsdSampleEquation
public import proofs.«01_k».proof.Proof.Gen.SsdSample.Frame
public import proofs.«01_k».proof.Proof.FrameNsaProjectReference
public import proofs.«01_k».proof.Proof.NsaProjectEquation
public import proofs.«01_k».proof.Proof.Gen.NsaProjectIdeal.Frame
public import proofs.«01_k».proof.Proof.Gen.NsaProject.Frame
public import Idealize.ShloMosaic.PureOps.IdealRules

@[expose] public section

noncomputable section

namespace Cert.Proof

open Idealize.ShloMosaic Idealize.SL.Sem

/-- The attention's kernel, its idealization and its reference, and likewise the three of the feed-forward sublayer, of
    the recurrent mixer's projection, of the two mixers' output sublayers, of the first two at the sample's shape and of
    the attention's projection, each run without a fault, keep their arguments and end with every counter at zero; the two constants named at the attention's idealization (the mask value
    and the value of a forced block) are minus and plus infinity there; and each of the other seven kernels computes what
    its reference does, over the ideal numbers, the last of them on finite arguments. -/
theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.SsdProject.Gen.facts, Cert.SsdProjectIdeal.Gen.facts, Cert.SsdProjectReferenceIdeal.Gen.facts,
    Cert.SsdOut.Gen.facts, Cert.SsdOutIdeal.Gen.facts, Cert.SsdOutReferenceIdeal.Gen.facts,
    Cert.NsaOut.Gen.facts, Cert.NsaOutIdeal.Gen.facts, Cert.NsaOutReferenceIdeal.Gen.facts,
    Cert.FfnSample.Gen.facts, Cert.FfnSampleIdeal.Gen.facts, Cert.FfnSampleReferenceIdeal.Gen.facts,
    Cert.SsdSample.Gen.facts, Cert.SsdSampleIdeal.Gen.facts, Cert.SsdSampleReferenceIdeal.Gen.facts,
    Cert.NsaProject.Gen.facts, Cert.NsaProjectIdeal.Gen.facts, Cert.NsaProjectReferenceIdeal.Gen.facts,
    Cert.Proof.facts_finite,
    fun m ρ _ => Cert.Proof.Kernel.frame m ρ,
    fun m ρ _ => Cert.Proof.KernelIdeal.frame m ρ,
    fun m ρ _ => Cert.Proof.ReferenceIdeal.frame m ρ,
    fun m ρ _ => Cert.FfnKernel.Gen.frame m ρ,
    fun m ρ _ => Cert.FfnKernelIdeal.Gen.frame m ρ,
    fun m ρ _ => Cert.Proof.FfnReferenceIdeal.frame m ρ,
    fun m ρ _ => Cert.SsdProject.Gen.frame m ρ,
    fun m ρ _ => Cert.SsdProjectIdeal.Gen.frame m ρ,
    fun m ρ _ => Cert.Proof.SsdProjectReferenceIdeal.frame m ρ,
    fun m ρ _ => Cert.SsdOut.Gen.frame m ρ,
    fun m ρ _ => Cert.SsdOutIdeal.Gen.frame m ρ,
    fun m ρ _ => Cert.Proof.SsdOutReferenceIdeal.frame m ρ,
    fun m ρ _ => Cert.NsaOut.Gen.frame m ρ,
    fun m ρ _ => Cert.NsaOutIdeal.Gen.frame m ρ,
    fun m ρ _ => Cert.Proof.NsaOutReferenceIdeal.frame m ρ,
    fun m ρ _ => Cert.FfnSample.Gen.frame m ρ,
    fun m ρ _ => Cert.FfnSampleIdeal.Gen.frame m ρ,
    fun m ρ _ => Cert.Proof.FfnSampleReferenceIdeal.frame m ρ,
    fun m ρ _ => Cert.SsdSample.Gen.frame m ρ,
    fun m ρ _ => Cert.SsdSampleIdeal.Gen.frame m ρ,
    fun m ρ _ => Cert.Proof.SsdSampleReferenceIdeal.frame m ρ,
    fun m ρ _ => Cert.NsaProject.Gen.frame m ρ,
    fun m ρ _ => Cert.NsaProjectIdeal.Gen.frame m ρ,
    fun m ρ _ => Cert.NsaProjectIdeal.Gen.frame m ρ,
    fun m ρ _ => Cert.Proof.NsaProjectReferenceIdeal.frame m ρ,
    fun m ρ _ => Cert.Proof.NsaProjectReferenceIdeal.frame m ρ,
    ⟨IdealRules.named_const.statement _ _ _ _ _ rfl, IdealRules.named_const.statement _ _ _ _ _ rfl⟩,
    trivial,
    Cert.Proof.Ffn.algebraic,
    trivial,
    Cert.Proof.SsdProject.algebraic,
    trivial,
    Cert.Proof.SsdOut.algebraic,
    trivial,
    Cert.Proof.NsaOut.algebraic,
    trivial,
    Cert.Proof.FfnSample.algebraic,
    trivial,
    Cert.Proof.SsdSample.algebraic,
    trivial,
    Cert.Proof.NsaProject.algebraic⟩

end Cert.Proof

end
